-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_columns [hPre_finite_columns : Cert.Pre_finite_columns.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_columns.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_columns [hPre_finite_columns : Cert.Pre_finite_columns.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_columns.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite_columns [hKernel11Ideal : Cert.Kernel11Ideal.Facts] [hPre_finite_columns : Cert.Pre_finite_columns.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_columns m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite_columns [hReference11Ideal : Cert.Reference11Ideal.Facts] [hPre_finite_columns : Cert.Pre_finite_columns.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_columns m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v26)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v26) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v11)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v11) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v48)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v48) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v49) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v51) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  IdealRules.named_const.Statement Cert.Kernel11Ideal.κ "log0" .f32 0xBD020AEC#32 ((Real.log (31 / 32) : ℝ) : EReal)
  ∧ IdealRules.named_const.Statement Cert.Kernel11Ideal.κ "log1" .f32 0xBC8102B3#32 ((Real.log (63 / 64) : ℝ) : EReal)
  ∧ IdealRules.named_const.Statement Cert.Kernel11Ideal.κ "log2" .f32 0xBC0080AC#32 ((Real.log (127 / 128) : ℝ) : EReal)
  ∧ IdealRules.named_const.Statement Cert.Kernel11Ideal.κ "log3" .f32 0xBB80402B#32 ((Real.log (255 / 256) : ℝ) : EReal)
  ∧ IdealRules.named_const.Statement Cert.Kernel11Ideal.κ "log4" .f32 0xBB00200B#32 ((Real.log (511 / 512) : ℝ) : EReal)
  ∧ IdealRules.named_const.Statement Cert.Kernel11Ideal.κ "log5" .f32 0xBA801003#32 ((Real.log (1023 / 1024) : ℝ) : EReal)
  ∧ IdealRules.named_const.Statement Cert.Kernel11Ideal.κ "log6" .f32 0xBA000801#32 ((Real.log (2047 / 2048) : ℝ) : EReal)
  ∧ IdealRules.named_const.Statement Cert.Kernel11Ideal.κ "log7" .f32 0xB9800400#32 ((Real.log (4095 / 4096) : ℝ) : EReal)
  ∧ IdealRules.named_const.Statement Cert.Kernel11Ideal.κ "pow0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.Kernel11Ideal.κ "pow1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.Kernel11Ideal.κ "pow2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.Kernel11Ideal.κ "pow3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  ∧ IdealRules.named_const.Statement Cert.Kernel11Ideal.κ "pow4" .f32 0x3F1B322A#32 ((2268560858212437164610433925711934373410582837965183998424115932072889031456775415934332958631165982217084171365658533939505628934401906064660409151362039483958284679840648367042721120317582229425251279030418832818292987838711392170461436941262761909390722105699485266572005223949970251724447769284689701216507438358815813025882298809109174153706339626450005908428456226551941838168074331527913534817745321469167246007014538572292256084915688960900068391958392077068485455993514961701480858639654936648349583570824852556419356611498493528242253710534570980455697219242920022717462415340389291846170475473292031866551657954709245694201252631734461050733432357052374907386272875143352917669314561 / 3742053650892133432367999773538322459225928823527575869347258443714776254479140165467924450143929014376701328043796892084250680644651644268919891406030558009514559848402392186697349032657288467726728117428485865736692545611669179323917560467904459270003565249200768855069969069462910188335948939853235385655600614050799627402904169955617680686939217306230732743306013312855692685442723231659949822010462888578091073832552856131420378840703853686445535243055462767679945780563431553986820134725467051353840270015201262955847832589866641019681571016376279703475133297517542073557917754709550486937454822846451632280550418910946262563991699255138480187856382366661603621981981643212128456085078016 : ℝ) : EReal)
  ∧ IdealRules.named_const.Statement Cert.Kernel11Ideal.κ "pow5" .f32 0x3F475941#32 ((337413325564862239829610804928086933447240624148564312320119597592679839403487791267665388642378988857166811881886615610903735512386530606675784621900115357739141415528218198504857866110789077872469367254629204505150137588880451017301164305113323386844473495852085330340154288874389305164173754807611033561110780084819027640552143993625052734044496551648453411116199448793072157444460210849146970877733016141486801970954679177492885104144776642486135467458438925512340025454736897082062523929258652017781506753483735621598127157820627264606547049520878488333322867294030154779287575939778503295541836721550945990196769803301139613659860258224955069565810259728492587379568098367034380814279745525053775389467085605347823566489644677320545087024435711576643684472144527361 / 433300210274926779301235722995130529126851924312253566276831366547097655953268278873591999368453759375352459120642109169274240110620843517970102311224458427564046616227161115801662152359395451958893835480905010246703239443701925453743683726938789767940577524555724362397039358587448248740993955708382317083531851133758531532844694304737183093418571190053292997716413815714417740434254315670267335553209606545389900958653541702218767662872949109999460596999125719155768466778443229719919179735890978537026576050107500869340314188887101095263339865901080787145771915722368720844521851040375582291274824574444462419841916186875058374404329003250698574832235855871168399140082282900718430116575617097058691735266917705341386171618452673063526784039252631042036988932549246976 : ℝ) : EReal)
  ∧ IdealRules.named_const.Statement Cert.Kernel11Ideal.κ "pow6" .f32 0x3F61E98D#32 ((44275933001788723009087189004406629456185558207332747867642712943151554828468488377533272736418712189278782616161047210929315370508778247758052201719962879660055865696879094863129463372703274884572552420946222213909778378366961041416140341416293514822078426833460711263743283496670773031329350821423162437403679977307148303735076944714526688715579927904995556456488103602634822359829952521232926542320071149931856266817933423703432269042442636032858580050472077676460779471534683163731067775864671927973547035866560192878885873974778802745285399431976029747635377890080788011101117707583578382474146313505569053749097953659852933537062042116297383553651152865866999804689119520382292842101610389821960529978895733465869012223134947820230783957872234774758446564646736680947103568594529505412600577259071717085423168472314596399008611595402721361921 / 50172736614702193476010968685027850385725009984025754056752351897843540836727791310381960450640875187526127726743042077209009344297825833306791007079122302230257203282437017967319010464223403411666028891130176909178099340433873790449696141722887908379766592991480784511678588901194608305160012368897433073139024954535368556203311682248348132318295329821383241290835531777849305693041041567149516614437907351900261582473684954345924071473123034130274134722954297790455372889453739340801985909201900859696589364708551884000815765385640619922267443118020140789791084738002770787452810244806002844531297159666640599398253866669734555265873912487067788750536758461265538846803163989987905143549491955559219046972218912619029970610724339486044100503651037465691797221960390994444244006704352888836634150488713713548412324761281525404083023713782816833536 : ℝ) : EReal)
  ∧ IdealRules.named_const.Statement Cert.Kernel11Ideal.κ "pow7" .f32 0x3F707CE8#32 ((5457578116896234373030737050452871284503562312287257236323214801751651385767181166262045935084362047640066968508555065439951956828835114042263162471483867696507228786363824495157666995393161444816858802235986693092622421998449934383727349815275774824537430970136290747635382107000611400619314796941200044495037341337739958339767278633581981851381635814001234288720867746515647816205768561016152260853314839726158393455210831329203668369049204017829829231628961380152267663391523655643318692802859432466701375795096617133552303949487394943235439176500258458335258290073276466529400450470673837760073612535465583335327929430972640850246512426587841378155056826710368861273277181943917100220100509703205853547765206963727872532801586378083550670524229871882211418628608409306047472309356393387983960726059074560461678332168608035217511070201043245241749670516273992104254204325815142393764356487650957205914892256259918212890625 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)

def algebraic_Kernel11Ideal_Reference11Ideal_pre_finite_columns [hKernel11Ideal : Cert.Kernel11Ideal.Facts] [hReference11Ideal : Cert.Reference11Ideal.Facts] [hPre_finite_columns : Cert.Pre_finite_columns.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_columns m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v39)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v39) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v84) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v32_0)) (v1 : (c : Dev Cert.Kernel13Ideal.nD) → Buf (Elt Ideal) ((c.tc : Thread Cert.Kernel13Ideal.nD Cert.Kernel13Ideal.τ).loc Cert.Kernel13Ideal.main_v32_1)) (v2 : (c : Dev Cert.Kernel13Ideal.nD) → Buf (Elt Ideal) ((c.tc : Thread Cert.Kernel13Ideal.nD Cert.Kernel13Ideal.τ).loc Cert.Kernel13Ideal.main_v32_2)) (v3 : (c : Dev Cert.Kernel13Ideal.nD) → Buf (Elt Ideal) ((c.tc : Thread Cert.Kernel13Ideal.nD Cert.Kernel13Ideal.τ).loc Cert.Kernel13Ideal.main_v32_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v32_0) = v0 c
          ∧ r.2.mem ((c.tc : Thread Cert.Kernel13Ideal.nD Cert.Kernel13Ideal.τ).loc Cert.Kernel13Ideal.main_v32_1) = v1 c
          ∧ r.2.mem ((c.tc : Thread Cert.Kernel13Ideal.nD Cert.Kernel13Ideal.τ).loc Cert.Kernel13Ideal.main_v32_2) = v2 c
          ∧ r.2.mem ((c.tc : Thread Cert.Kernel13Ideal.nD Cert.Kernel13Ideal.τ).loc Cert.Kernel13Ideal.main_v32_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v20) = v0 c
          ∧ r.2.mem ((c.tc : Thread Cert.Reference13Ideal.nD Cert.Reference13Ideal.τ).loc Cert.Reference13Ideal.main_v22) = v1 c
          ∧ r.2.mem ((c.tc : Thread Cert.Reference13Ideal.nD Cert.Reference13Ideal.τ).loc Cert.Reference13Ideal.main_v35) = v2 c
          ∧ r.2.mem ((c.tc : Thread Cert.Reference13Ideal.nD Cert.Reference13Ideal.τ).loc Cert.Reference13Ideal.main_v37) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts) (hPre_finite_columns : Cert.Pre_finite_columns.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_columns (hKernel11Ideal := hKernel11Ideal) (hPre_finite_columns := hPre_finite_columns)
    ∧ quiescent_Reference11Ideal (hReference11Ideal := hReference11Ideal)
    ∧ quiescent_Reference11Ideal_pre_finite_columns (hReference11Ideal := hReference11Ideal) (hPre_finite_columns := hPre_finite_columns)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_columns (hKernel11Ideal := hKernel11Ideal) (hReference11Ideal := hReference11Ideal) (hPre_finite_columns := hPre_finite_columns)
    ∧ preserves_Kernel13_Kernel13Ideal
    ∧ algebraic_Kernel13Ideal_Reference13Ideal (hKernel13Ideal := hKernel13Ideal) (hReference13Ideal := hReference13Ideal)
-- ==== Pre_finite_columns.lean ====
abbrev S4x8192x1536 : Shape := ⟨3, ![4, 8192, 1536]⟩
abbrev S4x8192x16 : Shape := ⟨3, ![4, 8192, 16]⟩
abbrev S512 : Shape := ⟨1, ![512]⟩
abbrev S4x8192x1024 : Shape := ⟨3, ![4, 8192, 1024]⟩
abbrev S4x8192x1056 : Shape := ⟨3, ![4, 8192, 1056]⟩
abbrev S_ : Shape := ⟨0, ![]⟩

class Facts : Prop where
  slices_S4x8192x1536_S4x8192x1024_0_0_0 : S4x8192x1536.Slices ![0, 0, 0] S4x8192x1024
  concatenates_S4x8192x1024_S4x8192x16_S4x8192x16_S4x8192x1056_d2 : Shape.Concatenates [S4x8192x1024, S4x8192x16, S4x8192x16] S4x8192x1056 2
  bcast_S_S4x8192x1056 : S_.BroadcastsInDim S4x8192x1056 (![] : Fin 0 → Fin S4x8192x1056.rank)

variable [Facts]

def fn {F : FTy → Type} [FloatOps F] (main_arg0 : FVec F S4x8192x1536 .f32) (main_arg1 : FVec F S4x8192x16 .f32) (main_arg2 : FVec F S4x8192x16 .f32) (main_arg3 : FVec F S512 .f32) : IVec S4x8192x1056 1 :=
  let main_v0 : FVec F S4x8192x1024 .f32 := (extractStridedSlice S4x8192x1024 ![0, 0, 0] · slices_S4x8192x1536_S4x8192x1024_0_0_0) main_arg0
  let main_v1 : FVec F S4x8192x1056 .f32 := concatenate S4x8192x1056 2 [⟨S4x8192x1024, main_v0⟩, ⟨S4x8192x16, main_arg1⟩, ⟨S4x8192x16, main_arg2⟩] concatenates_S4x8192x1024_S4x8192x16_S4x8192x16_S4x8192x1056_d2
  let main_v2 : FVec F S4x8192x1056 .f32 := Host.absf main_v1
  let main_cst : FVec F S_ .f32 := constant S_ .f32 0x7F800000#32
  let main_v3 : FVec F S4x8192x1056 .f32 := broadcastInDim S4x8192x1056 ![] bcast_S_S4x8192x1056 main_cst
  let main_v4 : IVec S4x8192x1056 1 := cmpf .olt main_v2 main_v3
  main_v4
-- ==== Kernel.lean ====
abbrev S4x8192x1024 : Shape := ⟨3, ![4, 8192, 1024]⟩
abbrev S4x8192x512 : Shape := ⟨3, ![4, 8192, 512]⟩
abbrev S4x8192x128 : Shape := ⟨3, ![4, 8192, 128]⟩
abbrev S4x8192x256 : Shape := ⟨3, ![4, 8192, 256]⟩
abbrev S4x256x8192 : Shape := ⟨3, ![4, 256, 8192]⟩
abbrev S1x128x1024 : Shape := ⟨3, ![1, 128, 1024]⟩
abbrev S1x128x512 : Shape := ⟨3, ![1, 128, 512]⟩
abbrev S1x128x128 : Shape := ⟨3, ![1, 128, 128]⟩
abbrev S1x8192x256 : Shape := ⟨3, ![1, 8192, 256]⟩
abbrev S1x8192x128 : Shape := ⟨3, ![1, 8192, 128]⟩
abbrev S1x256x8192 : Shape := ⟨3, ![1, 256, 8192]⟩
abbrev S16x512x128 : Shape := ⟨3, ![16, 512, 128]⟩
abbrev S32x32x8x128 : Shape := ⟨4, ![32, 32, 8, 128]⟩
abbrev S32x8x128 : Shape := ⟨3, ![32, 8, 128]⟩
abbrev S128x512 : Shape := ⟨2, ![128, 512]⟩
abbrev S128x128 : Shape := ⟨2, ![128, 128]⟩
abbrev S512x128 : Shape := ⟨2, ![512, 128]⟩
abbrev S1x128 : Shape := ⟨2, ![1, 128]⟩
abbrev S1x512 : Shape := ⟨2, ![1, 512]⟩
abbrev S1x512x128 : Shape := ⟨3, ![1, 512, 128]⟩
abbrev S512x512 : Shape := ⟨2, ![512, 512]⟩
abbrev S8x128 : Shape := ⟨2, ![8, 128]⟩
abbrev S1x1x8x128 : Shape := ⟨4, ![1, 1, 8, 128]⟩
abbrev S1x8x128 : Shape := ⟨3, ![1, 8, 128]⟩
abbrev S1x32x8x128 : Shape := ⟨4, ![1, 32, 8, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S128x1024 : Shape := ⟨2, ![128, 1024]⟩
abbrev S512 : Shape := ⟨1, ![512]⟩
abbrev S64x512 : Shape := ⟨2, ![64, 512]⟩
abbrev S64x128 : Shape := ⟨2, ![64, 128]⟩

abbrev nBuf : Space → Nat
  | .hbm => 7
  | .vmem => 17
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x512, .bf16⟩
  | .hbm, ⟨2, _⟩ => ⟨S4x8192x128, .f32⟩
  | .hbm, ⟨3, _⟩ => ⟨S4x8192x256, .bf16⟩
  | .hbm, ⟨4, _⟩ => ⟨S4x8192x128, .bf16⟩
  | .hbm, ⟨5, _⟩ => ⟨S4x256x8192, .bf16⟩
  | .hbm, ⟨6, _⟩ => ⟨S4x8192x512, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x128, .f32⟩
  | .local _ .vmem, ⟨5, _⟩ => ⟨S1x128x128, .f32⟩
  | .local _ .vmem, ⟨6, _⟩ => ⟨S1x8192x256, .bf16⟩
  | .local _ .vmem, ⟨7, _⟩ => ⟨S1x8192x256, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x256x8192, .bf16⟩
  | .local _ .vmem, ⟨11, _⟩ => ⟨S1x256x8192, .bf16⟩
  | .local _ .vmem, ⟨12, _⟩ => ⟨S1x128x512, .bf16⟩
  | .local _ .vmem, ⟨13, _⟩ => ⟨S1x128x512, .bf16⟩
  | .local _ .vmem, ⟨14, _⟩ => ⟨S16x512x128, .i32⟩
  | .local _ .vmem, ⟨15, _⟩ => ⟨S32x32x8x128, .i32⟩
  | .local _ .vmem, ⟨16, _⟩ => ⟨S32x8x128, .i32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![4, 64], ![false, false]⟩

@[reducible] def k0_t1_loop (i : grid0.Coords) : Scf.Loop 32 :=
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_18 : BitVec 32 := 1#32
  ⟨c0_i32_16, v48, c1_i32_18⟩
def k0_mult1 (i : grid0.Coords) (k0_t1 : Fin (k0_t1_loop i).trips) : BitVec 32 :=
  let c0_i32_16 : BitVec 32 := 0#32
  let c1_i32_18 : BitVec 32 := 1#32
  let arg12 : BitVec 32 := Scf.iv c0_i32_16 c1_i32_18 k0_t1
  let c512_i32_195 : BitVec 32 := 512#32
  let v445 : BitVec 32 := Scalar.muli arg12 c512_i32_195
  v445
def k0_off1 (i : grid0.Coords) (k0_t1 : Fin (k0_t1_loop i).trips) : Fin 3 → Nat :=
  let c0_196 : Index := 0#32
  let c0_i32_16 : BitVec 32 := 0#32
  let c1_i32_18 : BitVec 32 := 1#32
  let arg12 : BitVec 32 := Scf.iv c0_i32_16 c1_i32_18 k0_t1
  let c512_i32_195 : BitVec 32 := 512#32
  let v445 : BitVec 32 := Scalar.muli arg12 c512_i32_195
  let v446 : BitVec 32 := v445
  let v447 : Index := Scalar.indexCast v446
  let c0_197 : Index := 0#32
  ![0, v447.toNat, 0]
def k0_off2 (i : grid0.Coords) (k0_t1 : Fin (k0_t1_loop i).trips) : Fin 3 → Nat :=
  let c0_i32_16 : BitVec 32 := 0#32
  let c1_i32_18 : BitVec 32 := 1#32
  let arg12 : BitVec 32 := Scf.iv c0_i32_16 c1_i32_18 k0_t1
  let v478 : Index := Scalar.indexCast arg12
  let c0_205 : Index := 0#32
  let c0_206 : Index := 0#32
  ![v478.toNat, 0, 0]
def k0_off3 (i : grid0.Coords) (k0_t1 : Fin (k0_t1_loop i).trips) (c0_i32_444 : BitVec 32) : Fin 4 → Nat :=
  let c0_445 : Index := 0#32
  let c0_i32_16 : BitVec 32 := 0#32
  let c1_i32_18 : BitVec 32 := 1#32
  let arg12 : BitVec 32 := Scf.iv c0_i32_16 c1_i32_18 k0_t1
  let c2_i32_443 : BitVec 32 := 2#32
  let v1236 : BitVec 32 := Scalar.muli arg12 c2_i32_443
  let v1237 : BitVec 32 := Scalar.addi v1236 c0_i32_444
  let v1238 : Index := Scalar.indexCast v1237
  let c0_446 : Index := 0#32
  let c0_447 : Index := 0#32
  ![0, v1238.toNat, 0, 0]
def k0_off4 (i : grid0.Coords) (k0_t1 : Fin (k0_t1_loop i).trips) (c0_i32_449 : BitVec 32) : Fin 4 → Nat :=
  let c1_450 : Index := 1#32
  let c0_i32_16 : BitVec 32 := 0#32
  let c1_i32_18 : BitVec 32 := 1#32
  let arg12 : BitVec 32 := Scf.iv c0_i32_16 c1_i32_18 k0_t1
  let c2_i32_448 : BitVec 32 := 2#32
  let v1242 : BitVec 32 := Scalar.muli arg12 c2_i32_448
  let v1243 : BitVec 32 := Scalar.addi v1242 c0_i32_449
  let v1244 : Index := Scalar.indexCast v1243
  let c0_451 : Index := 0#32
  let c0_452 : Index := 0#32
  ![1, v1244.toNat, 0, 0]
def k0_off5 (i : grid0.Coords) (k0_t1 : Fin (k0_t1_loop i).trips) (c0_i32_454 : BitVec 32) : Fin 4 → Nat :=
  let c2_455 : Index := 2#32
  let c0_i32_16 : BitVec 32 := 0#32
  let c1_i32_18 : BitVec 32 := 1#32
  let arg12 : BitVec 32 := Scf.iv c0_i32_16 c1_i32_18 k0_t1
  let c2_i32_453 : BitVec 32 := 2#32
  let v1248 : BitVec 32 := Scalar.muli arg12 c2_i32_453
  let v1249 : BitVec 32 := Scalar.addi v1248 c0_i32_454
  let v1250 : Index := Scalar.indexCast v1249
  let c0_456 : Index := 0#32
  let c0_457 : Index := 0#32
  ![2, v1250.toNat, 0, 0]
def k0_off6 (i : grid0.Coords) (k0_t1 : Fin (k0_t1_loop i).trips) (c0_i32_459 : BitVec 32) : Fin 4 → Nat :=
  let c3_460 : Index := 3#32
  let c0_i32_16 : BitVec 32 := 0#32
  let c1_i32_18 : BitVec 32 := 1#32
  let arg12 : BitVec 32 := Scf.iv c0_i32_16 c1_i32_18 k0_t1
  let c2_i32_458 : BitVec 32 := 2#32
  let v1254 : BitVec 32 := Scalar.muli arg12 c2_i32_458
  let v1255 : BitVec 32 := Scalar.addi v1254 c0_i32_459
  let v1256 : Index := Scalar.indexCast v1255
  let c0_461 : Index := 0#32
  let c0_462 : Index := 0#32
  ![3, v1256.toNat, 0, 0]
def k0_off7 (i : grid0.Coords) (k0_t1 : Fin (k0_t1_loop i).trips) (c0_i32_464 : BitVec 32) : Fin 4 → Nat :=
  let c4_465 : Index := 4#32
  let c0_i32_16 : BitVec 32 := 0#32
  let c1_i32_18 : BitVec 32 := 1#32
  let arg12 : BitVec 32 := Scf.iv c0_i32_16 c1_i32_18 k0_t1
  let c2_i32_463 : BitVec 32 := 2#32
  let v1260 : BitVec 32 := Scalar.muli arg12 c2_i32_463
  let v1261 : BitVec 32 := Scalar.addi v1260 c0_i32_464
  let v1262 : Index := Scalar.indexCast v1261
  let c0_466 : Index := 0#32
  let c0_467 : Index := 0#32
  ![4, v1262.toNat, 0, 0]
def k0_off8 (i : grid0.Coords) (k0_t1 : Fin (k0_t1_loop i).trips) (c0_i32_469 : BitVec 32) : Fin 4 → Nat :=
  let c5_470 : Index := 5#32
  let c0_i32_16 : BitVec 32 := 0#32
  let c1_i32_18 : BitVec 32 := 1#32
  let arg12 : BitVec 32 := Scf.iv c0_i32_16 c1_i32_18 k0_t1
  let c2_i32_468 : BitVec 32 := 2#32
  let v1266 : BitVec 32 := Scalar.muli arg12 c2_i32_468
  let v1267 : BitVec 32 := Scalar.addi v1266 c0_i32_469
  let v1268 : Index := Scalar.indexCast v1267
  let c0_471 : Index := 0#32
  let c0_472 : Index := 0#32
  ![5, v1268.toNat, 0, 0]
def k0_off9 (i : grid0.Coords) (k0_t1 : Fin (k0_t1_loop i).trips) (c0_i32_474 : BitVec 32) : Fin 4 → Nat :=
  let c6_475 : Index := 6#32
  let c0_i32_16 : BitVec 32 := 0#32
  let c1_i32_18 : BitVec 32 := 1#32
  let arg12 : BitVec 32 := Scf.iv c0_i32_16 c1_i32_18 k0_t1
  let c2_i32_473 : BitVec 32 := 2#32
  let v1272 : BitVec 32 := Scalar.muli arg12 c2_i32_473
  let v1273 : BitVec 32 := Scalar.addi v1272 c0_i32_474
  let v1274 : Index := Scalar.indexCast v1273
  let c0_476 : Index := 0#32
  let c0_477 : Index := 0#32
  ![6, v1274.toNat, 0, 0]
def k0_off10 (i : grid0.Coords) (k0_t1 : Fin (k0_t1_loop i).trips) (c0_i32_479 : BitVec 32) : Fin 4 → Nat :=
  let c7_480 : Index := 7#32
  let c0_i32_16 : BitVec 32 := 0#32
  let c1_i32_18 : BitVec 32 := 1#32
  let arg12 : BitVec 32 := Scf.iv c0_i32_16 c1_i32_18 k0_t1
  let c2_i32_478 : BitVec 32 := 2#32
  let v1278 : BitVec 32 := Scalar.muli arg12 c2_i32_478
  let v1279 : BitVec 32 := Scalar.addi v1278 c0_i32_479
  let v1280 : Index := Scalar.indexCast v1279
  let c0_481 : Index := 0#32
  let c0_482 : Index := 0#32
  ![7, v1280.toNat, 0, 0]
def k0_off11 (i : grid0.Coords) (k0_t1 : Fin (k0_t1_loop i).trips) (c0_i32_484 : BitVec 32) : Fin 4 → Nat :=
  let c8_485 : Index := 8#32
  let c0_i32_16 : BitVec 32 := 0#32
  let c1_i32_18 : BitVec 32 := 1#32
  let arg12 : BitVec 32 := Scf.iv c0_i32_16 c1_i32_18 k0_t1
  let c2_i32_483 : BitVec 32 := 2#32
  let v1284 : BitVec 32 := Scalar.muli arg12 c2_i32_483
  let v1285 : BitVec 32 := Scalar.addi v1284 c0_i32_484
  let v1286 : Index := Scalar.indexCast v1285
  let c0_486 : Index := 0#32
  let c0_487 : Index := 0#32
  ![8, v1286.toNat, 0, 0]
def k0_off12 (i : grid0.Coords) (k0_t1 : Fin (k0_t1_loop i).trips) (c0_i32_489 : BitVec 32) : Fin 4 → Nat :=
  let c9_490 : Index := 9#32
  let c0_i32_16 : BitVec 32 := 0#32
  let c1_i32_18 : BitVec 32 := 1#32
  let arg12 : BitVec 32 := Scf.iv c0_i32_16 c1_i32_18 k0_t1
  let c2_i32_488 : BitVec 32 := 2#32
  let v1290 : BitVec 32 := Scalar.muli arg12 c2_i32_488
  let v1291 : BitVec 32 := Scalar.addi v1290 c0_i32_489
  let v1292 : Index := Scalar.indexCast v1291
  let c0_491 : Index := 0#32
  let c0_492 : Index := 0#32
  ![9, v1292.toNat, 0, 0]
def k0_off13 (i : grid0.Coords) (k0_t1 : Fin (k0_t1_loop i).trips) (c0_i32_494 : BitVec 32) : Fin 4 → Nat :=
  let c10_495 : Index := 10#32
  let c0_i32_16 : BitVec 32 := 0#32
  let c1_i32_18 : BitVec 32 := 1#32
  let arg12 : BitVec 32 := Scf.iv c0_i32_16 c1_i32_18 k0_t1
  let c2_i32_493 : BitVec 32 := 2#32
  let v1296 : BitVec 32 := Scalar.muli arg12 c2_i32_493
  let v1297 : BitVec 32 := Scalar.addi v1296 c0_i32_494
  let v1298 : Index := Scalar.indexCast v1297
  let c0_496 : Index := 0#32
  let c0_497 : Index := 0#32
  ![10, v1298.toNat, 0, 0]
def k0_off14 (i : grid0.Coords) (k0_t1 : Fin (k0_t1_loop i).trips) (c0_i32_499 : BitVec 32) : Fin 4 → Nat :=
  let c11_500 : Index := 11#32
  let c0_i32_16 : BitVec 32 := 0#32
  let c1_i32_18 : BitVec 32 := 1#32
  let arg12 : BitVec 32 := Scf.iv c0_i32_16 c1_i32_18 k0_t1
  let c2_i32_498 : BitVec 32 := 2#32
  let v1302 : BitVec 32 := Scalar.muli arg12 c2_i32_498
  let v1303 : BitVec 32 := Scalar.addi v1302 c0_i32_499
  let v1304 : Index := Scalar.indexCast v1303
  let c0_501 : Index := 0#32
  let c0_502 : Index := 0#32
  ![11, v1304.toNat, 0, 0]
def k0_off15 (i : grid0.Coords) (k0_t1 : Fin (k0_t1_loop i).trips) (c0_i32_504 : BitVec 32) : Fin 4 → Nat :=
  let c12_505 : Index := 12#32
  let c0_i32_16 : BitVec 32 := 0#32
  let c1_i32_18 : BitVec 32 := 1#32
  let arg12 : BitVec 32 := Scf.iv c0_i32_16 c1_i32_18 k0_t1
  let c2_i32_503 : BitVec 32 := 2#32
  let v1308 : BitVec 32 := Scalar.muli arg12 c2_i32_503
  let v1309 : BitVec 32 := Scalar.addi v1308 c0_i32_504
  let v1310 : Index := Scalar.indexCast v1309
  let c0_506 : Index := 0#32
  let c0_507 : Index := 0#32
  ![12, v1310.toNat, 0, 0]
def k0_off16 (i : grid0.Coords) (k0_t1 : Fin (k0_t1_loop i).trips) (c0_i32_509 : BitVec 32) : Fin 4 → Nat :=
  let c13_510 : Index := 13#32
  let c0_i32_16 : BitVec 32 := 0#32
  let c1_i32_18 : BitVec 32 := 1#32
  let arg12 : BitVec 32 := Scf.iv c0_i32_16 c1_i32_18 k0_t1
  let c2_i32_508 : BitVec 32 := 2#32
  let v1314 : BitVec 32 := Scalar.muli arg12 c2_i32_508
  let v1315 : BitVec 32 := Scalar.addi v1314 c0_i32_509
  let v1316 : Index := Scalar.indexCast v1315
  let c0_511 : Index := 0#32
  let c0_512 : Index := 0#32
  ![13, v1316.toNat, 0, 0]
def k0_off17 (i : grid0.Coords) (k0_t1 : Fin (k0_t1_loop i).trips) (c0_i32_514 : BitVec 32) : Fin 4 → Nat :=
  let c14_515 : Index := 14#32
  let c0_i32_16 : BitVec 32 := 0#32
  let c1_i32_18 : BitVec 32 := 1#32
  let arg12 : BitVec 32 := Scf.iv c0_i32_16 c1_i32_18 k0_t1
  let c2_i32_513 : BitVec 32 := 2#32
  let v1320 : BitVec 32 := Scalar.muli arg12 c2_i32_513
  let v1321 : BitVec 32 := Scalar.addi v1320 c0_i32_514
  let v1322 : Index := Scalar.indexCast v1321
  let c0_516 : Index := 0#32
  let c0_517 : Index := 0#32
  ![14, v1322.toNat, 0, 0]
def k0_off18 (i : grid0.Coords) (k0_t1 : Fin (k0_t1_loop i).trips) (c0_i32_519 : BitVec 32) : Fin 4 → Nat :=
  let c15_520 : Index := 15#32
  let c0_i32_16 : BitVec 32 := 0#32
  let c1_i32_18 : BitVec 32 := 1#32
  let arg12 : BitVec 32 := Scf.iv c0_i32_16 c1_i32_18 k0_t1
  let c2_i32_518 : BitVec 32 := 2#32
  let v1326 : BitVec 32 := Scalar.muli arg12 c2_i32_518
  let v1327 : BitVec 32 := Scalar.addi v1326 c0_i32_519
  let v1328 : Index := Scalar.indexCast v1327
  let c0_521 : Index := 0#32
  let c0_522 : Index := 0#32
  ![15, v1328.toNat, 0, 0]
def k0_off19 (i : grid0.Coords) (k0_t1 : Fin (k0_t1_loop i).trips) (c0_i32_524 : BitVec 32) : Fin 4 → Nat :=
  let c16_525 : Index := 16#32
  let c0_i32_16 : BitVec 32 := 0#32
  let c1_i32_18 : BitVec 32 := 1#32
  let arg12 : BitVec 32 := Scf.iv c0_i32_16 c1_i32_18 k0_t1
  let c2_i32_523 : BitVec 32 := 2#32
  let v1332 : BitVec 32 := Scalar.muli arg12 c2_i32_523
  let v1333 : BitVec 32 := Scalar.addi v1332 c0_i32_524
  let v1334 : Index := Scalar.indexCast v1333
  let c0_526 : Index := 0#32
  let c0_527 : Index := 0#32
  ![16, v1334.toNat, 0, 0]
def k0_off20 (i : grid0.Coords) (k0_t1 : Fin (k0_t1_loop i).trips) (c0_i32_529 : BitVec 32) : Fin 4 → Nat :=
  let c17_530 : Index := 17#32
  let c0_i32_16 : BitVec 32 := 0#32
  let c1_i32_18 : BitVec 32 := 1#32
  let arg12 : BitVec 32 := Scf.iv c0_i32_16 c1_i32_18 k0_t1
  let c2_i32_528 : BitVec 32 := 2#32
  let v1338 : BitVec 32 := Scalar.muli arg12 c2_i32_528
  let v1339 : BitVec 32 := Scalar.addi v1338 c0_i32_529
  let v1340 : Index := Scalar.indexCast v1339
  let c0_531 : Index := 0#32
  let c0_532 : Index := 0#32
  ![17, v1340.toNat, 0, 0]
def k0_off21 (i : grid0.Coords) (k0_t1 : Fin (k0_t1_loop i).trips) (c0_i32_534 : BitVec 32) : Fin 4 → Nat :=
  let c18_535 : Index := 18#32
  let c0_i32_16 : BitVec 32 := 0#32
  let c1_i32_18 : BitVec 32 := 1#32
  let arg12 : BitVec 32 := Scf.iv c0_i32_16 c1_i32_18 k0_t1
  let c2_i32_533 : BitVec 32 := 2#32
  let v1344 : BitVec 32 := Scalar.muli arg12 c2_i32_533
  let v1345 : BitVec 32 := Scalar.addi v1344 c0_i32_534
  let v1346 : Index := Scalar.indexCast v1345
  let c0_536 : Index := 0#32
  let c0_537 : Index := 0#32
  ![18, v1346.toNat, 0, 0]
def k0_off22 (i : grid0.Coords) (k0_t1 : Fin (k0_t1_loop i).trips) (c0_i32_539 : BitVec 32) : Fin 4 → Nat :=
  let c19_540 : Index := 19#32
  let c0_i32_16 : BitVec 32 := 0#32
  let c1_i32_18 : BitVec 32 := 1#32
  let arg12 : BitVec 32 := Scf.iv c0_i32_16 c1_i32_18 k0_t1
  let c2_i32_538 : BitVec 32 := 2#32
  let v1350 : BitVec 32 := Scalar.muli arg12 c2_i32_538
  let v1351 : BitVec 32 := Scalar.addi v1350 c0_i32_539
  let v1352 : Index := Scalar.indexCast v1351
  let c0_541 : Index := 0#32
  let c0_542 : Index := 0#32
  ![19, v1352.toNat, 0, 0]
def k0_off23 (i : grid0.Coords) (k0_t1 : Fin (k0_t1_loop i).trips) (c0_i32_544 : BitVec 32) : Fin 4 → Nat :=
  let c20_545 : Index := 20#32
  let c0_i32_16 : BitVec 32 := 0#32
  let c1_i32_18 : BitVec 32 := 1#32
  let arg12 : BitVec 32 := Scf.iv c0_i32_16 c1_i32_18 k0_t1
  let c2_i32_543 : BitVec 32 := 2#32
  let v1356 : BitVec 32 := Scalar.muli arg12 c2_i32_543
  let v1357 : BitVec 32 := Scalar.addi v1356 c0_i32_544
  let v1358 : Index := Scalar.indexCast v1357
  let c0_546 : Index := 0#32
  let c0_547 : Index := 0#32
  ![20, v1358.toNat, 0, 0]
def k0_off24 (i : grid0.Coords) (k0_t1 : Fin (k0_t1_loop i).trips) (c0_i32_549 : BitVec 32) : Fin 4 → Nat :=
  let c21_550 : Index := 21#32
  let c0_i32_16 : BitVec 32 := 0#32
  let c1_i32_18 : BitVec 32 := 1#32
  let arg12 : BitVec 32 := Scf.iv c0_i32_16 c1_i32_18 k0_t1
  let c2_i32_548 : BitVec 32 := 2#32
  let v1362 : BitVec 32 := Scalar.muli arg12 c2_i32_548
  let v1363 : BitVec 32 := Scalar.addi v1362 c0_i32_549
  let v1364 : Index := Scalar.indexCast v1363
  let c0_551 : Index := 0#32
  let c0_552 : Index := 0#32
  ![21, v1364.toNat, 0, 0]
def k0_off25 (i : grid0.Coords) (k0_t1 : Fin (k0_t1_loop i).trips) (c0_i32_554 : BitVec 32) : Fin 4 → Nat :=
  let c22_555 : Index := 22#32
  let c0_i32_16 : BitVec 32 := 0#32
  let c1_i32_18 : BitVec 32 := 1#32
  let arg12 : BitVec 32 := Scf.iv c0_i32_16 c1_i32_18 k0_t1
  let c2_i32_553 : BitVec 32 := 2#32
  let v1368 : BitVec 32 := Scalar.muli arg12 c2_i32_553
  let v1369 : BitVec 32 := Scalar.addi v1368 c0_i32_554
  let v1370 : Index := Scalar.indexCast v1369
  let c0_556 : Index := 0#32
  let c0_557 : Index := 0#32
  ![22, v1370.toNat, 0, 0]
def k0_off26 (i : grid0.Coords) (k0_t1 : Fin (k0_t1_loop i).trips) (c0_i32_559 : BitVec 32) : Fin 4 → Nat :=
  let c23_560 : Index := 23#32
  let c0_i32_16 : BitVec 32 := 0#32
  let c1_i32_18 : BitVec 32 := 1#32
  let arg12 : BitVec 32 := Scf.iv c0_i32_16 c1_i32_18 k0_t1
  let c2_i32_558 : BitVec 32 := 2#32
  let v1374 : BitVec 32 := Scalar.muli arg12 c2_i32_558
  let v1375 : BitVec 32 := Scalar.addi v1374 c0_i32_559
  let v1376 : Index := Scalar.indexCast v1375
  let c0_561 : Index := 0#32
  let c0_562 : Index := 0#32
  ![23, v1376.toNat, 0, 0]
def k0_off27 (i : grid0.Coords) (k0_t1 : Fin (k0_t1_loop i).trips) (c0_i32_564 : BitVec 32) : Fin 4 → Nat :=
  let c24_565 : Index := 24#32
  let c0_i32_16 : BitVec 32 := 0#32
  let c1_i32_18 : BitVec 32 := 1#32
  let arg12 : BitVec 32 := Scf.iv c0_i32_16 c1_i32_18 k0_t1
  let c2_i32_563 : BitVec 32 := 2#32
  let v1380 : BitVec 32 := Scalar.muli arg12 c2_i32_563
  let v1381 : BitVec 32 := Scalar.addi v1380 c0_i32_564
  let v1382 : Index := Scalar.indexCast v1381
  let c0_566 : Index := 0#32
  let c0_567 : Index := 0#32
  ![24, v1382.toNat, 0, 0]
def k0_off28 (i : grid0.Coords) (k0_t1 : Fin (k0_t1_loop i).trips) (c0_i32_569 : BitVec 32) : Fin 4 → Nat :=
  let c25_570 : Index := 25#32
  let c0_i32_16 : BitVec 32 := 0#32
  let c1_i32_18 : BitVec 32 := 1#32
  let arg12 : BitVec 32 := Scf.iv c0_i32_16 c1_i32_18 k0_t1
  let c2_i32_568 : BitVec 32 := 2#32
  let v1386 : BitVec 32 := Scalar.muli arg12 c2_i32_568
  let v1387 : BitVec 32 := Scalar.addi v1386 c0_i32_569
  let v1388 : Index := Scalar.indexCast v1387
  let c0_571 : Index := 0#32
  let c0_572 : Index := 0#32
  ![25, v1388.toNat, 0, 0]
def k0_off29 (i : grid0.Coords) (k0_t1 : Fin (k0_t1_loop i).trips) (c0_i32_574 : BitVec 32) : Fin 4 → Nat :=
  let c26_575 : Index := 26#32
  let c0_i32_16 : BitVec 32 := 0#32
  let c1_i32_18 : BitVec 32 := 1#32
  let arg12 : BitVec 32 := Scf.iv c0_i32_16 c1_i32_18 k0_t1
  let c2_i32_573 : BitVec 32 := 2#32
  let v1392 : BitVec 32 := Scalar.muli arg12 c2_i32_573
  let v1393 : BitVec 32 := Scalar.addi v1392 c0_i32_574
  let v1394 : Index := Scalar.indexCast v1393
  let c0_576 : Index := 0#32
  let c0_577 : Index := 0#32
  ![26, v1394.toNat, 0, 0]
def k0_off30 (i : grid0.Coords) (k0_t1 : Fin (k0_t1_loop i).trips) (c0_i32_579 : BitVec 32) : Fin 4 → Nat :=
  let c27_580 : Index := 27#32
  let c0_i32_16 : BitVec 32 := 0#32
  let c1_i32_18 : BitVec 32 := 1#32
  let arg12 : BitVec 32 := Scf.iv c0_i32_16 c1_i32_18 k0_t1
  let c2_i32_578 : BitVec 32 := 2#32
  let v1398 : BitVec 32 := Scalar.muli arg12 c2_i32_578
  let v1399 : BitVec 32 := Scalar.addi v1398 c0_i32_579
  let v1400 : Index := Scalar.indexCast v1399
  let c0_581 : Index := 0#32
  let c0_582 : Index := 0#32
  ![27, v1400.toNat, 0, 0]
def k0_off31 (i : grid0.Coords) (k0_t1 : Fin (k0_t1_loop i).trips) (c0_i32_584 : BitVec 32) : Fin 4 → Nat :=
  let c28_585 : Index := 28#32
  let c0_i32_16 : BitVec 32 := 0#32
  let c1_i32_18 : BitVec 32 := 1#32
  let arg12 : BitVec 32 := Scf.iv c0_i32_16 c1_i32_18 k0_t1
  let c2_i32_583 : BitVec 32 := 2#32
  let v1404 : BitVec 32 := Scalar.muli arg12 c2_i32_583
  let v1405 : BitVec 32 := Scalar.addi v1404 c0_i32_584
  let v1406 : Index := Scalar.indexCast v1405
  let c0_586 : Index := 0#32
  let c0_587 : Index := 0#32
  ![28, v1406.toNat, 0, 0]
def k0_off32 (i : grid0.Coords) (k0_t1 : Fin (k0_t1_loop i).trips) (c0_i32_589 : BitVec 32) : Fin 4 → Nat :=
  let c29_590 : Index := 29#32
  let c0_i32_16 : BitVec 32 := 0#32
  let c1_i32_18 : BitVec 32 := 1#32
  let arg12 : BitVec 32 := Scf.iv c0_i32_16 c1_i32_18 k0_t1
  let c2_i32_588 : BitVec 32 := 2#32
  let v1410 : BitVec 32 := Scalar.muli arg12 c2_i32_588
  let v1411 : BitVec 32 := Scalar.addi v1410 c0_i32_589
  let v1412 : Index := Scalar.indexCast v1411
  let c0_591 : Index := 0#32
  let c0_592 : Index := 0#32
  ![29, v1412.toNat, 0, 0]
def k0_off33 (i : grid0.Coords) (k0_t1 : Fin (k0_t1_loop i).trips) (c0_i32_594 : BitVec 32) : Fin 4 → Nat :=
  let c30_595 : Index := 30#32
  let c0_i32_16 : BitVec 32 := 0#32
  let c1_i32_18 : BitVec 32 := 1#32
  let arg12 : BitVec 32 := Scf.iv c0_i32_16 c1_i32_18 k0_t1
  let c2_i32_593 : BitVec 32 := 2#32
  let v1416 : BitVec 32 := Scalar.muli arg12 c2_i32_593
  let v1417 : BitVec 32 := Scalar.addi v1416 c0_i32_594
  let v1418 : Index := Scalar.indexCast v1417
  let c0_596 : Index := 0#32
  let c0_597 : Index := 0#32
  ![30, v1418.toNat, 0, 0]
def k0_off34 (i : grid0.Coords) (k0_t1 : Fin (k0_t1_loop i).trips) (c0_i32_599 : BitVec 32) : Fin 4 → Nat :=
  let c31_600 : Index := 31#32
  let c0_i32_16 : BitVec 32 := 0#32
  let c1_i32_18 : BitVec 32 := 1#32
  let arg12 : BitVec 32 := Scf.iv c0_i32_16 c1_i32_18 k0_t1
  let c2_i32_598 : BitVec 32 := 2#32
  let v1422 : BitVec 32 := Scalar.muli arg12 c2_i32_598
  let v1423 : BitVec 32 := Scalar.addi v1422 c0_i32_599
  let v1424 : Index := Scalar.indexCast v1423
  let c0_601 : Index := 0#32
  let c0_602 : Index := 0#32
  ![31, v1424.toNat, 0, 0]
@[reducible] def k0_t2_loop (i : grid0.Coords) : Scf.Loop 32 :=
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let v45 : BitVec 32 := Scalar.addi c0_i32_16 v44
  let c1_i32_19 : BitVec 32 := 1#32
  ⟨v48, v45, c1_i32_19⟩
def k0_mult2 (i : grid0.Coords) (k0_t2 : Fin (k0_t2_loop i).trips) : BitVec 32 :=
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c512_i32_195 : BitVec 32 := 512#32
  let v445 : BitVec 32 := Scalar.muli arg12 c512_i32_195
  v445
def k0_off35 (i : grid0.Coords) (k0_t2 : Fin (k0_t2_loop i).trips) : Fin 3 → Nat :=
  let c0_196 : Index := 0#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c512_i32_195 : BitVec 32 := 512#32
  let v445 : BitVec 32 := Scalar.muli arg12 c512_i32_195
  let v446 : BitVec 32 := v445
  let v447 : Index := Scalar.indexCast v446
  let c0_197 : Index := 0#32
  ![0, v447.toNat, 0]
def k0_off36 (i : grid0.Coords) (k0_t2 : Fin (k0_t2_loop i).trips) : Fin 3 → Nat :=
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let v478 : Index := Scalar.indexCast arg12
  let c0_205 : Index := 0#32
  let c0_206 : Index := 0#32
  ![v478.toNat, 0, 0]
def k0_off37 (i : grid0.Coords) (k0_t2 : Fin (k0_t2_loop i).trips) (c0_i32_444 : BitVec 32) : Fin 4 → Nat :=
  let c0_445 : Index := 0#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_443 : BitVec 32 := 2#32
  let v1236 : BitVec 32 := Scalar.muli arg12 c2_i32_443
  let v1237 : BitVec 32 := Scalar.addi v1236 c0_i32_444
  let v1238 : Index := Scalar.indexCast v1237
  let c0_446 : Index := 0#32
  let c0_447 : Index := 0#32
  ![0, v1238.toNat, 0, 0]
def k0_off38 (i : grid0.Coords) (k0_t2 : Fin (k0_t2_loop i).trips) (c0_i32_449 : BitVec 32) : Fin 4 → Nat :=
  let c1_450 : Index := 1#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_448 : BitVec 32 := 2#32
  let v1242 : BitVec 32 := Scalar.muli arg12 c2_i32_448
  let v1243 : BitVec 32 := Scalar.addi v1242 c0_i32_449
  let v1244 : Index := Scalar.indexCast v1243
  let c0_451 : Index := 0#32
  let c0_452 : Index := 0#32
  ![1, v1244.toNat, 0, 0]
def k0_off39 (i : grid0.Coords) (k0_t2 : Fin (k0_t2_loop i).trips) (c0_i32_454 : BitVec 32) : Fin 4 → Nat :=
  let c2_455 : Index := 2#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_453 : BitVec 32 := 2#32
  let v1248 : BitVec 32 := Scalar.muli arg12 c2_i32_453
  let v1249 : BitVec 32 := Scalar.addi v1248 c0_i32_454
  let v1250 : Index := Scalar.indexCast v1249
  let c0_456 : Index := 0#32
  let c0_457 : Index := 0#32
  ![2, v1250.toNat, 0, 0]
def k0_off40 (i : grid0.Coords) (k0_t2 : Fin (k0_t2_loop i).trips) (c0_i32_459 : BitVec 32) : Fin 4 → Nat :=
  let c3_460 : Index := 3#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_458 : BitVec 32 := 2#32
  let v1254 : BitVec 32 := Scalar.muli arg12 c2_i32_458
  let v1255 : BitVec 32 := Scalar.addi v1254 c0_i32_459
  let v1256 : Index := Scalar.indexCast v1255
  let c0_461 : Index := 0#32
  let c0_462 : Index := 0#32
  ![3, v1256.toNat, 0, 0]
def k0_off41 (i : grid0.Coords) (k0_t2 : Fin (k0_t2_loop i).trips) (c0_i32_464 : BitVec 32) : Fin 4 → Nat :=
  let c4_465 : Index := 4#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_463 : BitVec 32 := 2#32
  let v1260 : BitVec 32 := Scalar.muli arg12 c2_i32_463
  let v1261 : BitVec 32 := Scalar.addi v1260 c0_i32_464
  let v1262 : Index := Scalar.indexCast v1261
  let c0_466 : Index := 0#32
  let c0_467 : Index := 0#32
  ![4, v1262.toNat, 0, 0]
def k0_off42 (i : grid0.Coords) (k0_t2 : Fin (k0_t2_loop i).trips) (c0_i32_469 : BitVec 32) : Fin 4 → Nat :=
  let c5_470 : Index := 5#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_468 : BitVec 32 := 2#32
  let v1266 : BitVec 32 := Scalar.muli arg12 c2_i32_468
  let v1267 : BitVec 32 := Scalar.addi v1266 c0_i32_469
  let v1268 : Index := Scalar.indexCast v1267
  let c0_471 : Index := 0#32
  let c0_472 : Index := 0#32
  ![5, v1268.toNat, 0, 0]
def k0_off43 (i : grid0.Coords) (k0_t2 : Fin (k0_t2_loop i).trips) (c0_i32_474 : BitVec 32) : Fin 4 → Nat :=
  let c6_475 : Index := 6#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_473 : BitVec 32 := 2#32
  let v1272 : BitVec 32 := Scalar.muli arg12 c2_i32_473
  let v1273 : BitVec 32 := Scalar.addi v1272 c0_i32_474
  let v1274 : Index := Scalar.indexCast v1273
  let c0_476 : Index := 0#32
  let c0_477 : Index := 0#32
  ![6, v1274.toNat, 0, 0]
def k0_off44 (i : grid0.Coords) (k0_t2 : Fin (k0_t2_loop i).trips) (c0_i32_479 : BitVec 32) : Fin 4 → Nat :=
  let c7_480 : Index := 7#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_478 : BitVec 32 := 2#32
  let v1278 : BitVec 32 := Scalar.muli arg12 c2_i32_478
  let v1279 : BitVec 32 := Scalar.addi v1278 c0_i32_479
  let v1280 : Index := Scalar.indexCast v1279
  let c0_481 : Index := 0#32
  let c0_482 : Index := 0#32
  ![7, v1280.toNat, 0, 0]
def k0_off45 (i : grid0.Coords) (k0_t2 : Fin (k0_t2_loop i).trips) (c0_i32_484 : BitVec 32) : Fin 4 → Nat :=
  let c8_485 : Index := 8#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_483 : BitVec 32 := 2#32
  let v1284 : BitVec 32 := Scalar.muli arg12 c2_i32_483
  let v1285 : BitVec 32 := Scalar.addi v1284 c0_i32_484
  let v1286 : Index := Scalar.indexCast v1285
  let c0_486 : Index := 0#32
  let c0_487 : Index := 0#32
  ![8, v1286.toNat, 0, 0]
def k0_off46 (i : grid0.Coords) (k0_t2 : Fin (k0_t2_loop i).trips) (c0_i32_489 : BitVec 32) : Fin 4 → Nat :=
  let c9_490 : Index := 9#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_488 : BitVec 32 := 2#32
  let v1290 : BitVec 32 := Scalar.muli arg12 c2_i32_488
  let v1291 : BitVec 32 := Scalar.addi v1290 c0_i32_489
  let v1292 : Index := Scalar.indexCast v1291
  let c0_491 : Index := 0#32
  let c0_492 : Index := 0#32
  ![9, v1292.toNat, 0, 0]
def k0_off47 (i : grid0.Coords) (k0_t2 : Fin (k0_t2_loop i).trips) (c0_i32_494 : BitVec 32) : Fin 4 → Nat :=
  let c10_495 : Index := 10#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_493 : BitVec 32 := 2#32
  let v1296 : BitVec 32 := Scalar.muli arg12 c2_i32_493
  let v1297 : BitVec 32 := Scalar.addi v1296 c0_i32_494
  let v1298 : Index := Scalar.indexCast v1297
  let c0_496 : Index := 0#32
  let c0_497 : Index := 0#32
  ![10, v1298.toNat, 0, 0]
def k0_off48 (i : grid0.Coords) (k0_t2 : Fin (k0_t2_loop i).trips) (c0_i32_499 : BitVec 32) : Fin 4 → Nat :=
  let c11_500 : Index := 11#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_498 : BitVec 32 := 2#32
  let v1302 : BitVec 32 := Scalar.muli arg12 c2_i32_498
  let v1303 : BitVec 32 := Scalar.addi v1302 c0_i32_499
  let v1304 : Index := Scalar.indexCast v1303
  let c0_501 : Index := 0#32
  let c0_502 : Index := 0#32
  ![11, v1304.toNat, 0, 0]
def k0_off49 (i : grid0.Coords) (k0_t2 : Fin (k0_t2_loop i).trips) (c0_i32_504 : BitVec 32) : Fin 4 → Nat :=
  let c12_505 : Index := 12#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_503 : BitVec 32 := 2#32
  let v1308 : BitVec 32 := Scalar.muli arg12 c2_i32_503
  let v1309 : BitVec 32 := Scalar.addi v1308 c0_i32_504
  let v1310 : Index := Scalar.indexCast v1309
  let c0_506 : Index := 0#32
  let c0_507 : Index := 0#32
  ![12, v1310.toNat, 0, 0]
def k0_off50 (i : grid0.Coords) (k0_t2 : Fin (k0_t2_loop i).trips) (c0_i32_509 : BitVec 32) : Fin 4 → Nat :=
  let c13_510 : Index := 13#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_508 : BitVec 32 := 2#32
  let v1314 : BitVec 32 := Scalar.muli arg12 c2_i32_508
  let v1315 : BitVec 32 := Scalar.addi v1314 c0_i32_509
  let v1316 : Index := Scalar.indexCast v1315
  let c0_511 : Index := 0#32
  let c0_512 : Index := 0#32
  ![13, v1316.toNat, 0, 0]
def k0_off51 (i : grid0.Coords) (k0_t2 : Fin (k0_t2_loop i).trips) (c0_i32_514 : BitVec 32) : Fin 4 → Nat :=
  let c14_515 : Index := 14#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_513 : BitVec 32 := 2#32
  let v1320 : BitVec 32 := Scalar.muli arg12 c2_i32_513
  let v1321 : BitVec 32 := Scalar.addi v1320 c0_i32_514
  let v1322 : Index := Scalar.indexCast v1321
  let c0_516 : Index := 0#32
  let c0_517 : Index := 0#32
  ![14, v1322.toNat, 0, 0]
def k0_off52 (i : grid0.Coords) (k0_t2 : Fin (k0_t2_loop i).trips) (c0_i32_519 : BitVec 32) : Fin 4 → Nat :=
  let c15_520 : Index := 15#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_518 : BitVec 32 := 2#32
  let v1326 : BitVec 32 := Scalar.muli arg12 c2_i32_518
  let v1327 : BitVec 32 := Scalar.addi v1326 c0_i32_519
  let v1328 : Index := Scalar.indexCast v1327
  let c0_521 : Index := 0#32
  let c0_522 : Index := 0#32
  ![15, v1328.toNat, 0, 0]
def k0_off53 (i : grid0.Coords) (k0_t2 : Fin (k0_t2_loop i).trips) (c0_i32_524 : BitVec 32) : Fin 4 → Nat :=
  let c16_525 : Index := 16#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_523 : BitVec 32 := 2#32
  let v1332 : BitVec 32 := Scalar.muli arg12 c2_i32_523
  let v1333 : BitVec 32 := Scalar.addi v1332 c0_i32_524
  let v1334 : Index := Scalar.indexCast v1333
  let c0_526 : Index := 0#32
  let c0_527 : Index := 0#32
  ![16, v1334.toNat, 0, 0]
def k0_off54 (i : grid0.Coords) (k0_t2 : Fin (k0_t2_loop i).trips) (c0_i32_529 : BitVec 32) : Fin 4 → Nat :=
  let c17_530 : Index := 17#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_528 : BitVec 32 := 2#32
  let v1338 : BitVec 32 := Scalar.muli arg12 c2_i32_528
  let v1339 : BitVec 32 := Scalar.addi v1338 c0_i32_529
  let v1340 : Index := Scalar.indexCast v1339
  let c0_531 : Index := 0#32
  let c0_532 : Index := 0#32
  ![17, v1340.toNat, 0, 0]
def k0_off55 (i : grid0.Coords) (k0_t2 : Fin (k0_t2_loop i).trips) (c0_i32_534 : BitVec 32) : Fin 4 → Nat :=
  let c18_535 : Index := 18#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_533 : BitVec 32 := 2#32
  let v1344 : BitVec 32 := Scalar.muli arg12 c2_i32_533
  let v1345 : BitVec 32 := Scalar.addi v1344 c0_i32_534
  let v1346 : Index := Scalar.indexCast v1345
  let c0_536 : Index := 0#32
  let c0_537 : Index := 0#32
  ![18, v1346.toNat, 0, 0]
def k0_off56 (i : grid0.Coords) (k0_t2 : Fin (k0_t2_loop i).trips) (c0_i32_539 : BitVec 32) : Fin 4 → Nat :=
  let c19_540 : Index := 19#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_538 : BitVec 32 := 2#32
  let v1350 : BitVec 32 := Scalar.muli arg12 c2_i32_538
  let v1351 : BitVec 32 := Scalar.addi v1350 c0_i32_539
  let v1352 : Index := Scalar.indexCast v1351
  let c0_541 : Index := 0#32
  let c0_542 : Index := 0#32
  ![19, v1352.toNat, 0, 0]
def k0_off57 (i : grid0.Coords) (k0_t2 : Fin (k0_t2_loop i).trips) (c0_i32_544 : BitVec 32) : Fin 4 → Nat :=
  let c20_545 : Index := 20#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_543 : BitVec 32 := 2#32
  let v1356 : BitVec 32 := Scalar.muli arg12 c2_i32_543
  let v1357 : BitVec 32 := Scalar.addi v1356 c0_i32_544
  let v1358 : Index := Scalar.indexCast v1357
  let c0_546 : Index := 0#32
  let c0_547 : Index := 0#32
  ![20, v1358.toNat, 0, 0]
def k0_off58 (i : grid0.Coords) (k0_t2 : Fin (k0_t2_loop i).trips) (c0_i32_549 : BitVec 32) : Fin 4 → Nat :=
  let c21_550 : Index := 21#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_548 : BitVec 32 := 2#32
  let v1362 : BitVec 32 := Scalar.muli arg12 c2_i32_548
  let v1363 : BitVec 32 := Scalar.addi v1362 c0_i32_549
  let v1364 : Index := Scalar.indexCast v1363
  let c0_551 : Index := 0#32
  let c0_552 : Index := 0#32
  ![21, v1364.toNat, 0, 0]
def k0_off59 (i : grid0.Coords) (k0_t2 : Fin (k0_t2_loop i).trips) (c0_i32_554 : BitVec 32) : Fin 4 → Nat :=
  let c22_555 : Index := 22#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_553 : BitVec 32 := 2#32
  let v1368 : BitVec 32 := Scalar.muli arg12 c2_i32_553
  let v1369 : BitVec 32 := Scalar.addi v1368 c0_i32_554
  let v1370 : Index := Scalar.indexCast v1369
  let c0_556 : Index := 0#32
  let c0_557 : Index := 0#32
  ![22, v1370.toNat, 0, 0]
def k0_off60 (i : grid0.Coords) (k0_t2 : Fin (k0_t2_loop i).trips) (c0_i32_559 : BitVec 32) : Fin 4 → Nat :=
  let c23_560 : Index := 23#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_558 : BitVec 32 := 2#32
  let v1374 : BitVec 32 := Scalar.muli arg12 c2_i32_558
  let v1375 : BitVec 32 := Scalar.addi v1374 c0_i32_559
  let v1376 : Index := Scalar.indexCast v1375
  let c0_561 : Index := 0#32
  let c0_562 : Index := 0#32
  ![23, v1376.toNat, 0, 0]
def k0_off61 (i : grid0.Coords) (k0_t2 : Fin (k0_t2_loop i).trips) (c0_i32_564 : BitVec 32) : Fin 4 → Nat :=
  let c24_565 : Index := 24#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_563 : BitVec 32 := 2#32
  let v1380 : BitVec 32 := Scalar.muli arg12 c2_i32_563
  let v1381 : BitVec 32 := Scalar.addi v1380 c0_i32_564
  let v1382 : Index := Scalar.indexCast v1381
  let c0_566 : Index := 0#32
  let c0_567 : Index := 0#32
  ![24, v1382.toNat, 0, 0]
def k0_off62 (i : grid0.Coords) (k0_t2 : Fin (k0_t2_loop i).trips) (c0_i32_569 : BitVec 32) : Fin 4 → Nat :=
  let c25_570 : Index := 25#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_568 : BitVec 32 := 2#32
  let v1386 : BitVec 32 := Scalar.muli arg12 c2_i32_568
  let v1387 : BitVec 32 := Scalar.addi v1386 c0_i32_569
  let v1388 : Index := Scalar.indexCast v1387
  let c0_571 : Index := 0#32
  let c0_572 : Index := 0#32
  ![25, v1388.toNat, 0, 0]
def k0_off63 (i : grid0.Coords) (k0_t2 : Fin (k0_t2_loop i).trips) (c0_i32_574 : BitVec 32) : Fin 4 → Nat :=
  let c26_575 : Index := 26#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_573 : BitVec 32 := 2#32
  let v1392 : BitVec 32 := Scalar.muli arg12 c2_i32_573
  let v1393 : BitVec 32 := Scalar.addi v1392 c0_i32_574
  let v1394 : Index := Scalar.indexCast v1393
  let c0_576 : Index := 0#32
  let c0_577 : Index := 0#32
  ![26, v1394.toNat, 0, 0]
def k0_off64 (i : grid0.Coords) (k0_t2 : Fin (k0_t2_loop i).trips) (c0_i32_579 : BitVec 32) : Fin 4 → Nat :=
  let c27_580 : Index := 27#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_578 : BitVec 32 := 2#32
  let v1398 : BitVec 32 := Scalar.muli arg12 c2_i32_578
  let v1399 : BitVec 32 := Scalar.addi v1398 c0_i32_579
  let v1400 : Index := Scalar.indexCast v1399
  let c0_581 : Index := 0#32
  let c0_582 : Index := 0#32
  ![27, v1400.toNat, 0, 0]
def k0_off65 (i : grid0.Coords) (k0_t2 : Fin (k0_t2_loop i).trips) (c0_i32_584 : BitVec 32) : Fin 4 → Nat :=
  let c28_585 : Index := 28#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_583 : BitVec 32 := 2#32
  let v1404 : BitVec 32 := Scalar.muli arg12 c2_i32_583
  let v1405 : BitVec 32 := Scalar.addi v1404 c0_i32_584
  let v1406 : Index := Scalar.indexCast v1405
  let c0_586 : Index := 0#32
  let c0_587 : Index := 0#32
  ![28, v1406.toNat, 0, 0]
def k0_off66 (i : grid0.Coords) (k0_t2 : Fin (k0_t2_loop i).trips) (c0_i32_589 : BitVec 32) : Fin 4 → Nat :=
  let c29_590 : Index := 29#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_588 : BitVec 32 := 2#32
  let v1410 : BitVec 32 := Scalar.muli arg12 c2_i32_588
  let v1411 : BitVec 32 := Scalar.addi v1410 c0_i32_589
  let v1412 : Index := Scalar.indexCast v1411
  let c0_591 : Index := 0#32
  let c0_592 : Index := 0#32
  ![29, v1412.toNat, 0, 0]
def k0_off67 (i : grid0.Coords) (k0_t2 : Fin (k0_t2_loop i).trips) (c0_i32_594 : BitVec 32) : Fin 4 → Nat :=
  let c30_595 : Index := 30#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_593 : BitVec 32 := 2#32
  let v1416 : BitVec 32 := Scalar.muli arg12 c2_i32_593
  let v1417 : BitVec 32 := Scalar.addi v1416 c0_i32_594
  let v1418 : Index := Scalar.indexCast v1417
  let c0_596 : Index := 0#32
  let c0_597 : Index := 0#32
  ![30, v1418.toNat, 0, 0]
def k0_off68 (i : grid0.Coords) (k0_t2 : Fin (k0_t2_loop i).trips) (c0_i32_599 : BitVec 32) : Fin 4 → Nat :=
  let c31_600 : Index := 31#32
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v44 : BitVec 32 := Scalar.subi v20 c0_i32_16
  let c1_i32_17 : BitVec 32 := 1#32
  let v46 : BitVec 32 := Scalar.divsi v44 c1_i32_17
  let v47 : BitVec 32 := Scalar.muli v46 c1_i32_17
  let v48 : BitVec 32 := Scalar.addi c0_i32_16 v47
  let c1_i32_19 : BitVec 32 := 1#32
  let arg12 : BitVec 32 := Scf.iv v48 c1_i32_19 k0_t2
  let c2_i32_598 : BitVec 32 := 2#32
  let v1422 : BitVec 32 := Scalar.muli arg12 c2_i32_598
  let v1423 : BitVec 32 := Scalar.addi v1422 c0_i32_599
  let v1424 : Index := Scalar.indexCast v1423
  let c0_601 : Index := 0#32
  let c0_602 : Index := 0#32
  ![31, v1424.toNat, 0, 0]
@[reducible] def k0_t3_loop : Scf.Loop 32 :=
  let c0_i32_153 : BitVec 32 := 0#32
  let c32_i32 : BitVec 32 := 32#32
  let v245 : BitVec 32 := Scalar.addi c0_i32_153 c32_i32
  let c1_i32_154 : BitVec 32 := 1#32
  ⟨c0_i32_153, v245, c1_i32_154⟩
def k0_off69 (k0_t3 : Fin k0_t3_loop.trips) : Fin 4 → Nat :=
  let c31_i32_195 : BitVec 32 := 31#32
  let c0_i32_153 : BitVec 32 := 0#32
  let c1_i32_154 : BitVec 32 := 1#32
  let arg12 : BitVec 32 := Scf.iv c0_i32_153 c1_i32_154 k0_t3
  let v445 : BitVec 32 := Scalar.subi c31_i32_195 arg12
  let v446 : Index := Scalar.indexCast v445
  let c0_196 : Index := 0#32
  let c0_197 : Index := 0#32
  let c0_198 : Index := 0#32
  ![v446.toNat, 0, 0, 0]
@[reducible] def k0_t4_loop (i : grid0.Coords) : Scf.Loop 32 :=
  let c0_i32_201 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v462 : BitVec 32 := Scalar.subi v20 c0_i32_201
  let c1_i32_202 : BitVec 32 := 1#32
  let v464 : BitVec 32 := Scalar.divsi v462 c1_i32_202
  let v465 : BitVec 32 := Scalar.muli v464 c1_i32_202
  let v466 : BitVec 32 := Scalar.addi c0_i32_201 v465
  let c1_i32_203 : BitVec 32 := 1#32
  ⟨c0_i32_201, v466, c1_i32_203⟩
def k0_off70 (i : grid0.Coords) (k0_t4 : Fin (k0_t4_loop i).trips) : Fin 3 → Nat :=
  let c0_i32_201 : BitVec 32 := 0#32
  let c1_i32_203 : BitVec 32 := 1#32
  let arg12 : BitVec 32 := Scf.iv c0_i32_201 c1_i32_203 k0_t4
  let v469 : Index := Scalar.indexCast arg12
  let c0_205 : Index := 0#32
  let c0_206 : Index := 0#32
  ![v469.toNat, 0, 0]
@[reducible] def k0_t5_loop (i : grid0.Coords) : Scf.Loop 32 :=
  let c0_i32_201 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v462 : BitVec 32 := Scalar.subi v20 c0_i32_201
  let c1_i32_202 : BitVec 32 := 1#32
  let v464 : BitVec 32 := Scalar.divsi v462 c1_i32_202
  let v465 : BitVec 32 := Scalar.muli v464 c1_i32_202
  let v466 : BitVec 32 := Scalar.addi c0_i32_201 v465
  let v463 : BitVec 32 := Scalar.addi c0_i32_201 v462
  let c1_i32_204 : BitVec 32 := 1#32
  ⟨v466, v463, c1_i32_204⟩
def k0_off71 (i : grid0.Coords) (k0_t5 : Fin (k0_t5_loop i).trips) : Fin 3 → Nat :=
  let c0_i32_201 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v462 : BitVec 32 := Scalar.subi v20 c0_i32_201
  let c1_i32_202 : BitVec 32 := 1#32
  let v464 : BitVec 32 := Scalar.divsi v462 c1_i32_202
  let v465 : BitVec 32 := Scalar.muli v464 c1_i32_202
  let v466 : BitVec 32 := Scalar.addi c0_i32_201 v465
  let c1_i32_204 : BitVec 32 := 1#32
  let arg12 : BitVec 32 := Scf.iv v466 c1_i32_204 k0_t5
  let v469 : Index := Scalar.indexCast arg12
  let c0_205 : Index := 0#32
  let c0_206 : Index := 0#32
  ![v469.toNat, 0, 0]
@[reducible] def k0_t6_loop (i : grid0.Coords) : Scf.Loop 32 :=
  let c0_i32_180 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_174 : BitVec 32 := 0#32
  let v386 : BitVec 1 := Scalar.cmpi .sgt v20 c0_i32_174
  let v387 : BitVec 32 := Scalar.extui v386
  let c0_i32_175 : BitVec 32 := 0#32
  let v388 : BitVec 1 := Scalar.cmpi .slt v20 c0_i32_175
  let v389 : BitVec 32 := Scalar.extui v388
  let v390 : BitVec 32 := Scalar.subi v387 v389
  let c2_i32_173 : BitVec 32 := 2#32
  let c0_i32_176 : BitVec 32 := 0#32
  let v391 : BitVec 1 := Scalar.cmpi .sgt c2_i32_173 c0_i32_176
  let v392 : BitVec 32 := Scalar.extui v391
  let c0_i32_177 : BitVec 32 := 0#32
  let v393 : BitVec 1 := Scalar.cmpi .slt c2_i32_173 c0_i32_177
  let v394 : BitVec 32 := Scalar.extui v393
  let v395 : BitVec 32 := Scalar.subi v392 v394
  let v396 : BitVec 1 := Scalar.cmpi .ne v390 v395
  let v397 : BitVec 32 := Scalar.remsi v20 c2_i32_173
  let c0_i32_178 : BitVec 32 := 0#32
  let v398 : BitVec 1 := Scalar.cmpi .ne v397 c0_i32_178
  let v399 : BitVec 1 := Scalar.andi v396 v398
  let v385 : BitVec 32 := Scalar.divsi v20 c2_i32_173
  let c1_i32_179 : BitVec 32 := 1#32
  let v400 : BitVec 32 := Scalar.subi v385 c1_i32_179
  let v401 : BitVec 32 := Scalar.select v399 v400 v385
  let v402 : BitVec 32 := Scalar.subi v401 c0_i32_180
  let c1_i32_181 : BitVec 32 := 1#32
  let v404 : BitVec 32 := Scalar.divsi v402 c1_i32_181
  let v405 : BitVec 32 := Scalar.muli v404 c1_i32_181
  let v406 : BitVec 32 := Scalar.addi c0_i32_180 v405
  let c1_i32_182 : BitVec 32 := 1#32
  ⟨c0_i32_180, v406, c1_i32_182⟩
def k0_off72 (i : grid0.Coords) (k0_t6 : Fin (k0_t6_loop i).trips) (c0_i32_196 : BitVec 32) : Fin 3 → Nat :=
  let c2_i32_195 : BitVec 32 := 2#32
  let c0_i32_180 : BitVec 32 := 0#32
  let c1_i32_182 : BitVec 32 := 1#32
  let arg12 : BitVec 32 := Scf.iv c0_i32_180 c1_i32_182 k0_t6
  let v445 : BitVec 32 := Scalar.muli c2_i32_195 arg12
  let v446 : BitVec 32 := Scalar.addi v445 c0_i32_196
  let v447 : Index := Scalar.indexCast v446
  let c0_197 : Index := 0#32
  let c0_198 : Index := 0#32
  ![v447.toNat, 0, 0]
def k0_mult3 (i : grid0.Coords) (k0_t6 : Fin (k0_t6_loop i).trips) : BitVec 32 :=
  let c2_i32_195 : BitVec 32 := 2#32
  let c0_i32_180 : BitVec 32 := 0#32
  let c1_i32_182 : BitVec 32 := 1#32
  let arg12 : BitVec 32 := Scf.iv c0_i32_180 c1_i32_182 k0_t6
  let v445 : BitVec 32 := Scalar.muli c2_i32_195 arg12
  let c0_i32_201 : BitVec 32 := 0#32
  let v454 : BitVec 32 := Scalar.addi v445 c0_i32_201
  let c512_i32_202 : BitVec 32 := 512#32
  let v455 : BitVec 32 := Scalar.muli v454 c512_i32_202
  v455
def k0_mult4 (i : grid0.Coords) (k0_t6 : Fin (k0_t6_loop i).trips) : BitVec 32 :=
  let c2_i32_195 : BitVec 32 := 2#32
  let c0_i32_180 : BitVec 32 := 0#32
  let c1_i32_182 : BitVec 32 := 1#32
  let arg12 : BitVec 32 := Scf.iv c0_i32_180 c1_i32_182 k0_t6
  let v445 : BitVec 32 := Scalar.muli c2_i32_195 arg12
  let c1_i32_208 : BitVec 32 := 1#32
  let v466 : BitVec 32 := Scalar.addi v445 c1_i32_208
  let c512_i32_209 : BitVec 32 := 512#32
  let v467 : BitVec 32 := Scalar.muli v466 c512_i32_209
  v467
def k0_off73 (i : grid0.Coords) (k0_t6 : Fin (k0_t6_loop i).trips) (c0_i32_201 : BitVec 32) : Fin 3 → Nat :=
  let c0_210 : Index := 0#32
  let c2_i32_195 : BitVec 32 := 2#32
  let c0_i32_180 : BitVec 32 := 0#32
  let c1_i32_182 : BitVec 32 := 1#32
  let arg12 : BitVec 32 := Scf.iv c0_i32_180 c1_i32_182 k0_t6
  let v445 : BitVec 32 := Scalar.muli c2_i32_195 arg12
  let v454 : BitVec 32 := Scalar.addi v445 c0_i32_201
  let c512_i32_202 : BitVec 32 := 512#32
  let v455 : BitVec 32 := Scalar.muli v454 c512_i32_202
  let v456 : BitVec 32 := v455
  let v470 : Index := Scalar.indexCast v456
  let c0_211 : Index := 0#32
  ![0, v470.toNat, 0]
def k0_off74 (i : grid0.Coords) (k0_t6 : Fin (k0_t6_loop i).trips) (c0_i32_201 : BitVec 32) : Fin 3 → Nat :=
  let c0_213 : Index := 0#32
  let c2_i32_195 : BitVec 32 := 2#32
  let c0_i32_180 : BitVec 32 := 0#32
  let c1_i32_182 : BitVec 32 := 1#32
  let arg12 : BitVec 32 := Scf.iv c0_i32_180 c1_i32_182 k0_t6
  let v445 : BitVec 32 := Scalar.muli c2_i32_195 arg12
  let v454 : BitVec 32 := Scalar.addi v445 c0_i32_201
  let c512_i32_202 : BitVec 32 := 512#32
  let v455 : BitVec 32 := Scalar.muli v454 c512_i32_202
  let v456 : BitVec 32 := v455
  let v475 : Index := Scalar.indexCast v456
  let c128 : Index := 128#32
  ![0, v475.toNat, 128]
def k0_off75 (i : grid0.Coords) (k0_t6 : Fin (k0_t6_loop i).trips) (c0_i32_201 : BitVec 32) : Fin 3 → Nat :=
  let c0_219 : Index := 0#32
  let c0_220 : Index := 0#32
  let c2_i32_195 : BitVec 32 := 2#32
  let c0_i32_180 : BitVec 32 := 0#32
  let c1_i32_182 : BitVec 32 := 1#32
  let arg12 : BitVec 32 := Scf.iv c0_i32_180 c1_i32_182 k0_t6
  let v445 : BitVec 32 := Scalar.muli c2_i32_195 arg12
  let v454 : BitVec 32 := Scalar.addi v445 c0_i32_201
  let c512_i32_202 : BitVec 32 := 512#32
  let v455 : BitVec 32 := Scalar.muli v454 c512_i32_202
  let v456 : BitVec 32 := v455
  let v492 : Index := Scalar.indexCast v456
  ![0, 0, v492.toNat]
def k0_off76 (i : grid0.Coords) (k0_t6 : Fin (k0_t6_loop i).trips) (c0_i32_201 : BitVec 32) : Fin 3 → Nat :=
  let c0_226 : Index := 0#32
  let c128_227 : Index := 128#32
  let c2_i32_195 : BitVec 32 := 2#32
  let c0_i32_180 : BitVec 32 := 0#32
  let c1_i32_182 : BitVec 32 := 1#32
  let arg12 : BitVec 32 := Scf.iv c0_i32_180 c1_i32_182 k0_t6
  let v445 : BitVec 32 := Scalar.muli c2_i32_195 arg12
  let v454 : BitVec 32 := Scalar.addi v445 c0_i32_201
  let c512_i32_202 : BitVec 32 := 512#32
  let v455 : BitVec 32 := Scalar.muli v454 c512_i32_202
  let v456 : BitVec 32 := v455
  let v513 : Index := Scalar.indexCast v456
  ![0, 128, v513.toNat]
@[reducible] def k0_t7_loop (i : grid0.Coords) : Scf.Loop 32 :=
  let c0_i32_180 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_174 : BitVec 32 := 0#32
  let v386 : BitVec 1 := Scalar.cmpi .sgt v20 c0_i32_174
  let v387 : BitVec 32 := Scalar.extui v386
  let c0_i32_175 : BitVec 32 := 0#32
  let v388 : BitVec 1 := Scalar.cmpi .slt v20 c0_i32_175
  let v389 : BitVec 32 := Scalar.extui v388
  let v390 : BitVec 32 := Scalar.subi v387 v389
  let c2_i32_173 : BitVec 32 := 2#32
  let c0_i32_176 : BitVec 32 := 0#32
  let v391 : BitVec 1 := Scalar.cmpi .sgt c2_i32_173 c0_i32_176
  let v392 : BitVec 32 := Scalar.extui v391
  let c0_i32_177 : BitVec 32 := 0#32
  let v393 : BitVec 1 := Scalar.cmpi .slt c2_i32_173 c0_i32_177
  let v394 : BitVec 32 := Scalar.extui v393
  let v395 : BitVec 32 := Scalar.subi v392 v394
  let v396 : BitVec 1 := Scalar.cmpi .ne v390 v395
  let v397 : BitVec 32 := Scalar.remsi v20 c2_i32_173
  let c0_i32_178 : BitVec 32 := 0#32
  let v398 : BitVec 1 := Scalar.cmpi .ne v397 c0_i32_178
  let v399 : BitVec 1 := Scalar.andi v396 v398
  let v385 : BitVec 32 := Scalar.divsi v20 c2_i32_173
  let c1_i32_179 : BitVec 32 := 1#32
  let v400 : BitVec 32 := Scalar.subi v385 c1_i32_179
  let v401 : BitVec 32 := Scalar.select v399 v400 v385
  let v402 : BitVec 32 := Scalar.subi v401 c0_i32_180
  let c1_i32_181 : BitVec 32 := 1#32
  let v404 : BitVec 32 := Scalar.divsi v402 c1_i32_181
  let v405 : BitVec 32 := Scalar.muli v404 c1_i32_181
  let v406 : BitVec 32 := Scalar.addi c0_i32_180 v405
  let v403 : BitVec 32 := Scalar.addi c0_i32_180 v402
  let c1_i32_183 : BitVec 32 := 1#32
  ⟨v406, v403, c1_i32_183⟩
def k0_off77 (i : grid0.Coords) (k0_t7 : Fin (k0_t7_loop i).trips) (c0_i32_196 : BitVec 32) : Fin 3 → Nat :=
  let c2_i32_195 : BitVec 32 := 2#32
  let c0_i32_180 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_174 : BitVec 32 := 0#32
  let v386 : BitVec 1 := Scalar.cmpi .sgt v20 c0_i32_174
  let v387 : BitVec 32 := Scalar.extui v386
  let c0_i32_175 : BitVec 32 := 0#32
  let v388 : BitVec 1 := Scalar.cmpi .slt v20 c0_i32_175
  let v389 : BitVec 32 := Scalar.extui v388
  let v390 : BitVec 32 := Scalar.subi v387 v389
  let c2_i32_173 : BitVec 32 := 2#32
  let c0_i32_176 : BitVec 32 := 0#32
  let v391 : BitVec 1 := Scalar.cmpi .sgt c2_i32_173 c0_i32_176
  let v392 : BitVec 32 := Scalar.extui v391
  let c0_i32_177 : BitVec 32 := 0#32
  let v393 : BitVec 1 := Scalar.cmpi .slt c2_i32_173 c0_i32_177
  let v394 : BitVec 32 := Scalar.extui v393
  let v395 : BitVec 32 := Scalar.subi v392 v394
  let v396 : BitVec 1 := Scalar.cmpi .ne v390 v395
  let v397 : BitVec 32 := Scalar.remsi v20 c2_i32_173
  let c0_i32_178 : BitVec 32 := 0#32
  let v398 : BitVec 1 := Scalar.cmpi .ne v397 c0_i32_178
  let v399 : BitVec 1 := Scalar.andi v396 v398
  let v385 : BitVec 32 := Scalar.divsi v20 c2_i32_173
  let c1_i32_179 : BitVec 32 := 1#32
  let v400 : BitVec 32 := Scalar.subi v385 c1_i32_179
  let v401 : BitVec 32 := Scalar.select v399 v400 v385
  let v402 : BitVec 32 := Scalar.subi v401 c0_i32_180
  let c1_i32_181 : BitVec 32 := 1#32
  let v404 : BitVec 32 := Scalar.divsi v402 c1_i32_181
  let v405 : BitVec 32 := Scalar.muli v404 c1_i32_181
  let v406 : BitVec 32 := Scalar.addi c0_i32_180 v405
  let c1_i32_183 : BitVec 32 := 1#32
  let arg12 : BitVec 32 := Scf.iv v406 c1_i32_183 k0_t7
  let v445 : BitVec 32 := Scalar.muli c2_i32_195 arg12
  let v446 : BitVec 32 := Scalar.addi v445 c0_i32_196
  let v447 : Index := Scalar.indexCast v446
  let c0_197 : Index := 0#32
  let c0_198 : Index := 0#32
  ![v447.toNat, 0, 0]
def k0_mult5 (i : grid0.Coords) (k0_t7 : Fin (k0_t7_loop i).trips) : BitVec 32 :=
  let c2_i32_195 : BitVec 32 := 2#32
  let c0_i32_180 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_174 : BitVec 32 := 0#32
  let v386 : BitVec 1 := Scalar.cmpi .sgt v20 c0_i32_174
  let v387 : BitVec 32 := Scalar.extui v386
  let c0_i32_175 : BitVec 32 := 0#32
  let v388 : BitVec 1 := Scalar.cmpi .slt v20 c0_i32_175
  let v389 : BitVec 32 := Scalar.extui v388
  let v390 : BitVec 32 := Scalar.subi v387 v389
  let c2_i32_173 : BitVec 32 := 2#32
  let c0_i32_176 : BitVec 32 := 0#32
  let v391 : BitVec 1 := Scalar.cmpi .sgt c2_i32_173 c0_i32_176
  let v392 : BitVec 32 := Scalar.extui v391
  let c0_i32_177 : BitVec 32 := 0#32
  let v393 : BitVec 1 := Scalar.cmpi .slt c2_i32_173 c0_i32_177
  let v394 : BitVec 32 := Scalar.extui v393
  let v395 : BitVec 32 := Scalar.subi v392 v394
  let v396 : BitVec 1 := Scalar.cmpi .ne v390 v395
  let v397 : BitVec 32 := Scalar.remsi v20 c2_i32_173
  let c0_i32_178 : BitVec 32 := 0#32
  let v398 : BitVec 1 := Scalar.cmpi .ne v397 c0_i32_178
  let v399 : BitVec 1 := Scalar.andi v396 v398
  let v385 : BitVec 32 := Scalar.divsi v20 c2_i32_173
  let c1_i32_179 : BitVec 32 := 1#32
  let v400 : BitVec 32 := Scalar.subi v385 c1_i32_179
  let v401 : BitVec 32 := Scalar.select v399 v400 v385
  let v402 : BitVec 32 := Scalar.subi v401 c0_i32_180
  let c1_i32_181 : BitVec 32 := 1#32
  let v404 : BitVec 32 := Scalar.divsi v402 c1_i32_181
  let v405 : BitVec 32 := Scalar.muli v404 c1_i32_181
  let v406 : BitVec 32 := Scalar.addi c0_i32_180 v405
  let c1_i32_183 : BitVec 32 := 1#32
  let arg12 : BitVec 32 := Scf.iv v406 c1_i32_183 k0_t7
  let v445 : BitVec 32 := Scalar.muli c2_i32_195 arg12
  let c0_i32_201 : BitVec 32 := 0#32
  let v454 : BitVec 32 := Scalar.addi v445 c0_i32_201
  let c512_i32_202 : BitVec 32 := 512#32
  let v455 : BitVec 32 := Scalar.muli v454 c512_i32_202
  v455
def k0_mult6 (i : grid0.Coords) (k0_t7 : Fin (k0_t7_loop i).trips) : BitVec 32 :=
  let c2_i32_195 : BitVec 32 := 2#32
  let c0_i32_180 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_174 : BitVec 32 := 0#32
  let v386 : BitVec 1 := Scalar.cmpi .sgt v20 c0_i32_174
  let v387 : BitVec 32 := Scalar.extui v386
  let c0_i32_175 : BitVec 32 := 0#32
  let v388 : BitVec 1 := Scalar.cmpi .slt v20 c0_i32_175
  let v389 : BitVec 32 := Scalar.extui v388
  let v390 : BitVec 32 := Scalar.subi v387 v389
  let c2_i32_173 : BitVec 32 := 2#32
  let c0_i32_176 : BitVec 32 := 0#32
  let v391 : BitVec 1 := Scalar.cmpi .sgt c2_i32_173 c0_i32_176
  let v392 : BitVec 32 := Scalar.extui v391
  let c0_i32_177 : BitVec 32 := 0#32
  let v393 : BitVec 1 := Scalar.cmpi .slt c2_i32_173 c0_i32_177
  let v394 : BitVec 32 := Scalar.extui v393
  let v395 : BitVec 32 := Scalar.subi v392 v394
  let v396 : BitVec 1 := Scalar.cmpi .ne v390 v395
  let v397 : BitVec 32 := Scalar.remsi v20 c2_i32_173
  let c0_i32_178 : BitVec 32 := 0#32
  let v398 : BitVec 1 := Scalar.cmpi .ne v397 c0_i32_178
  let v399 : BitVec 1 := Scalar.andi v396 v398
  let v385 : BitVec 32 := Scalar.divsi v20 c2_i32_173
  let c1_i32_179 : BitVec 32 := 1#32
  let v400 : BitVec 32 := Scalar.subi v385 c1_i32_179
  let v401 : BitVec 32 := Scalar.select v399 v400 v385
  let v402 : BitVec 32 := Scalar.subi v401 c0_i32_180
  let c1_i32_181 : BitVec 32 := 1#32
  let v404 : BitVec 32 := Scalar.divsi v402 c1_i32_181
  let v405 : BitVec 32 := Scalar.muli v404 c1_i32_181
  let v406 : BitVec 32 := Scalar.addi c0_i32_180 v405
  let c1_i32_183 : BitVec 32 := 1#32
  let arg12 : BitVec 32 := Scf.iv v406 c1_i32_183 k0_t7
  let v445 : BitVec 32 := Scalar.muli c2_i32_195 arg12
  let c1_i32_208 : BitVec 32 := 1#32
  let v466 : BitVec 32 := Scalar.addi v445 c1_i32_208
  let c512_i32_209 : BitVec 32 := 512#32
  let v467 : BitVec 32 := Scalar.muli v466 c512_i32_209
  v467
def k0_off78 (i : grid0.Coords) (k0_t7 : Fin (k0_t7_loop i).trips) (c0_i32_201 : BitVec 32) : Fin 3 → Nat :=
  let c0_210 : Index := 0#32
  let c2_i32_195 : BitVec 32 := 2#32
  let c0_i32_180 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_174 : BitVec 32 := 0#32
  let v386 : BitVec 1 := Scalar.cmpi .sgt v20 c0_i32_174
  let v387 : BitVec 32 := Scalar.extui v386
  let c0_i32_175 : BitVec 32 := 0#32
  let v388 : BitVec 1 := Scalar.cmpi .slt v20 c0_i32_175
  let v389 : BitVec 32 := Scalar.extui v388
  let v390 : BitVec 32 := Scalar.subi v387 v389
  let c2_i32_173 : BitVec 32 := 2#32
  let c0_i32_176 : BitVec 32 := 0#32
  let v391 : BitVec 1 := Scalar.cmpi .sgt c2_i32_173 c0_i32_176
  let v392 : BitVec 32 := Scalar.extui v391
  let c0_i32_177 : BitVec 32 := 0#32
  let v393 : BitVec 1 := Scalar.cmpi .slt c2_i32_173 c0_i32_177
  let v394 : BitVec 32 := Scalar.extui v393
  let v395 : BitVec 32 := Scalar.subi v392 v394
  let v396 : BitVec 1 := Scalar.cmpi .ne v390 v395
  let v397 : BitVec 32 := Scalar.remsi v20 c2_i32_173
  let c0_i32_178 : BitVec 32 := 0#32
  let v398 : BitVec 1 := Scalar.cmpi .ne v397 c0_i32_178
  let v399 : BitVec 1 := Scalar.andi v396 v398
  let v385 : BitVec 32 := Scalar.divsi v20 c2_i32_173
  let c1_i32_179 : BitVec 32 := 1#32
  let v400 : BitVec 32 := Scalar.subi v385 c1_i32_179
  let v401 : BitVec 32 := Scalar.select v399 v400 v385
  let v402 : BitVec 32 := Scalar.subi v401 c0_i32_180
  let c1_i32_181 : BitVec 32 := 1#32
  let v404 : BitVec 32 := Scalar.divsi v402 c1_i32_181
  let v405 : BitVec 32 := Scalar.muli v404 c1_i32_181
  let v406 : BitVec 32 := Scalar.addi c0_i32_180 v405
  let c1_i32_183 : BitVec 32 := 1#32
  let arg12 : BitVec 32 := Scf.iv v406 c1_i32_183 k0_t7
  let v445 : BitVec 32 := Scalar.muli c2_i32_195 arg12
  let v454 : BitVec 32 := Scalar.addi v445 c0_i32_201
  let c512_i32_202 : BitVec 32 := 512#32
  let v455 : BitVec 32 := Scalar.muli v454 c512_i32_202
  let v456 : BitVec 32 := v455
  let v470 : Index := Scalar.indexCast v456
  let c0_211 : Index := 0#32
  ![0, v470.toNat, 0]
def k0_off79 (i : grid0.Coords) (k0_t7 : Fin (k0_t7_loop i).trips) (c0_i32_201 : BitVec 32) : Fin 3 → Nat :=
  let c0_213 : Index := 0#32
  let c2_i32_195 : BitVec 32 := 2#32
  let c0_i32_180 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_174 : BitVec 32 := 0#32
  let v386 : BitVec 1 := Scalar.cmpi .sgt v20 c0_i32_174
  let v387 : BitVec 32 := Scalar.extui v386
  let c0_i32_175 : BitVec 32 := 0#32
  let v388 : BitVec 1 := Scalar.cmpi .slt v20 c0_i32_175
  let v389 : BitVec 32 := Scalar.extui v388
  let v390 : BitVec 32 := Scalar.subi v387 v389
  let c2_i32_173 : BitVec 32 := 2#32
  let c0_i32_176 : BitVec 32 := 0#32
  let v391 : BitVec 1 := Scalar.cmpi .sgt c2_i32_173 c0_i32_176
  let v392 : BitVec 32 := Scalar.extui v391
  let c0_i32_177 : BitVec 32 := 0#32
  let v393 : BitVec 1 := Scalar.cmpi .slt c2_i32_173 c0_i32_177
  let v394 : BitVec 32 := Scalar.extui v393
  let v395 : BitVec 32 := Scalar.subi v392 v394
  let v396 : BitVec 1 := Scalar.cmpi .ne v390 v395
  let v397 : BitVec 32 := Scalar.remsi v20 c2_i32_173
  let c0_i32_178 : BitVec 32 := 0#32
  let v398 : BitVec 1 := Scalar.cmpi .ne v397 c0_i32_178
  let v399 : BitVec 1 := Scalar.andi v396 v398
  let v385 : BitVec 32 := Scalar.divsi v20 c2_i32_173
  let c1_i32_179 : BitVec 32 := 1#32
  let v400 : BitVec 32 := Scalar.subi v385 c1_i32_179
  let v401 : BitVec 32 := Scalar.select v399 v400 v385
  let v402 : BitVec 32 := Scalar.subi v401 c0_i32_180
  let c1_i32_181 : BitVec 32 := 1#32
  let v404 : BitVec 32 := Scalar.divsi v402 c1_i32_181
  let v405 : BitVec 32 := Scalar.muli v404 c1_i32_181
  let v406 : BitVec 32 := Scalar.addi c0_i32_180 v405
  let c1_i32_183 : BitVec 32 := 1#32
  let arg12 : BitVec 32 := Scf.iv v406 c1_i32_183 k0_t7
  let v445 : BitVec 32 := Scalar.muli c2_i32_195 arg12
  let v454 : BitVec 32 := Scalar.addi v445 c0_i32_201
  let c512_i32_202 : BitVec 32 := 512#32
  let v455 : BitVec 32 := Scalar.muli v454 c512_i32_202
  let v456 : BitVec 32 := v455
  let v475 : Index := Scalar.indexCast v456
  let c128 : Index := 128#32
  ![0, v475.toNat, 128]
def k0_off80 (i : grid0.Coords) (k0_t7 : Fin (k0_t7_loop i).trips) (c0_i32_201 : BitVec 32) : Fin 3 → Nat :=
  let c0_219 : Index := 0#32
  let c0_220 : Index := 0#32
  let c2_i32_195 : BitVec 32 := 2#32
  let c0_i32_180 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_174 : BitVec 32 := 0#32
  let v386 : BitVec 1 := Scalar.cmpi .sgt v20 c0_i32_174
  let v387 : BitVec 32 := Scalar.extui v386
  let c0_i32_175 : BitVec 32 := 0#32
  let v388 : BitVec 1 := Scalar.cmpi .slt v20 c0_i32_175
  let v389 : BitVec 32 := Scalar.extui v388
  let v390 : BitVec 32 := Scalar.subi v387 v389
  let c2_i32_173 : BitVec 32 := 2#32
  let c0_i32_176 : BitVec 32 := 0#32
  let v391 : BitVec 1 := Scalar.cmpi .sgt c2_i32_173 c0_i32_176
  let v392 : BitVec 32 := Scalar.extui v391
  let c0_i32_177 : BitVec 32 := 0#32
  let v393 : BitVec 1 := Scalar.cmpi .slt c2_i32_173 c0_i32_177
  let v394 : BitVec 32 := Scalar.extui v393
  let v395 : BitVec 32 := Scalar.subi v392 v394
  let v396 : BitVec 1 := Scalar.cmpi .ne v390 v395
  let v397 : BitVec 32 := Scalar.remsi v20 c2_i32_173
  let c0_i32_178 : BitVec 32 := 0#32
  let v398 : BitVec 1 := Scalar.cmpi .ne v397 c0_i32_178
  let v399 : BitVec 1 := Scalar.andi v396 v398
  let v385 : BitVec 32 := Scalar.divsi v20 c2_i32_173
  let c1_i32_179 : BitVec 32 := 1#32
  let v400 : BitVec 32 := Scalar.subi v385 c1_i32_179
  let v401 : BitVec 32 := Scalar.select v399 v400 v385
  let v402 : BitVec 32 := Scalar.subi v401 c0_i32_180
  let c1_i32_181 : BitVec 32 := 1#32
  let v404 : BitVec 32 := Scalar.divsi v402 c1_i32_181
  let v405 : BitVec 32 := Scalar.muli v404 c1_i32_181
  let v406 : BitVec 32 := Scalar.addi c0_i32_180 v405
  let c1_i32_183 : BitVec 32 := 1#32
  let arg12 : BitVec 32 := Scf.iv v406 c1_i32_183 k0_t7
  let v445 : BitVec 32 := Scalar.muli c2_i32_195 arg12
  let v454 : BitVec 32 := Scalar.addi v445 c0_i32_201
  let c512_i32_202 : BitVec 32 := 512#32
  let v455 : BitVec 32 := Scalar.muli v454 c512_i32_202
  let v456 : BitVec 32 := v455
  let v492 : Index := Scalar.indexCast v456
  ![0, 0, v492.toNat]
def k0_off81 (i : grid0.Coords) (k0_t7 : Fin (k0_t7_loop i).trips) (c0_i32_201 : BitVec 32) : Fin 3 → Nat :=
  let c0_226 : Index := 0#32
  let c128_227 : Index := 128#32
  let c2_i32_195 : BitVec 32 := 2#32
  let c0_i32_180 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_174 : BitVec 32 := 0#32
  let v386 : BitVec 1 := Scalar.cmpi .sgt v20 c0_i32_174
  let v387 : BitVec 32 := Scalar.extui v386
  let c0_i32_175 : BitVec 32 := 0#32
  let v388 : BitVec 1 := Scalar.cmpi .slt v20 c0_i32_175
  let v389 : BitVec 32 := Scalar.extui v388
  let v390 : BitVec 32 := Scalar.subi v387 v389
  let c2_i32_173 : BitVec 32 := 2#32
  let c0_i32_176 : BitVec 32 := 0#32
  let v391 : BitVec 1 := Scalar.cmpi .sgt c2_i32_173 c0_i32_176
  let v392 : BitVec 32 := Scalar.extui v391
  let c0_i32_177 : BitVec 32 := 0#32
  let v393 : BitVec 1 := Scalar.cmpi .slt c2_i32_173 c0_i32_177
  let v394 : BitVec 32 := Scalar.extui v393
  let v395 : BitVec 32 := Scalar.subi v392 v394
  let v396 : BitVec 1 := Scalar.cmpi .ne v390 v395
  let v397 : BitVec 32 := Scalar.remsi v20 c2_i32_173
  let c0_i32_178 : BitVec 32 := 0#32
  let v398 : BitVec 1 := Scalar.cmpi .ne v397 c0_i32_178
  let v399 : BitVec 1 := Scalar.andi v396 v398
  let v385 : BitVec 32 := Scalar.divsi v20 c2_i32_173
  let c1_i32_179 : BitVec 32 := 1#32
  let v400 : BitVec 32 := Scalar.subi v385 c1_i32_179
  let v401 : BitVec 32 := Scalar.select v399 v400 v385
  let v402 : BitVec 32 := Scalar.subi v401 c0_i32_180
  let c1_i32_181 : BitVec 32 := 1#32
  let v404 : BitVec 32 := Scalar.divsi v402 c1_i32_181
  let v405 : BitVec 32 := Scalar.muli v404 c1_i32_181
  let v406 : BitVec 32 := Scalar.addi c0_i32_180 v405
  let c1_i32_183 : BitVec 32 := 1#32
  let arg12 : BitVec 32 := Scf.iv v406 c1_i32_183 k0_t7
  let v445 : BitVec 32 := Scalar.muli c2_i32_195 arg12
  let v454 : BitVec 32 := Scalar.addi v445 c0_i32_201
  let c512_i32_202 : BitVec 32 := 512#32
  let v455 : BitVec 32 := Scalar.muli v454 c512_i32_202
  let v456 : BitVec 32 := v455
  let v513 : Index := Scalar.indexCast v456
  ![0, 128, v513.toNat]
def k0_cond3 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_184 : BitVec 32 := 2#32
  let c0_i32_185 : BitVec 32 := 0#32
  let v409 : BitVec 1 := Scalar.cmpi .eq c2_i32_184 c0_i32_185
  let c1_i32_186 : BitVec 32 := 1#32
  let v410 : BitVec 32 := Scalar.select v409 c1_i32_186 c2_i32_184
  let v411 : BitVec 32 := Scalar.remsi v20 v410
  let c0_i32_188 : BitVec 32 := 0#32
  let v413 : BitVec 1 := Scalar.cmpi .slt v411 c0_i32_188
  let c0_i32_189 : BitVec 32 := 0#32
  let v414 : BitVec 1 := Scalar.cmpi .slt v410 c0_i32_189
  let v415 : BitVec 1 := Scalar.xori v413 v414
  let c0_i32_187 : BitVec 32 := 0#32
  let v412 : BitVec 1 := Scalar.cmpi .ne v411 c0_i32_187
  let v416 : BitVec 1 := Scalar.andi v415 v412
  let v417 : BitVec 32 := Scalar.addi v411 v410
  let v418 : BitVec 32 := Scalar.select v416 v417 v411
  let c1_i32_190 : BitVec 32 := 1#32
  let v419 : BitVec 1 := Scalar.cmpi .eq v418 c1_i32_190
  let v420 : BitVec 32 := Scalar.extui v419
  let c0_i32_191 : BitVec 32 := 0#32
  let v421 : BitVec 1 := Scalar.cmpi .ne v420 c0_i32_191
  v421

def k0_off82 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_195 : BitVec 32 := 1#32
  let v445 : BitVec 32 := Scalar.subi v20 c1_i32_195
  let c0_i32_196 : BitVec 32 := 0#32
  let v446 : BitVec 32 := Scalar.addi v445 c0_i32_196
  let v447 : Index := Scalar.indexCast v446
  let c0_197 : Index := 0#32
  let c0_198 : Index := 0#32
  ![v447.toNat, 0, 0]
def k0_mult7 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_195 : BitVec 32 := 1#32
  let v445 : BitVec 32 := Scalar.subi v20 c1_i32_195
  let c0_i32_201 : BitVec 32 := 0#32
  let v454 : BitVec 32 := Scalar.addi v445 c0_i32_201
  let c512_i32_202 : BitVec 32 := 512#32
  let v455 : BitVec 32 := Scalar.muli v454 c512_i32_202
  v455
def k0_off83 (i : grid0.Coords) : Fin 3 → Nat :=
  let c0_203 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_195 : BitVec 32 := 1#32
  let v445 : BitVec 32 := Scalar.subi v20 c1_i32_195
  let c0_i32_201 : BitVec 32 := 0#32
  let v454 : BitVec 32 := Scalar.addi v445 c0_i32_201
  let c512_i32_202 : BitVec 32 := 512#32
  let v455 : BitVec 32 := Scalar.muli v454 c512_i32_202
  let v456 : BitVec 32 := v455
  let v458 : Index := Scalar.indexCast v456
  let c0_204 : Index := 0#32
  ![0, v458.toNat, 0]
def k0_off84 (i : grid0.Coords) : Fin 3 → Nat :=
  let c0_206 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_195 : BitVec 32 := 1#32
  let v445 : BitVec 32 := Scalar.subi v20 c1_i32_195
  let c0_i32_201 : BitVec 32 := 0#32
  let v454 : BitVec 32 := Scalar.addi v445 c0_i32_201
  let c512_i32_202 : BitVec 32 := 512#32
  let v455 : BitVec 32 := Scalar.muli v454 c512_i32_202
  let v456 : BitVec 32 := v455
  let v463 : Index := Scalar.indexCast v456
  let c128 : Index := 128#32
  ![0, v463.toNat, 128]
def k0_off85 (i : grid0.Coords) : Fin 3 → Nat :=
  let c0_209 : Index := 0#32
  let c0_210 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_195 : BitVec 32 := 1#32
  let v445 : BitVec 32 := Scalar.subi v20 c1_i32_195
  let c0_i32_201 : BitVec 32 := 0#32
  let v454 : BitVec 32 := Scalar.addi v445 c0_i32_201
  let c512_i32_202 : BitVec 32 := 512#32
  let v455 : BitVec 32 := Scalar.muli v454 c512_i32_202
  let v456 : BitVec 32 := v455
  let v475 : Index := Scalar.indexCast v456
  ![0, 0, v475.toNat]
def k0_off86 (i : grid0.Coords) : Fin 3 → Nat :=
  let c0_213 : Index := 0#32
  let c128_214 : Index := 128#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_195 : BitVec 32 := 1#32
  let v445 : BitVec 32 := Scalar.subi v20 c1_i32_195
  let c0_i32_201 : BitVec 32 := 0#32
  let v454 : BitVec 32 := Scalar.addi v445 c0_i32_201
  let c512_i32_202 : BitVec 32 := 512#32
  let v455 : BitVec 32 := Scalar.muli v454 c512_i32_202
  let v456 : BitVec 32 := v455
  let v491 : Index := Scalar.indexCast v456
  ![0, 128, v491.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x4096, .f32⟩
  | .hbm, ⟨22, _⟩ => ⟨S_, .f32⟩
  | .hbm, ⟨23, _⟩ => ⟨S32768x4096, .f32⟩
  | .hbm, ⟨24, _⟩ => ⟨S32768x4096, .f32⟩
  | .hbm, ⟨25, _⟩ => ⟨S32768x4096, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S1x1024, .f32⟩
  | .hbm, ⟨42, _⟩ => ⟨S32768x1024, .f32⟩
  | .hbm, ⟨43, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel3.lean ====
abbrev S32768x1024 : Shape := ⟨2, ![32768, 1024]⟩
abbrev S32768x4096 : Shape := ⟨2, ![32768, 4096]⟩
abbrev S32768x512 : Shape := ⟨2, ![32768, 512]⟩
abbrev S4x1024 : Shape := ⟨2, ![4, 1024]⟩
abbrev S4x512x1024 : Shape := ⟨3, ![4, 512, 1024]⟩
abbrev S1024x1024 : Shape := ⟨2, ![1024, 1024]⟩
abbrev S512x1024 : Shape := ⟨2, ![512, 1024]⟩
abbrev S512x4096 : Shape := ⟨2, ![512, 4096]⟩
abbrev S512x512 : Shape := ⟨2, ![512, 512]⟩
abbrev S1x1024 : Shape := ⟨2, ![1, 1024]⟩
abbrev S1x512x1024 : Shape := ⟨3, ![1, 512, 1024]⟩

abbrev nBuf : Space → Nat
  | .hbm => 17
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S32768x4096, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S4x1024, .f32⟩
  | .hbm, ⟨7, _⟩ => ⟨S4x512x1024, .f32⟩
  | .hbm, ⟨8, _⟩ => ⟨S1024x1024, .f32⟩
  | .hbm, ⟨9, _⟩ => ⟨S32768x4096, .bf16⟩
  | .hbm, ⟨10, _⟩ => ⟨S32768x512, .bf16⟩
  | .hbm, ⟨11, _⟩ => ⟨S32768x512, .bf16⟩
  | .hbm, ⟨12, _⟩ => ⟨S32768x512, .bf16⟩
  | .hbm, ⟨13, _⟩ => ⟨S32768x512, .bf16⟩
  | .hbm, ⟨14, _⟩ => ⟨S4x512x1024, .bf16⟩
  | .hbm, ⟨15, _⟩ => ⟨S1024x1024, .bf16⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S4x1024, .f32⟩
  | .local _ .vmem, ⟨13, _⟩ => ⟨S4x512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x1024 : Shape := ⟨2, ![32768, 1024]⟩
abbrev S32768x4096 : Shape := ⟨2, ![32768, 4096]⟩
abbrev S32768x512 : Shape := ⟨2, ![32768, 512]⟩
abbrev S4x1024 : Shape := ⟨2, ![4, 1024]⟩
abbrev S4x512x1024 : Shape := ⟨3, ![4, 512, 1024]⟩
abbrev S1024x1024 : Shape := ⟨2, ![1024, 1024]⟩
abbrev S32768x4x1024 : Shape := ⟨3, ![32768, 4, 1024]⟩
abbrev S1x4x1024 : Shape := ⟨3, ![1, 4, 1024]⟩
abbrev S_ : Shape := ⟨0, ![]⟩
abbrev S32768x1x1024 : Shape := ⟨3, ![32768, 1, 1024]⟩
abbrev S1x512x1024 : Shape := ⟨3, ![1, 512, 1024]⟩
abbrev S512x1024 : Shape := ⟨2, ![512, 1024]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x4096, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S4x1024, .f32⟩
  | .hbm, ⟨7, _⟩ => ⟨S4x512x1024, .f32⟩
  | .hbm, ⟨8, _⟩ => ⟨S1024x1024, .f32⟩
  | .hbm, ⟨9, _⟩ => ⟨S32768x4x1024, .f32⟩
  | .hbm, ⟨10, _⟩ => ⟨S1x4x1024, .f32⟩
  | .hbm, ⟨11, _⟩ => ⟨S32768x4x1024, .f32⟩
  | .hbm, ⟨12, _⟩ => ⟨S32768x4x1024, .f32⟩
  | .hbm, ⟨13, _⟩ => ⟨S32768x4x1024, .f32⟩
  | .hbm, ⟨14, _⟩ => ⟨S32768x4x1024, .f32⟩
  | .hbm, ⟨15, _⟩ => ⟨S_, .f32⟩
  | .hbm, ⟨16, _⟩ => ⟨S32768x4x1024, .f32⟩
  | .hbm, ⟨17, _⟩ => ⟨S32768x4x1024, .f32⟩
  | .hbm, ⟨18, _⟩ => ⟨S_, .f32⟩
  | .hbm, ⟨19, _⟩ => ⟨S32768x4x1024, .f32⟩
  | .hbm, ⟨20, _⟩ => ⟨S32768x4x1024, .f32⟩
  | .hbm, ⟨21, _⟩ => ⟨S32768x1x1024, .f32⟩
  | .hbm, ⟨22, _⟩ => ⟨S32768x1024, .f32⟩
  | .hbm, ⟨23, _⟩ => ⟨S1x512x1024, .f32⟩
  | .hbm, ⟨24, _⟩ => ⟨S512x1024, .f32⟩
  | .hbm, ⟨25, _⟩ => ⟨S32768x1024, .f32⟩
  | .hbm, ⟨26, _⟩ => ⟨S32768x1024, .f32⟩
  | .hbm, ⟨27, _⟩ => ⟨S32768x1x1024, .f32⟩
  | .hbm, ⟨28, _⟩ => ⟨S32768x1024, .f32⟩
  | .hbm, ⟨29, _⟩ => ⟨S1x512x1024, .f32⟩
  | .hbm, ⟨30, _⟩ => ⟨S512x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1x1024, .f32⟩
  | .hbm, ⟨35, _⟩ => ⟨S32768x1024, .f32⟩
  | .hbm, ⟨36, _⟩ => ⟨S1x512x1024, .f32⟩
  | .hbm, ⟨37, _⟩ => ⟨S512x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1x1024, .f32⟩
  | .hbm, ⟨42, _⟩ => ⟨S32768x1024, .f32⟩
  | .hbm, ⟨43, _⟩ => ⟨S1x512x1024, .f32⟩
  | .hbm, ⟨44, _⟩ => ⟨S512x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x8932 : Shape := ⟨2, ![1024, 8932]⟩
abbrev S1x1024 : Shape := ⟨2, ![1, 1024]⟩
abbrev S1024x4096 : Shape := ⟨2, ![1024, 4096]⟩
abbrev S32768x4096 : Shape := ⟨2, ![32768, 4096]⟩
abbrev S1024x1024 : Shape := ⟨2, ![1024, 1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8932, .f32⟩
  | .hbm, ⟨3, _⟩ => ⟨S1x1024, .f32⟩
  | .hbm, ⟨4, _⟩ => ⟨S1024x4096, .f32⟩
  | .hbm, ⟨5, _⟩ => ⟨S1024x4096, .bf16⟩
  | .hbm, ⟨6, _⟩ => ⟨S32768x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S32768x1024 : Shape := ⟨2, ![32768, 1024]⟩
abbrev S1024 : Shape := ⟨1, ![1024]⟩
abbrev S1024x8932 : Shape := ⟨2, ![1024, 8932]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8932 : Shape := ⟨2, ![32768, 8932]⟩
abbrev S32768x4096 : Shape := ⟨2, ![32768, 4096]⟩

abbrev nBuf : Space → Nat
  | .hbm => 22
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8932, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x8932, .f32⟩
  | .hbm, ⟨20, _⟩ => ⟨S32768x4096, .f32⟩
  | .hbm, ⟨21, _⟩ => ⟨S32768x4096, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x4096, .f32⟩
  | .hbm, ⟨22, _⟩ => ⟨S_, .f32⟩
  | .hbm, ⟨23, _⟩ => ⟨S32768x4096, .f32⟩
  | .hbm, ⟨24, _⟩ => ⟨S32768x4096, .f32⟩
  | .hbm, ⟨25, _⟩ => ⟨S32768x4096, .f32⟩
  | .hbm, ⟨26, _⟩ => ⟨S32768x1024, .f32⟩
  | .hbm, ⟨27, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel6.lean ====
abbrev S32768x1024 : Shape := ⟨2, ![32768, 1024]⟩
abbrev S1024 : Shape := ⟨1, ![1024]⟩
abbrev S1024x8932 : Shape := ⟨2, ![1024, 8932]⟩
abbrev S1x1024 : Shape := ⟨2, ![1, 1024]⟩
abbrev S1024x512 : Shape := ⟨2, ![1024, 512]⟩
abbrev S32768x512 : Shape := ⟨2, ![32768, 512]⟩
abbrev S1024x1024 : Shape := ⟨2, ![1024, 1024]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8932, .f32⟩
  | .hbm, ⟨3, _⟩ => ⟨S1x1024, .f32⟩
  | .hbm, ⟨4, _⟩ => ⟨S1024x512, .f32⟩
  | .hbm, ⟨5, _⟩ => ⟨S1024x512, .bf16⟩
  | .hbm, ⟨6, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S32768x1024 : Shape := ⟨2, ![32768, 1024]⟩
abbrev S1024 : Shape := ⟨1, ![1024]⟩
abbrev S1024x8932 : Shape := ⟨2, ![1024, 8932]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8932 : Shape := ⟨2, ![32768, 8932]⟩
abbrev S32768x512 : Shape := ⟨2, ![32768, 512]⟩

abbrev nBuf : Space → Nat
  | .hbm => 22
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8932, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x8932, .f32⟩
  | .hbm, ⟨20, _⟩ => ⟨S32768x512, .f32⟩
  | .hbm, ⟨21, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S32768x1024 : Shape := ⟨2, ![32768, 1024]⟩
abbrev S1024 : Shape := ⟨1, ![1024]⟩
abbrev S1024x8932 : Shape := ⟨2, ![1024, 8932]⟩
abbrev S1024x1536 : Shape := ⟨2, ![1024, 1536]⟩
abbrev S1024x256 : Shape := ⟨2, ![1024, 256]⟩
abbrev S1024x512 : Shape := ⟨2, ![1024, 512]⟩
abbrev S1024x8x32 : Shape := ⟨3, ![1024, 8, 32]⟩
abbrev S1024x8x16 : Shape := ⟨3, ![1024, 8, 16]⟩
abbrev S1024x8x0 : Shape := ⟨3, ![1024, 8, 0]⟩
abbrev S_ : Shape := ⟨0, ![]⟩
abbrev S1024x8x64 : Shape := ⟨3, ![1024, 8, 64]⟩
abbrev S1024x2048 : Shape := ⟨2, ![1024, 2048]⟩
abbrev S1x1024 : Shape := ⟨2, ![1, 1024]⟩
abbrev S32768x2048 : Shape := ⟨2, ![32768, 2048]⟩
abbrev S1024x1024 : Shape := ⟨2, ![1024, 1024]⟩
abbrev S1024x1 : Shape := ⟨2, ![1024, 1]⟩

abbrev nBuf : Space → Nat
  | .hbm => 32
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8932, .f32⟩
  | .hbm, ⟨3, _⟩ => ⟨S1024x1536, .f32⟩
  | .hbm, ⟨4, _⟩ => ⟨S1024x256, .f32⟩
  | .hbm, ⟨5, _⟩ => ⟨S1024x256, .f32⟩
  | .hbm, ⟨6, _⟩ => ⟨S1024x512, .f32⟩
  | .hbm, ⟨7, _⟩ => ⟨S1024x512, .f32⟩
  | .hbm, ⟨8, _⟩ => ⟨S1024x8x32, .f32⟩
  | .hbm, ⟨9, _⟩ => ⟨S1024x8x16, .f32⟩
  | .hbm, ⟨10, _⟩ => ⟨S1024x8x16, .f32⟩
  | .hbm, ⟨11, _⟩ => ⟨S1024x8x16, .f32⟩
  | .hbm, ⟨12, _⟩ => ⟨S1024x8x0, .f32⟩
  | .hbm, ⟨13, _⟩ => ⟨S_, .f32⟩
  | .hbm, ⟨14, _⟩ => ⟨S1024x8x0, .f32⟩
  | .hbm, ⟨15, _⟩ => ⟨S1024x8x32, .f32⟩
  | .hbm, ⟨16, _⟩ => ⟨S1024x8x64, .f32⟩
  | .hbm, ⟨17, _⟩ => ⟨S1024x512, .f32⟩
  | .hbm, ⟨18, _⟩ => ⟨S1024x8x32, .f32⟩
  | .hbm, ⟨19, _⟩ => ⟨S1024x8x16, .f32⟩
  | .hbm, ⟨20, _⟩ => ⟨S1024x8x16, .f32⟩
  | .hbm, ⟨21, _⟩ => ⟨S1024x8x16, .f32⟩
  | .hbm, ⟨22, _⟩ => ⟨S1024x8x0, .f32⟩
  | .hbm, ⟨23, _⟩ => ⟨S_, .f32⟩
  | .hbm, ⟨24, _⟩ => ⟨S1024x8x0, .f32⟩
  | .hbm, ⟨25, _⟩ => ⟨S1024x8x32, .f32⟩
  | .hbm, ⟨26, _⟩ => ⟨S1024x8x64, .f32⟩
  | .hbm, ⟨27, _⟩ => ⟨S1024x512, .f32⟩
  | .hbm, ⟨28, _⟩ => ⟨S1024x2048, .f32⟩
  | .hbm, ⟨29, _⟩ => ⟨S1x1024, .f32⟩
  | .hbm, ⟨30, _⟩ => ⟨S1024x2048, .bf16⟩
  | .hbm, ⟨31, _⟩ => ⟨S32768x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S32768x1024 : Shape := ⟨2, ![32768, 1024]⟩
abbrev S1024 : Shape := ⟨1, ![1024]⟩
abbrev S1024x8932 : Shape := ⟨2, ![1024, 8932]⟩
abbrev S1024x1536 : Shape := ⟨2, ![1024, 1536]⟩
abbrev S1024x256 : Shape := ⟨2, ![1024, 256]⟩
abbrev S1024x8x32 : Shape := ⟨3, ![1024, 8, 32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x8x16 : Shape := ⟨3, ![1024, 8, 16]⟩
abbrev S1024x8x64 : Shape := ⟨3, ![1024, 8, 64]⟩
abbrev S1024x512 : Shape := ⟨2, ![1024, 512]⟩
abbrev S1024x1024 : Shape := ⟨2, ![1024, 1024]⟩
abbrev S1024x2048 : Shape := ⟨2, ![1024, 2048]⟩
abbrev S32768x2048 : Shape := ⟨2, ![32768, 2048]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8932, .f32⟩
  | .hbm, ⟨3, _⟩ => ⟨S1024x1536, .f32⟩
  | .hbm, ⟨4, _⟩ => ⟨S1024x256, .f32⟩
  | .hbm, ⟨5, _⟩ => ⟨S1024x8x32, .f32⟩
  | .hbm, ⟨6, _⟩ => ⟨S1024x256, .f32⟩
  | .hbm, ⟨7, _⟩ => ⟨S1024x8x32, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1024x8x16, .f32⟩
  | .hbm, ⟨25, _⟩ => ⟨S1024x8x16, .f32⟩
  | .hbm, ⟨26, _⟩ => ⟨S1024x8x16, .f32⟩
  | .hbm, ⟨27, _⟩ => ⟨S1024x8x64, .f32⟩
  | .hbm, ⟨28, _⟩ => ⟨S1024x512, .f32⟩
  | .hbm, ⟨29, _⟩ => ⟨S1024x8x16, .f32⟩
  | .hbm, ⟨30, _⟩ => ⟨S1024x8x16, .f32⟩
  | .hbm, ⟨31, _⟩ => ⟨S1024x8x16, .f32⟩
  | .hbm, ⟨32, _⟩ => ⟨S1024x8x64, .f32⟩
  | .hbm, ⟨33, _⟩ => ⟨S1024x512, .f32⟩
  | .hbm, ⟨34, _⟩ => ⟨S1024x1024, .f32⟩
  | .hbm, ⟨35, _⟩ => ⟨S1024x2048, .f32⟩
  | .hbm, ⟨36, _⟩ => ⟨S32768x2048, .f32⟩
  | .hbm, ⟨37, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== Kernel8.lean ====
abbrev S32768x1024 : Shape := ⟨2, ![32768, 1024]⟩
abbrev S1024 : Shape := ⟨1, ![1024]⟩
abbrev S1024x8932 : Shape := ⟨2, ![1024, 8932]⟩
abbrev S1024x1696 : Shape := ⟨2, ![1024, 1696]⟩
abbrev S1x1024 : Shape := ⟨2, ![1, 1024]⟩
abbrev S1024x512 : Shape := ⟨2, ![1024, 512]⟩
abbrev S1024x32 : Shape := ⟨2, ![1024, 32]⟩
abbrev S1024x96 : Shape := ⟨2, ![1024, 96]⟩
abbrev S_ : Shape := ⟨0, ![]⟩
abbrev S1024x1792 : Shape := ⟨2, ![1024, 1792]⟩
abbrev S32768x1792 : Shape := ⟨2, ![32768, 1792]⟩
abbrev S1024x1024 : Shape := ⟨2, ![1024, 1024]⟩
abbrev S1024x896 : Shape := ⟨2, ![1024, 896]⟩
abbrev S1024x1 : Shape := ⟨2, ![1024, 1]⟩

abbrev nBuf : Space → Nat
  | .hbm => 17
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8932, .f32⟩
  | .hbm, ⟨3, _⟩ => ⟨S1024x1696, .f32⟩
  | .hbm, ⟨4, _⟩ => ⟨S1x1024, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x32, .f32⟩
  | .hbm, ⟨9, _⟩ => ⟨S1024x32, .f32⟩
  | .hbm, ⟨10, _⟩ => ⟨S1024x96, .f32⟩
  | .hbm, ⟨11, _⟩ => ⟨S1024x1696, .f32⟩
  | .hbm, ⟨12, _⟩ => ⟨S_, .i32⟩
  | .hbm, ⟨13, _⟩ => ⟨S_, .f32⟩
  | .hbm, ⟨14, _⟩ => ⟨S1024x1792, .f32⟩
  | .hbm, ⟨15, _⟩ => ⟨S1024x1792, .bf16⟩
  | .hbm, ⟨16, _⟩ => ⟨S32768x1792, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .bf16⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S32768x1024 : Shape := ⟨2, ![32768, 1024]⟩
abbrev S1024 : Shape := ⟨1, ![1024]⟩
abbrev S1024x8932 : Shape := ⟨2, ![1024, 8932]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8932 : Shape := ⟨2, ![32768, 8932]⟩
abbrev S32768x1696 : Shape := ⟨2, ![32768, 1696]⟩
abbrev S32768x512 : Shape := ⟨2, ![32768, 512]⟩
abbrev S32768x32 : Shape := ⟨2, ![32768, 32]⟩
abbrev S32768x96 : Shape := ⟨2, ![32768, 96]⟩
abbrev S32768x1792 : Shape := ⟨2, ![32768, 1792]⟩

abbrev nBuf : Space → Nat
  | .hbm => 31
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8932, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x8932, .f32⟩
  | .hbm, ⟨20, _⟩ => ⟨S32768x1696, .f32⟩
  | .hbm, ⟨21, _⟩ => ⟨S32768x512, .f32⟩
  | .hbm, ⟨22, _⟩ => ⟨S32768x32, .f32⟩
  | .hbm, ⟨23, _⟩ => ⟨S32768x512, .f32⟩
  | .hbm, ⟨24, _⟩ => ⟨S32768x512, .f32⟩
  | .hbm, ⟨25, _⟩ => ⟨S32768x32, .f32⟩
  | .hbm, ⟨26, _⟩ => ⟨S32768x96, .f32⟩
  | .hbm, ⟨27, _⟩ => ⟨S_, .f32⟩
  | .hbm, ⟨28, _⟩ => ⟨S32768x96, .f32⟩
  | .hbm, ⟨29, _⟩ => ⟨S32768x1792, .f32⟩
  | .hbm, ⟨30, _⟩ => ⟨S32768x1792, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel9.lean ====
abbrev S32768x1024 : Shape := ⟨2, ![32768, 1024]⟩
abbrev S1024 : Shape := ⟨1, ![1024]⟩
abbrev S1024x8932 : Shape := ⟨2, ![1024, 8932]⟩
abbrev S1024x1092 : Shape := ⟨2, ![1024, 1092]⟩
abbrev S1024x512 : Shape := ⟨2, ![1024, 512]⟩
abbrev S1024x128 : Shape := ⟨2, ![1024, 128]⟩
abbrev S1024x256 : Shape := ⟨2, ![1024, 256]⟩
abbrev S1024x64 : Shape := ⟨2, ![1024, 64]⟩
abbrev S1024x4 : Shape := ⟨2, ![1024, 4]⟩
abbrev S1024x8x64 : Shape := ⟨3, ![1024, 8, 64]⟩
abbrev S1024x8x8 : Shape := ⟨3, ![1024, 8, 8]⟩
abbrev S1024x8x48 : Shape := ⟨3, ![1024, 8, 48]⟩
abbrev S_ : Shape := ⟨0, ![]⟩
abbrev S1024x8x128 : Shape := ⟨3, ![1024, 8, 128]⟩
abbrev S1024x1024 : Shape := ⟨2, ![1024, 1024]⟩
abbrev S1024x4x64 : Shape := ⟨3, ![1024, 4, 64]⟩
abbrev S1024x4x8 : Shape := ⟨3, ![1024, 4, 8]⟩
abbrev S1024x4x48 : Shape := ⟨3, ![1024, 4, 48]⟩
abbrev S1024x4x128 : Shape := ⟨3, ![1024, 4, 128]⟩
abbrev S1024x2x64 : Shape := ⟨3, ![1024, 2, 64]⟩
abbrev S1024x2x8 : Shape := ⟨3, ![1024, 2, 8]⟩
abbrev S1024x2x48 : Shape := ⟨3, ![1024, 2, 48]⟩
abbrev S1024x2x128 : Shape := ⟨3, ![1024, 2, 128]⟩
abbrev S1024x1x64 : Shape := ⟨3, ![1024, 1, 64]⟩
abbrev S1024x1x8 : Shape := ⟨3, ![1024, 1, 8]⟩
abbrev S1024x1x48 : Shape := ⟨3, ![1024, 1, 48]⟩
abbrev S1024x1x128 : Shape := ⟨3, ![1024, 1, 128]⟩
abbrev S1024x2176 : Shape := ⟨2, ![1024, 2176]⟩
abbrev S1x1024 : Shape := ⟨2, ![1, 1024]⟩
abbrev S1024x2304 : Shape := ⟨2, ![1024, 2304]⟩
abbrev S32768x2304 : Shape := ⟨2, ![32768, 2304]⟩
abbrev S1024x768 : Shape := ⟨2, ![1024, 768]⟩
abbrev S1024x1 : Shape := ⟨2, ![1024, 1]⟩

abbrev nBuf : Space → Nat
  | .hbm => 60
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8932, .f32⟩
  | .hbm, ⟨3, _⟩ => ⟨S1024x1092, .f32⟩
  | .hbm, ⟨4, _⟩ => ⟨S1024x512, .f32⟩
  | .hbm, ⟨5, _⟩ => ⟨S1024x128, .f32⟩
  | .hbm, ⟨6, _⟩ => ⟨S1024x128, .f32⟩
  | .hbm, ⟨7, _⟩ => ⟨S1024x256, .f32⟩
  | .hbm, ⟨8, _⟩ => ⟨S1024x64, .f32⟩
  | .hbm, ⟨9, _⟩ => ⟨S1024x4, .f32⟩
  | .hbm, ⟨10, _⟩ => ⟨S1024x8x64, .f32⟩
  | .hbm, ⟨11, _⟩ => ⟨S1024x8x8, .f32⟩
  | .hbm, ⟨12, _⟩ => ⟨S1024x8x8, .f32⟩
  | .hbm, ⟨13, _⟩ => ⟨S1024x8x8, .f32⟩
  | .hbm, ⟨14, _⟩ => ⟨S1024x8x48, .f32⟩
  | .hbm, ⟨15, _⟩ => ⟨S_, .f32⟩
  | .hbm, ⟨16, _⟩ => ⟨S1024x8x48, .f32⟩
  | .hbm, ⟨17, _⟩ => ⟨S1024x8x64, .f32⟩
  | .hbm, ⟨18, _⟩ => ⟨S1024x8x128, .f32⟩
  | .hbm, ⟨19, _⟩ => ⟨S1024x1024, .f32⟩
  | .hbm, ⟨20, _⟩ => ⟨S1024x4x64, .f32⟩
  | .hbm, ⟨21, _⟩ => ⟨S1024x4x8, .f32⟩
  | .hbm, ⟨22, _⟩ => ⟨S1024x4x8, .f32⟩
  | .hbm, ⟨23, _⟩ => ⟨S1024x4x8, .f32⟩
  | .hbm, ⟨24, _⟩ => ⟨S1024x4x48, .f32⟩
  | .hbm, ⟨25, _⟩ => ⟨S_, .f32⟩
  | .hbm, ⟨26, _⟩ => ⟨S1024x4x48, .f32⟩
  | .hbm, ⟨27, _⟩ => ⟨S1024x4x64, .f32⟩
  | .hbm, ⟨28, _⟩ => ⟨S1024x4x128, .f32⟩
  | .hbm, ⟨29, _⟩ => ⟨S1024x512, .f32⟩
  | .hbm, ⟨30, _⟩ => ⟨S1024x2x64, .f32⟩
  | .hbm, ⟨31, _⟩ => ⟨S1024x2x8, .f32⟩
  | .hbm, ⟨32, _⟩ => ⟨S1024x2x8, .f32⟩
  | .hbm, ⟨33, _⟩ => ⟨S1024x2x8, .f32⟩
  | .hbm, ⟨34, _⟩ => ⟨S1024x2x48, .f32⟩
  | .hbm, ⟨35, _⟩ => ⟨S_, .f32⟩
  | .hbm, ⟨36, _⟩ => ⟨S1024x2x48, .f32⟩
  | .hbm, ⟨37, _⟩ => ⟨S1024x2x64, .f32⟩
  | .hbm, ⟨38, _⟩ => ⟨S1024x2x128, .f32⟩
  | .hbm, ⟨39, _⟩ => ⟨S1024x256, .f32⟩
  | .hbm, ⟨40, _⟩ => ⟨S1024x1x64, .f32⟩
  | .hbm, ⟨41, _⟩ => ⟨S1024x1x8, .f32⟩
  | .hbm, ⟨42, _⟩ => ⟨S1024x1x8, .f32⟩
  | .hbm, ⟨43, _⟩ => ⟨S1024x1x8, .f32⟩
  | .hbm, ⟨44, _⟩ => ⟨S1024x1x48, .f32⟩
  | .hbm, ⟨45, _⟩ => ⟨S_, .f32⟩
  | .hbm, ⟨46, _⟩ => ⟨S1024x1x48, .f32⟩
  | .hbm, ⟨47, _⟩ => ⟨S1024x1x64, .f32⟩
  | .hbm, ⟨48, _⟩ => ⟨S1024x1x128, .f32⟩
  | .hbm, ⟨49, _⟩ => ⟨S1024x128, .f32⟩
  | .hbm, ⟨50, _⟩ => ⟨S_, .i32⟩
  | .hbm, ⟨51, _⟩ => ⟨S_, .f32⟩
  | .hbm, ⟨52, _⟩ => ⟨S1024x128, .f32⟩
  | .hbm, ⟨53, _⟩ => ⟨S1024x2176, .f32⟩
  | .hbm, ⟨54, _⟩ => ⟨S1x1024, .f32⟩
  | .hbm, ⟨55, _⟩ => ⟨S_, .i32⟩
  | .hbm, ⟨56, _⟩ => ⟨S_, .f32⟩
  | .hbm, ⟨57, _⟩ => ⟨S1024x2304, .f32⟩
  | .hbm, ⟨58, _⟩ => ⟨S1024x2304, .bf16⟩
  | .hbm, ⟨59, _⟩ => ⟨S32768x2304, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .f32⟩
  | .local _ .vmem, ⟨6, _⟩ => ⟨S1024x768, .f32⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_c : Ref sig .tc := ⟨.hbm, 50, rfl⟩
abbrev main_call0_v0 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c_3 : Ref sig .tc := ⟨.hbm, 55, rfl⟩
abbrev main_call1_v0 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S32768x1024 : Shape := ⟨2, ![32768, 1024]⟩
abbrev S1024 : Shape := ⟨1, ![1024]⟩
abbrev S1024x8932 : Shape := ⟨2, ![1024, 8932]⟩
abbrev S1024x512 : Shape := ⟨2, ![1024, 512]⟩
abbrev S1024x8x64 : Shape := ⟨3, ![1024, 8, 64]⟩
abbrev S1024x128 : Shape := ⟨2, ![1024, 128]⟩
abbrev S1024x2x64 : Shape := ⟨3, ![1024, 2, 64]⟩
abbrev S1024x256 : Shape := ⟨2, ![1024, 256]⟩
abbrev S1024x4x64 : Shape := ⟨3, ![1024, 4, 64]⟩
abbrev S1024x64 : Shape := ⟨2, ![1024, 64]⟩
abbrev S1024x1x64 : Shape := ⟨3, ![1024, 1, 64]⟩
abbrev S1024x4 : Shape := ⟨2, ![1024, 4]⟩
abbrev S1024x8x8 : Shape := ⟨3, ![1024, 8, 8]⟩
abbrev S_ : Shape := ⟨0, ![]⟩
abbrev S1024x8x48 : Shape := ⟨3, ![1024, 8, 48]⟩
abbrev S1024x8x128 : Shape := ⟨3, ![1024, 8, 128]⟩
abbrev S1024x1024 : Shape := ⟨2, ![1024, 1024]⟩
abbrev S1024x4x8 : Shape := ⟨3, ![1024, 4, 8]⟩
abbrev S1024x4x48 : Shape := ⟨3, ![1024, 4, 48]⟩
abbrev S1024x4x128 : Shape := ⟨3, ![1024, 4, 128]⟩
abbrev S1024x2x8 : Shape := ⟨3, ![1024, 2, 8]⟩
abbrev S1024x2x48 : Shape := ⟨3, ![1024, 2, 48]⟩
abbrev S1024x2x128 : Shape := ⟨3, ![1024, 2, 128]⟩
abbrev S1024x1x8 : Shape := ⟨3, ![1024, 1, 8]⟩
abbrev S1024x1x48 : Shape := ⟨3, ![1024, 1, 48]⟩
abbrev S1024x1x128 : Shape := ⟨3, ![1024, 1, 128]⟩
abbrev S1024x252 : Shape := ⟨2, ![1024, 252]⟩
abbrev S1024x2304 : Shape := ⟨2, ![1024, 2304]⟩
abbrev S32768 : Shape := ⟨1, ![32768]⟩
abbrev S32768x1 : Shape := ⟨2, ![32768, 1]⟩
abbrev S1x1024 : Shape := ⟨2, ![1, 1024]⟩
abbrev S32768x2304 : Shape := ⟨2, ![32768, 2304]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8932, .f32⟩
  | .hbm, ⟨3, _⟩ => ⟨S1024x512, .f32⟩
  | .hbm, ⟨4, _⟩ => ⟨S1024x8x64, .f32⟩
  | .hbm, ⟨5, _⟩ => ⟨S1024x128, .f32⟩
  | .hbm, ⟨6, _⟩ => ⟨S1024x2x64, .f32⟩
  | .hbm, ⟨7, _⟩ => ⟨S1024x128, .f32⟩
  | .hbm, ⟨8, _⟩ => ⟨S1024x256, .f32⟩
  | .hbm, ⟨9, _⟩ => ⟨S1024x4x64, .f32⟩
  | .hbm, ⟨10, _⟩ => ⟨S1024x64, .f32⟩
  | .hbm, ⟨11, _⟩ => ⟨S1024x1x64, .f32⟩
  | .hbm, ⟨12, _⟩ => ⟨S1024x4, .f32⟩
  | .hbm, ⟨13, _⟩ => ⟨S1024x8x8, .f32⟩
  | .hbm, ⟨14, _⟩ => ⟨S1024x8x8, .f32⟩
  | .hbm, ⟨15, _⟩ => ⟨S1024x8x8, .f32⟩
  | .hbm, ⟨16, _⟩ => ⟨S_, .f32⟩
  | .hbm, ⟨17, _⟩ => ⟨S1024x8x48, .f32⟩
  | .hbm, ⟨18, _⟩ => ⟨S1024x8x128, .f32⟩
  | .hbm, ⟨19, _⟩ => ⟨S1024x1024, .f32⟩
  | .hbm, ⟨20, _⟩ => ⟨S1024x4x8, .f32⟩
  | .hbm, ⟨21, _⟩ => ⟨S1024x4x8, .f32⟩
  | .hbm, ⟨22, _⟩ => ⟨S1024x4x8, .f32⟩
  | .hbm, ⟨23, _⟩ => ⟨S_, .f32⟩
  | .hbm, ⟨24, _⟩ => ⟨S1024x4x48, .f32⟩
  | .hbm, ⟨25, _⟩ => ⟨S1024x4x128, .f32⟩
  | .hbm, ⟨26, _⟩ => ⟨S1024x512, .f32⟩
  | .hbm, ⟨27, _⟩ => ⟨S1024x2x8, .f32⟩
  | .hbm, ⟨28, _⟩ => ⟨S1024x2x8, .f32⟩
  | .hbm, ⟨29, _⟩ => ⟨S1024x2x8, .f32⟩
  | .hbm, ⟨30, _⟩ => ⟨S_, .f32⟩
  | .hbm, ⟨31, _⟩ => ⟨S1024x2x48, .f32⟩
  | .hbm, ⟨32, _⟩ => ⟨S1024x2x128, .f32⟩
  | .hbm, ⟨33, _⟩ => ⟨S1024x256, .f32⟩
  | .hbm, ⟨34, _⟩ => ⟨S1024x1x8, .f32⟩
  | .hbm, ⟨35, _⟩ => ⟨S1024x1x8, .f32⟩
  | .hbm, ⟨36, _⟩ => ⟨S1024x1x8, .f32⟩
  | .hbm, ⟨37, _⟩ => ⟨S_, .f32⟩
  | .hbm, ⟨38, _⟩ => ⟨S1024x1x48, .f32⟩
  | .hbm, ⟨39, _⟩ => ⟨S1024x1x128, .f32⟩
  | .hbm, ⟨40, _⟩ => ⟨S1024x128, .f32⟩
  | .hbm, ⟨41, _⟩ => ⟨S_, .f32⟩
  | .hbm, ⟨42, _⟩ => ⟨S1024x252, .f32⟩
  | .hbm, ⟨43, _⟩ => ⟨S1024x2304, .f32⟩
  | .hbm, ⟨44, _⟩ => ⟨S32768x1024, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x1024, .f32⟩
  | .hbm, ⟨56, _⟩ => ⟨S32768x1024, .f32⟩
  | .hbm, ⟨57, _⟩ => ⟨S1x1024, .f32⟩
  | .hbm, ⟨58, _⟩ => ⟨S32768x1024, .f32⟩
  | .hbm, ⟨59, _⟩ => ⟨S32768x1024, .f32⟩
  | .hbm, ⟨60, _⟩ => ⟨S32768x2304, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== Kernel10.lean ====
abbrev S4x8192x512 : Shape := ⟨3, ![4, 8192, 512]⟩
abbrev S4x128x128 : Shape := ⟨3, ![4, 128, 128]⟩
abbrev S512 : Shape := ⟨1, ![512]⟩
abbrev S1x512 : Shape := ⟨2, ![1, 512]⟩
abbrev S1x512x512 : Shape := ⟨3, ![1, 512, 512]⟩
abbrev S16x512 : Shape := ⟨2, ![16, 512]⟩
abbrev S512x512 : Shape := ⟨2, ![512, 512]⟩
abbrev S528x512 : Shape := ⟨2, ![528, 512]⟩
abbrev S528x384 : Shape := ⟨2, ![528, 384]⟩
abbrev S528x256 : Shape := ⟨2, ![528, 256]⟩
abbrev S528x128 : Shape := ⟨2, ![528, 128]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x8192x512, .f32⟩
  | .hbm, ⟨1, _⟩ => ⟨S4x128x128, .f32⟩
  | .hbm, ⟨2, _⟩ => ⟨S512, .f32⟩
  | .hbm, ⟨3, _⟩ => ⟨S4x8192x512, .bf16⟩
  | .hbm, ⟨4, _⟩ => ⟨S4x128x128, .bf16⟩
  | .hbm, ⟨5, _⟩ => ⟨S1x512, .f32⟩
  | .hbm, ⟨6, _⟩ => ⟨S4x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S4x128x128, .bf16⟩
  | .local _ .vmem, ⟨3, _⟩ => ⟨S1x512, .f32⟩
  | .local _ .vmem, ⟨4, _⟩ => ⟨S1x512x512, .bf16⟩
  | .local _ .vmem, ⟨5, _⟩ => ⟨S1x512x512, .bf16⟩
  | .local _ .vmem, ⟨6, _⟩ => ⟨S16x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S4x8192x512 : Shape := ⟨3, ![4, 8192, 512]⟩
abbrev S4x128x128 : Shape := ⟨3, ![4, 128, 128]⟩
abbrev S512 : Shape := ⟨1, ![512]⟩
abbrev S8192 : Shape := ⟨1, ![8192]⟩
abbrev S_ : Shape := ⟨0, ![]⟩
abbrev S4x8192x128 : Shape := ⟨3, ![4, 8192, 128]⟩
abbrev S1x8192x1 : Shape := ⟨3, ![1, 8192, 1]⟩
abbrev S4x8192x1x128 : Shape := ⟨4, ![4, 8192, 1, 128]⟩
abbrev S4x8192x4x128 : Shape := ⟨4, ![4, 8192, 4, 128]⟩
abbrev S4x128x4x8192 : Shape := ⟨4, ![4, 128, 4, 8192]⟩
abbrev S1x1x512 : Shape := ⟨3, ![1, 1, 512]⟩

abbrev nBuf : Space → Nat
  | .hbm => 64
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x128x128, .f32⟩
  | .hbm, ⟨2, _⟩ => ⟨S512, .f32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i32⟩
  | .hbm, ⟨7, _⟩ => ⟨S8192, .f32⟩
  | .hbm, ⟨8, _⟩ => ⟨S4x8192x128, .f32⟩
  | .hbm, ⟨9, _⟩ => ⟨S_, .f32⟩
  | .hbm, ⟨10, _⟩ => ⟨S_, .f32⟩
  | .hbm, ⟨11, _⟩ => ⟨S4x8192x128, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S1x8192x1, .f32⟩
  | .hbm, ⟨16, _⟩ => ⟨S4x8192x128, .f32⟩
  | .hbm, ⟨17, _⟩ => ⟨S4x8192x128, .f32⟩
  | .hbm, ⟨18, _⟩ => ⟨S4x8192x128, .f32⟩
  | .hbm, ⟨19, _⟩ => ⟨S4x8192x128, .f32⟩
  | .hbm, ⟨20, _⟩ => ⟨S_, .f32⟩
  | .hbm, ⟨21, _⟩ => ⟨S_, .f32⟩
  | .hbm, ⟨22, _⟩ => ⟨S4x8192x128, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S1x8192x1, .f32⟩
  | .hbm, ⟨27, _⟩ => ⟨S4x8192x128, .f32⟩
  | .hbm, ⟨28, _⟩ => ⟨S4x8192x128, .f32⟩
  | .hbm, ⟨29, _⟩ => ⟨S4x8192x128, .f32⟩
  | .hbm, ⟨30, _⟩ => ⟨S4x8192x128, .f32⟩
  | .hbm, ⟨31, _⟩ => ⟨S_, .f32⟩
  | .hbm, ⟨32, _⟩ => ⟨S_, .f32⟩
  | .hbm, ⟨33, _⟩ => ⟨S4x8192x128, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S1x8192x1, .f32⟩
  | .hbm, ⟨38, _⟩ => ⟨S4x8192x128, .f32⟩
  | .hbm, ⟨39, _⟩ => ⟨S4x8192x128, .f32⟩
  | .hbm, ⟨40, _⟩ => ⟨S4x8192x128, .f32⟩
  | .hbm, ⟨41, _⟩ => ⟨S4x8192x128, .f32⟩
  | .hbm, ⟨42, _⟩ => ⟨S_, .f32⟩
  | .hbm, ⟨43, _⟩ => ⟨S_, .f32⟩
  | .hbm, ⟨44, _⟩ => ⟨S4x8192x128, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S1x8192x1, .f32⟩
  | .hbm, ⟨49, _⟩ => ⟨S4x8192x128, .f32⟩
  | .hbm, ⟨50, _⟩ => ⟨S4x8192x128, .f32⟩
  | .hbm, ⟨51, _⟩ => ⟨S4x8192x128, .f32⟩
  | .hbm, ⟨52, _⟩ => ⟨S4x8192x1x128, .f32⟩
  | .hbm, ⟨53, _⟩ => ⟨S4x8192x1x128, .f32⟩
  | .hbm, ⟨54, _⟩ => ⟨S4x8192x1x128, .f32⟩
  | .hbm, ⟨55, _⟩ => ⟨S4x8192x1x128, .f32⟩
  | .hbm, ⟨56, _⟩ => ⟨S4x8192x4x128, .f32⟩
  | .hbm, ⟨57, _⟩ => ⟨S4x128x4x8192, .f32⟩
  | .hbm, ⟨58, _⟩ => ⟨S4x8192x4x128, .f32⟩
  | .hbm, ⟨59, _⟩ => ⟨S4x8192x512, .f32⟩
  | .hbm, ⟨60, _⟩ => ⟨S1x1x512, .f32⟩
  | .hbm, ⟨61, _⟩ => ⟨S4x8192x512, .f32⟩
  | .hbm, ⟨62, _⟩ => ⟨S4x8192x512, .f32⟩
  | .hbm, ⟨63, _⟩ => ⟨S4x8192x512, .bf16⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩

abbrev nD : Nat := 1
abbrev τ : Topo := Topo.v7x

variable {F : FTy → Type} [FloatOps F]
-- ==== Kernel11.lean ====
abbrev S4x8192x1536 : Shape := ⟨3, ![4, 8192, 1536]⟩
abbrev S4x8192x16 : Shape := ⟨3, ![4, 8192, 16]⟩
abbrev S512 : Shape := ⟨1, ![512]⟩
abbrev S4x8192x256 : Shape := ⟨3, ![4, 8192, 256]⟩
abbrev S4x8192x512 : Shape := ⟨3, ![4, 8192, 512]⟩
abbrev S4x8192x8x32 : Shape := ⟨4, ![4, 8192, 8, 32]⟩
abbrev S4x8192x8x16 : Shape := ⟨4, ![4, 8192, 8, 16]⟩
abbrev S4x8192x8x0 : Shape := ⟨4, ![4, 8192, 8, 0]⟩
abbrev S_ : Shape := ⟨0, ![]⟩
abbrev S4x8192x8x64 : Shape := ⟨4, ![4, 8192, 8, 64]⟩
abbrev S4x8192x2048 : Shape := ⟨3, ![4, 8192, 2048]⟩
abbrev S4x8192x32 : Shape := ⟨3, ![4, 8192, 32]⟩
abbrev S4x8192x128 : Shape := ⟨3, ![4, 8192, 128]⟩
abbrev S1x512 : Shape := ⟨2, ![1, 512]⟩
abbrev S512x1 : Shape := ⟨2, ![512, 1]⟩
abbrev S512x512 : Shape := ⟨2, ![512, 512]⟩
abbrev S1x256x2048 : Shape := ⟨3, ![1, 256, 2048]⟩
abbrev S1x256x128 : Shape := ⟨3, ![1, 256, 128]⟩
abbrev S1x256x512 : Shape := ⟨3, ![1, 256, 512]⟩
abbrev S8x64x64 : Shape := ⟨3, ![8, 64, 64]⟩
abbrev S256x512 : Shape := ⟨2, ![256, 512]⟩
abbrev S8x256x256 : Shape := ⟨3, ![8, 256, 256]⟩
abbrev S256x256 : Shape := ⟨2, ![256, 256]⟩
abbrev S1x256x256 : Shape := ⟨3, ![1, 256, 256]⟩
abbrev S256x128 : Shape := ⟨2, ![256, 128]⟩
abbrev S256x1 : Shape := ⟨2, ![256, 1]⟩
abbrev S256x64 : Shape := ⟨2, ![256, 64]⟩
abbrev S1x64x64 : Shape := ⟨3, ![1, 64, 64]⟩
abbrev S64x64 : Shape := ⟨2, ![64, 64]⟩

abbrev nBuf : Space → Nat
  | .hbm => 82
  | .vmem => 13
  | .smem => 0
  | _ => 0

abbrev bufTy : (tb : Table) → Fin (tcTables nBuf tb) → BufTy
  | .hbm, ⟨0, _⟩ => ⟨S4x8192x1536, .f32⟩
  | .hbm, ⟨1, _⟩ => ⟨S4x8192x16, .f32⟩
  | .hbm, ⟨2, _⟩ => ⟨S4x8192x16, .f32⟩
  | .hbm, ⟨3, _⟩ => ⟨S512, .f32⟩
  | .hbm, ⟨4, _⟩ => ⟨S4x8192x256, .f32⟩
  | .hbm, ⟨5, _⟩ => ⟨S4x8192x256, .f32⟩
  | .hbm, ⟨6, _⟩ => ⟨S4x8192x512, .f32⟩
  | .hbm, ⟨7, _⟩ => ⟨S4x8192x512, .f32⟩
  | .hbm, ⟨8, _⟩ => ⟨S4x8192x8x32, .f32⟩
  | .hbm, ⟨9, _⟩ => ⟨S4x8192x8x16, .f32⟩
  | .hbm, ⟨10, _⟩ => ⟨S4x8192x8x16, .f32⟩
  | .hbm, ⟨11, _⟩ => ⟨S4x8192x8x16, .f32⟩
  | .hbm, ⟨12, _⟩ => ⟨S4x8192x8x0, .f32⟩
  | .hbm, ⟨13, _⟩ => ⟨S_, .f32⟩
  | .hbm, ⟨14, _⟩ => ⟨S4x8192x8x0, .f32⟩
  | .hbm, ⟨15, _⟩ => ⟨S4x8192x8x32, .f32⟩
  | .hbm, ⟨16, _⟩ => ⟨S4x8192x8x64, .f32⟩
  | .hbm, ⟨17, _⟩ => ⟨S4x8192x512, .f32⟩
  | .hbm, ⟨18, _⟩ => ⟨S4x8192x8x32, .f32⟩
  | .hbm, ⟨19, _⟩ => ⟨S4x8192x8x16, .f32⟩
  | .hbm, ⟨20, _⟩ => ⟨S4x8192x8x16, .f32⟩
  | .hbm, ⟨21, _⟩ => ⟨S4x8192x8x16, .f32⟩
  | .hbm, ⟨22, _⟩ => ⟨S4x8192x8x0, .f32⟩
  | .hbm, ⟨23, _⟩ => ⟨S_, .f32⟩
  | .hbm, ⟨24, _⟩ => ⟨S4x8192x8x0, .f32⟩
  | .hbm, ⟨25, _⟩ => ⟨S4x8192x8x32, .f32⟩
  | .hbm, ⟨26, _⟩ => ⟨S4x8192x8x64, .f32⟩
  | .hbm, ⟨27, _⟩ => ⟨S4x8192x512, .f32⟩
  | .hbm, ⟨28, _⟩ => ⟨S4x8192x2048, .f32⟩
  | .hbm, ⟨29, _⟩ => ⟨S4x8192x2048, .bf16⟩
  | .hbm, ⟨30, _⟩ => ⟨S_, .f32⟩
  | .hbm, ⟨31, _⟩ => ⟨S4x8192x32, .f32⟩
  | .hbm, ⟨32, _⟩ => ⟨S4x8192x128, .f32⟩
  | .hbm, ⟨33, _⟩ => ⟨S_, .f32⟩
  | .hbm, ⟨34, _⟩ => ⟨S4x8192x32, .f32⟩
  | .hbm, ⟨35, _⟩ => ⟨S4x8192x128, .f32⟩
  | .hbm, ⟨36, _⟩ => ⟨S1x512, .f32⟩
  | .hbm, ⟨37, _⟩ => ⟨S512, .i32⟩
  | .hbm, ⟨38, _⟩ => ⟨S512x1, .i32⟩
  | .hbm, ⟨39, _⟩ => ⟨S_, .i32⟩
  | .hbm, ⟨40, _⟩ => ⟨S_, .i32⟩
  | .hbm, ⟨41, _⟩ => ⟨S512x1, .i32⟩
  | .hbm, ⟨42, _⟩ => ⟨S512x1, .i32⟩
  | .hbm, ⟨43, _⟩ => ⟨S512x1, .i32⟩
  | .hbm, ⟨44, _⟩ => ⟨S_, .i32⟩
  | .hbm, ⟨45, _⟩ => ⟨S512x1, .i32⟩
  | .hbm, ⟨46, _⟩ => ⟨S512x1, .i1⟩
  | .hbm, ⟨47, _⟩ => ⟨S512x1, .i32⟩
  | .hbm, ⟨48, _⟩ => ⟨S512x1, .i32⟩
  | .hbm, ⟨49, _⟩ => ⟨S_, .i32⟩
  | .hbm, ⟨50, _⟩ => ⟨S512x1, .i32⟩
  | .hbm, ⟨51, _⟩ => ⟨S512x1, .i1⟩
  | .hbm, ⟨52, _⟩ => ⟨S512x1, .i1⟩
  | .hbm, ⟨53, _⟩ => ⟨S_, .i32⟩
  | .hbm, ⟨54, _⟩ => ⟨S512x1, .i32⟩
  | .hbm, ⟨55, _⟩ => ⟨S512x1, .i32⟩
  | .hbm, ⟨56, _⟩ => ⟨S512x1, .i32⟩
  | .hbm, ⟨57, _⟩ => ⟨S512, .i32⟩
  | .hbm, ⟨58, _⟩ => ⟨S1x512, .i32⟩
  | .hbm, ⟨59, _⟩ => ⟨S_, .i32⟩
  | .hbm, ⟨60, _⟩ => ⟨S_, .i32⟩
  | .hbm, ⟨61, _⟩ => ⟨S1x512, .i32⟩
  | .hbm, ⟨62, _⟩ => ⟨S1x512, .i32⟩
  | .hbm, ⟨63, _⟩ => ⟨S1x512, .i32⟩
  | .hbm, ⟨64, _⟩ => ⟨S_, .i32⟩
  | .hbm, ⟨65, _⟩ => ⟨S1x512, .i32⟩
  | .hbm, ⟨66, _⟩ => ⟨S1x512, .i1⟩
  | .hbm, ⟨67, _⟩ => ⟨S1x512, .i32⟩
  | .hbm, ⟨68, _⟩ => ⟨S1x512, .i32⟩
  | .hbm, ⟨69, _⟩ => ⟨S_, .i32⟩
  | .hbm, ⟨70, _⟩ => ⟨S1x512, .i32⟩
  | .hbm, ⟨71, _⟩ => ⟨S1x512, .i1⟩
  | .hbm, ⟨72, _⟩ => ⟨S1x512, .i1⟩
  | .hbm, ⟨73, _⟩ => ⟨S_, .i32⟩
  | .hbm, ⟨74, _⟩ => ⟨S1x512, .i32⟩
  | .hbm, ⟨75, _⟩ => ⟨S1x512, .i32⟩
  | .hbm, ⟨76, _⟩ => ⟨S1x512, .i32⟩
  | .hbm, ⟨77, _⟩ => ⟨S512x512, .i32⟩
  | .hbm, ⟨78, _⟩ => ⟨S512x512, .i32⟩
  | .hbm, ⟨79, _⟩ => ⟨S512x512, .i1⟩
  | .hbm, ⟨80, _⟩ => ⟨S512x512, .bf16⟩
  | .hbm, ⟨81, _⟩ => ⟨S4x8192x512, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x512, .f32⟩
  | .local _ .vmem, ⟨7, _⟩ => ⟨S512x512, .bf16⟩
  | .local _ .vmem, ⟨8, _⟩ => ⟨S1x256x512, .bf16⟩
  | .local _ .vmem, ⟨9, _⟩ => ⟨S1x256x512, .bf16⟩
  | .local _ .vmem, ⟨10, _⟩ => ⟨S8x64x64, .f32⟩
  | .local _ .vmem, ⟨11, _⟩ => ⟨S256x512, .f32⟩
  | .local _ .vmem, ⟨12, _⟩ => ⟨S8x256x256, .f32⟩
  | _, _ => ⟨S4x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_3 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_c : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_0 : Ref sig .tc := ⟨.hbm, 73, rfl⟩
abbrev main_call1_v12 : Ref sig .tc := ⟨.hbm, 74, rfl⟩
abbrev main_call1_v13 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel11Ideal.lean ====
variable {F : FTy → Type} [FloatOps F] [Named F]
def κ : String → Option EReal := fun
  | "log0" => some ((Real.log (31 / 32) : ℝ) : EReal)
  | "log1" => some ((Real.log (63 / 64) : ℝ) : EReal)
  | "log2" => some ((Real.log (127 / 128) : ℝ) : EReal)
  | "log3" => some ((Real.log (255 / 256) : ℝ) : EReal)
  | "log4" => some ((Real.log (511 / 512) : ℝ) : EReal)
  | "log5" => some ((Real.log (1023 / 1024) : ℝ) : EReal)
  | "log6" => some ((Real.log (2047 / 2048) : ℝ) : EReal)
  | "log7" => some ((Real.log (4095 / 4096) : ℝ) : EReal)
  | "pow0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "pow1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "pow2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "pow3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "pow4" => some ((2268560858212437164610433925711934373410582837965183998424115932072889031456775415934332958631165982217084171365658533939505628934401906064660409151362039483958284679840648367042721120317582229425251279030418832818292987838711392170461436941262761909390722105699485266572005223949970251724447769284689701216507438358815813025882298809109174153706339626450005908428456226551941838168074331527913534817745321469167246007014538572292256084915688960900068391958392077068485455993514961701480858639654936648349583570824852556419356611498493528242253710534570980455697219242920022717462415340389291846170475473292031866551657954709245694201252631734461050733432357052374907386272875143352917669314561 / 3742053650892133432367999773538322459225928823527575869347258443714776254479140165467924450143929014376701328043796892084250680644651644268919891406030558009514559848402392186697349032657288467726728117428485865736692545611669179323917560467904459270003565249200768855069969069462910188335948939853235385655600614050799627402904169955617680686939217306230732743306013312855692685442723231659949822010462888578091073832552856131420378840703853686445535243055462767679945780563431553986820134725467051353840270015201262955847832589866641019681571016376279703475133297517542073557917754709550486937454822846451632280550418910946262563991699255138480187856382366661603621981981643212128456085078016 : ℝ) : EReal)
  | "pow5" => some ((337413325564862239829610804928086933447240624148564312320119597592679839403487791267665388642378988857166811881886615610903735512386530606675784621900115357739141415528218198504857866110789077872469367254629204505150137588880451017301164305113323386844473495852085330340154288874389305164173754807611033561110780084819027640552143993625052734044496551648453411116199448793072157444460210849146970877733016141486801970954679177492885104144776642486135467458438925512340025454736897082062523929258652017781506753483735621598127157820627264606547049520878488333322867294030154779287575939778503295541836721550945990196769803301139613659860258224955069565810259728492587379568098367034380814279745525053775389467085605347823566489644677320545087024435711576643684472144527361 / 433300210274926779301235722995130529126851924312253566276831366547097655953268278873591999368453759375352459120642109169274240110620843517970102311224458427564046616227161115801662152359395451958893835480905010246703239443701925453743683726938789767940577524555724362397039358587448248740993955708382317083531851133758531532844694304737183093418571190053292997716413815714417740434254315670267335553209606545389900958653541702218767662872949109999460596999125719155768466778443229719919179735890978537026576050107500869340314188887101095263339865901080787145771915722368720844521851040375582291274824574444462419841916186875058374404329003250698574832235855871168399140082282900718430116575617097058691735266917705341386171618452673063526784039252631042036988932549246976 : ℝ) : EReal)
  | "pow6" => some ((44275933001788723009087189004406629456185558207332747867642712943151554828468488377533272736418712189278782616161047210929315370508778247758052201719962879660055865696879094863129463372703274884572552420946222213909778378366961041416140341416293514822078426833460711263743283496670773031329350821423162437403679977307148303735076944714526688715579927904995556456488103602634822359829952521232926542320071149931856266817933423703432269042442636032858580050472077676460779471534683163731067775864671927973547035866560192878885873974778802745285399431976029747635377890080788011101117707583578382474146313505569053749097953659852933537062042116297383553651152865866999804689119520382292842101610389821960529978895733465869012223134947820230783957872234774758446564646736680947103568594529505412600577259071717085423168472314596399008611595402721361921 / 50172736614702193476010968685027850385725009984025754056752351897843540836727791310381960450640875187526127726743042077209009344297825833306791007079122302230257203282437017967319010464223403411666028891130176909178099340433873790449696141722887908379766592991480784511678588901194608305160012368897433073139024954535368556203311682248348132318295329821383241290835531777849305693041041567149516614437907351900261582473684954345924071473123034130274134722954297790455372889453739340801985909201900859696589364708551884000815765385640619922267443118020140789791084738002770787452810244806002844531297159666640599398253866669734555265873912487067788750536758461265538846803163989987905143549491955559219046972218912619029970610724339486044100503651037465691797221960390994444244006704352888836634150488713713548412324761281525404083023713782816833536 : ℝ) : EReal)
  | "pow7" => some ((5457578116896234373030737050452871284503562312287257236323214801751651385767181166262045935084362047640066968508555065439951956828835114042263162471483867696507228786363824495157666995393161444816858802235986693092622421998449934383727349815275774824537430970136290747635382107000611400619314796941200044495037341337739958339767278633581981851381635814001234288720867746515647816205768561016152260853314839726158393455210831329203668369049204017829829231628961380152267663391523655643318692802859432466701375795096617133552303949487394943235439176500258458335258290073276466529400450470673837760073612535465583335327929430972640850246512426587841378155056826710368861273277181943917100220100509703205853547765206963727872532801586378083550670524229871882211418628608409306047472309356393387983960726059074560461678332168608035217511070201043245241749670516273992104254204325815142393764356487650957205914892256259918212890625 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)
  | _ => none
-- ==== Reference11Ideal.lean ====
abbrev S4x8192x1536 : Shape := ⟨3, ![4, 8192, 1536]⟩
abbrev S4x8192x16 : Shape := ⟨3, ![4, 8192, 16]⟩
abbrev S512 : Shape := ⟨1, ![512]⟩
abbrev S8 : Shape := ⟨1, ![8]⟩
abbrev S4x8192x1x16 : Shape := ⟨4, ![4, 8192, 1, 16]⟩
abbrev S4x8192x256 : Shape := ⟨3, ![4, 8192, 256]⟩
abbrev S4x8192x8x32 : Shape := ⟨4, ![4, 8192, 8, 32]⟩
abbrev S4x8192x8x16 : Shape := ⟨4, ![4, 8192, 8, 16]⟩
abbrev S_ : Shape := ⟨0, ![]⟩
abbrev S4x8192x512 : Shape := ⟨3, ![4, 8192, 512]⟩
abbrev S4x8192x8x64 : Shape := ⟨4, ![4, 8192, 8, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S8x1x1 : Shape := ⟨3, ![8, 1, 1]⟩
abbrev S8x8192x8192 : Shape := ⟨3, ![8, 8192, 8192]⟩
abbrev S4x8x8192x8192 : Shape := ⟨4, ![4, 8, 8192, 8192]⟩
abbrev S1x8x8192x8192 : Shape := ⟨4, ![1, 8, 8192, 8192]⟩
abbrev S4x8x64x8192 : Shape := ⟨4, ![4, 8, 64, 8192]⟩
abbrev S4x8192x8 : Shape := ⟨3, ![4, 8192, 8]⟩
abbrev S4x8192x8x1 : Shape := ⟨4, ![4, 8192, 8, 1]⟩
abbrev S1x1x512 : Shape := ⟨3, ![1, 1, 512]⟩

abbrev nBuf : Space → Nat
  | .hbm => 110
  | .vmem => 0
  | .smem => 0
  | _ => 0

abbrev bufTy : (tb : Table) → Fin (tcTables nBuf tb) → BufTy
  | .hbm, ⟨0, _⟩ => ⟨S4x8192x1536, .f32⟩
  | .hbm, ⟨1, _⟩ => ⟨S4x8192x16, .f32⟩
  | .hbm, ⟨2, _⟩ => ⟨S4x8192x16, .f32⟩
  | .hbm, ⟨3, _⟩ => ⟨S512, .f32⟩
  | .hbm, ⟨4, _⟩ => ⟨S8, .f32⟩
  | .hbm, ⟨5, _⟩ => ⟨S4x8192x1x16, .f32⟩
  | .hbm, ⟨6, _⟩ => ⟨S4x8192x1x16, .f32⟩
  | .hbm, ⟨7, _⟩ => ⟨S4x8192x256, .f32⟩
  | .hbm, ⟨8, _⟩ => ⟨S4x8192x8x32, .f32⟩
  | .hbm, ⟨9, _⟩ => ⟨S4x8192x8x16, .f32⟩
  | .hbm, ⟨10, _⟩ => ⟨S4x8192x8x16, .f32⟩
  | .hbm, ⟨11, _⟩ => ⟨S4x8192x8x16, .f32⟩
  | .hbm, ⟨12, _⟩ => ⟨S4x8192x8x16, .f32⟩
  | .hbm, ⟨13, _⟩ => ⟨S4x8192x8x16, .f32⟩
  | .hbm, ⟨14, _⟩ => ⟨S4x8192x8x16, .f32⟩
  | .hbm, ⟨15, _⟩ => ⟨S4x8192x8x16, .f32⟩
  | .hbm, ⟨16, _⟩ => ⟨S4x8192x8x16, .f32⟩
  | .hbm, ⟨17, _⟩ => ⟨S4x8192x8x16, .f32⟩
  | .hbm, ⟨18, _⟩ => ⟨S4x8192x8x16, .f32⟩
  | .hbm, ⟨19, _⟩ => ⟨S4x8192x8x16, .f32⟩
  | .hbm, ⟨20, _⟩ => ⟨S4x8192x8x16, .f32⟩
  | .hbm, ⟨21, _⟩ => ⟨S4x8192x8x32, .f32⟩
  | .hbm, ⟨22, _⟩ => ⟨S4x8192x256, .f32⟩
  | .hbm, ⟨23, _⟩ => ⟨S4x8192x8x32, .f32⟩
  | .hbm, ⟨24, _⟩ => ⟨S4x8192x8x16, .f32⟩
  | .hbm, ⟨25, _⟩ => ⟨S4x8192x8x16, .f32⟩
  | .hbm, ⟨26, _⟩ => ⟨S4x8192x8x16, .f32⟩
  | .hbm, ⟨27, _⟩ => ⟨S4x8192x8x16, .f32⟩
  | .hbm, ⟨28, _⟩ => ⟨S4x8192x8x16, .f32⟩
  | .hbm, ⟨29, _⟩ => ⟨S4x8192x8x16, .f32⟩
  | .hbm, ⟨30, _⟩ => ⟨S4x8192x8x16, .f32⟩
  | .hbm, ⟨31, _⟩ => ⟨S4x8192x8x16, .f32⟩
  | .hbm, ⟨32, _⟩ => ⟨S4x8192x8x16, .f32⟩
  | .hbm, ⟨33, _⟩ => ⟨S4x8192x8x16, .f32⟩
  | .hbm, ⟨34, _⟩ => ⟨S4x8192x8x16, .f32⟩
  | .hbm, ⟨35, _⟩ => ⟨S4x8192x8x16, .f32⟩
  | .hbm, ⟨36, _⟩ => ⟨S4x8192x8x32, .f32⟩
  | .hbm, ⟨37, _⟩ => ⟨S_, .f32⟩
  | .hbm, ⟨38, _⟩ => ⟨S4x8192x8x32, .f32⟩
  | .hbm, ⟨39, _⟩ => ⟨S4x8192x8x32, .f32⟩
  | .hbm, ⟨40, _⟩ => ⟨S4x8192x512, .f32⟩
  | .hbm, ⟨41, _⟩ => ⟨S4x8192x8x64, .f32⟩
  | .hbm, ⟨42, _⟩ => ⟨S4x8192x512, .f32⟩
  | .hbm, ⟨43, _⟩ => ⟨S8, .f32⟩
  | .hbm, ⟨44, _⟩ => ⟨S8192, .i32⟩
  | .hbm, ⟨45, _⟩ => ⟨S8192, .f32⟩
  | .hbm, ⟨46, _⟩ => ⟨S8192x1, .f32⟩
  | .hbm, ⟨47, _⟩ => ⟨S1x8192, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192x8192, .f32⟩
  | .hbm, ⟨53, _⟩ => ⟨S8192x8192, .i1⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S1x8192x8192, .f32⟩
  | .hbm, ⟨58, _⟩ => ⟨S8x1x1, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S_, .f32⟩
  | .hbm, ⟨65, _⟩ => ⟨S8x8192x8192, .i1⟩
  | .hbm, ⟨66, _⟩ => ⟨S8x8192x8192, .f32⟩
  | .hbm, ⟨67, _⟩ => ⟨S8x8192x8192, .f32⟩
  | .hbm, ⟨68, _⟩ => ⟨S4x8x8192x8192, .f32⟩
  | .hbm, ⟨69, _⟩ => ⟨S1x8x8192x8192, .f32⟩
  | .hbm, ⟨70, _⟩ => ⟨S4x8x8192x8192, .f32⟩
  | .hbm, ⟨71, _⟩ => ⟨S4x8x8192x8192, .f32⟩
  | .hbm, ⟨72, _⟩ => ⟨S4x8x64x8192, .f32⟩
  | .hbm, ⟨73, _⟩ => ⟨S4x8192x8x64, .f32⟩
  | .hbm, ⟨74, _⟩ => ⟨S_, .f32⟩
  | .hbm, ⟨75, _⟩ => ⟨S4x8192x8, .f32⟩
  | .hbm, ⟨76, _⟩ => ⟨S4x8192x8x1, .f32⟩
  | .hbm, ⟨77, _⟩ => ⟨S_, .f32⟩
  | .hbm, ⟨78, _⟩ => ⟨S4x8192x8x1, .f32⟩
  | .hbm, ⟨79, _⟩ => ⟨S4x8192x8x1, .f32⟩
  | .hbm, ⟨80, _⟩ => ⟨S4x8192x8x64, .f32⟩
  | .hbm, ⟨81, _⟩ => ⟨S4x8192x8x64, .f32⟩
  | .hbm, ⟨82, _⟩ => ⟨S4x8192x8x64, .f32⟩
  | .hbm, ⟨83, _⟩ => ⟨S_, .f32⟩
  | .hbm, ⟨84, _⟩ => ⟨S4x8192x8, .f32⟩
  | .hbm, ⟨85, _⟩ => ⟨S4x8192x8x1, .f32⟩
  | .hbm, ⟨86, _⟩ => ⟨S_, .f32⟩
  | .hbm, ⟨87, _⟩ => ⟨S4x8192x8x1, .f32⟩
  | .hbm, ⟨88, _⟩ => ⟨S4x8192x8x1, .f32⟩
  | .hbm, ⟨89, _⟩ => ⟨S_, .f32⟩
  | .hbm, ⟨90, _⟩ => ⟨S4x8192x8x1, .f32⟩
  | .hbm, ⟨91, _⟩ => ⟨S4x8192x8x1, .f32⟩
  | .hbm, ⟨92, _⟩ => ⟨S4x8192x8x1, .f32⟩
  | .hbm, ⟨93, _⟩ => ⟨S4x8192x8x64, .f32⟩
  | .hbm, ⟨94, _⟩ => ⟨S4x8192x8x64, .f32⟩
  | .hbm, ⟨95, _⟩ => ⟨S4x8192x512, .f32⟩
  | .hbm, ⟨96, _⟩ => ⟨S1x1x512, .f32⟩
  | .hbm, ⟨97, _⟩ => ⟨S4x8192x512, .f32⟩
  | .hbm, ⟨98, _⟩ => ⟨S4x8192x512, .f32⟩
  | .hbm, ⟨99, _⟩ => ⟨S4x8192x512, .f32⟩
  | .hbm, ⟨100, _⟩ => ⟨S4x8192x512, .f32⟩
  | .hbm, ⟨101, _⟩ => ⟨S_, .f32⟩
  | .hbm, ⟨102, _⟩ => ⟨S4x8192x512, .f32⟩
  | .hbm, ⟨103, _⟩ => ⟨S4x8192x512, .f32⟩
  | .hbm, ⟨104, _⟩ => ⟨S_, .f32⟩
  | .hbm, ⟨105, _⟩ => ⟨S4x8192x512, .f32⟩
  | .hbm, ⟨106, _⟩ => ⟨S4x8192x512, .f32⟩
  | .hbm, ⟨107, _⟩ => ⟨S4x8192x512, .f32⟩
  | .hbm, ⟨108, _⟩ => ⟨S4x8192x512, .f32⟩
  | .hbm, ⟨109, _⟩ => ⟨S4x8192x512, .bf16⟩
  | _, _ => ⟨S4x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_0 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_1 : Ref sig .tc := ⟨.hbm, 51, rfl⟩
abbrev main_v45 : Ref sig .tc := ⟨.hbm, 52, rfl⟩
abbrev main_v46 : Ref sig .tc := ⟨.hbm, 53, rfl⟩
abbrev main_cst_2 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_3 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_4 : Ref sig .tc := ⟨.hbm, 74, rfl⟩
abbrev main_v62 : Ref sig .tc := ⟨.hbm, 75, rfl⟩
abbrev main_v63 : Ref sig .tc := ⟨.hbm, 76, rfl⟩
abbrev main_cst_5 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_6 : Ref sig .tc := ⟨.hbm, 83, rfl⟩
abbrev main_v69 : Ref sig .tc := ⟨.hbm, 84, rfl⟩
abbrev main_v70 : Ref sig .tc := ⟨.hbm, 85, rfl⟩
abbrev main_cst_7 : Ref sig .tc := ⟨.hbm, 86, rfl⟩
abbrev main_v71 : Ref sig .tc := ⟨.hbm, 87, rfl⟩
abbrev main_v72 : Ref sig .tc := ⟨.hbm, 88, rfl⟩
abbrev main_cst_8 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]
-- ==== Kernel13.lean ====
abbrev S4x8192 : Shape := ⟨2, ![4, 8192]⟩
abbrev S32768x1 : Shape := ⟨2, ![32768, 1]⟩
abbrev S8 : Shape := ⟨1, ![8]⟩
abbrev S_ : Shape := ⟨0, ![]⟩
abbrev S112 : Shape := ⟨1, ![112]⟩
abbrev S128 : Shape := ⟨1, ![128]⟩
abbrev S1x128 : Shape := ⟨2, ![1, 128]⟩
abbrev S64 : Shape := ⟨1, ![64]⟩
abbrev S15 : Shape := ⟨1, ![15]⟩
abbrev S1 : Shape := ⟨1, ![1]⟩
abbrev S16 : Shape := ⟨1, ![16]⟩
abbrev S32 : Shape := ⟨1, ![32]⟩
abbrev S32768x128 : Shape := ⟨2, ![32768, 128]⟩
abbrev S1024x1 : Shape := ⟨2, ![1024, 1]⟩
abbrev S1024x128 : Shape := ⟨2, ![1024, 128]⟩

abbrev nBuf : Space → Nat
  | .hbm => 71
  | .vmem => 14
  | .smem => 0
  | _ => 0

abbrev bufTy : (tb : Table) → Fin (tcTables nBuf tb) → BufTy
  | .hbm, ⟨0, _⟩ => ⟨S4x8192, .i32⟩
  | .hbm, ⟨1, _⟩ => ⟨S32768x1, .i32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S112, .f32⟩
  | .hbm, ⟨18, _⟩ => ⟨S128, .f32⟩
  | .hbm, ⟨19, _⟩ => ⟨S1x128, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S128, .f32⟩
  | .hbm, ⟨25, _⟩ => ⟨S1x128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S15, .f32⟩
  | .hbm, ⟨34, _⟩ => ⟨S_, .f32⟩
  | .hbm, ⟨35, _⟩ => ⟨S15, .f32⟩
  | .hbm, ⟨36, _⟩ => ⟨S15, .f32⟩
  | .hbm, ⟨37, _⟩ => ⟨S1, .f32⟩
  | .hbm, ⟨38, _⟩ => ⟨S_, .f32⟩
  | .hbm, ⟨39, _⟩ => ⟨S15, .f32⟩
  | .hbm, ⟨40, _⟩ => ⟨S15, .f32⟩
  | .hbm, ⟨41, _⟩ => ⟨S15, .f32⟩
  | .hbm, ⟨42, _⟩ => ⟨S15, .f32⟩
  | .hbm, ⟨43, _⟩ => ⟨S1, .f32⟩
  | .hbm, ⟨44, _⟩ => ⟨S15, .f32⟩
  | .hbm, ⟨45, _⟩ => ⟨S15, .f32⟩
  | .hbm, ⟨46, _⟩ => ⟨S15, .f32⟩
  | .hbm, ⟨47, _⟩ => ⟨S1, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S32, .f32⟩
  | .hbm, ⟨57, _⟩ => ⟨S64, .f32⟩
  | .hbm, ⟨58, _⟩ => ⟨S128, .f32⟩
  | .hbm, ⟨59, _⟩ => ⟨S1x128, .f32⟩
  | .hbm, ⟨60, _⟩ => ⟨S_, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S64, .f32⟩
  | .hbm, ⟨65, _⟩ => ⟨S128, .f32⟩
  | .hbm, ⟨66, _⟩ => ⟨S1x128, .f32⟩
  | .hbm, ⟨67, _⟩ => ⟨S32768x128, .f32⟩
  | .hbm, ⟨68, _⟩ => ⟨S32768x128, .f32⟩
  | .hbm, ⟨69, _⟩ => ⟨S32768x128, .f32⟩
  | .hbm, ⟨70, _⟩ => ⟨S32768x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_cst_5 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_6 : Ref sig .tc := ⟨.hbm, 26, rfl⟩
abbrev main_cst_7 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_cst : Ref sig .tc := ⟨.hbm, 31, rfl⟩
abbrev main_call0_v3 : Ref sig .tc := ⟨.hbm, 32, rfl⟩
abbrev main_call0_v4 : Ref sig .tc := ⟨.hbm, 33, rfl⟩
abbrev main_call0_cst_0 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_v15 : Ref sig .tc := ⟨.hbm, 46, rfl⟩
abbrev main_call0_v16 : Ref sig .tc := ⟨.hbm, 47, rfl⟩
abbrev main_v18 : Ref sig .tc := ⟨.hbm, 48, rfl⟩
abbrev main_cst_8 : Ref sig .tc := ⟨.hbm, 49, rfl⟩
abbrev main_v19 : Ref sig .tc := ⟨.hbm, 50, rfl⟩
abbrev main_v20 : Ref sig .tc := ⟨.hbm, 51, rfl⟩
abbrev main_cst_9 : Ref sig .tc := ⟨.hbm, 52, rfl⟩
abbrev main_v21 : Ref sig .tc := ⟨.hbm, 53, rfl⟩
abbrev main_v22 : Ref sig .tc := ⟨.hbm, 54, rfl⟩
abbrev main_cst_10 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_11 : Ref sig .tc := ⟨.hbm, 60, rfl⟩
abbrev main_v27 : Ref sig .tc := ⟨.hbm, 61, rfl⟩
abbrev main_cst_12 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32_0 : Ref sig .tc := ⟨.hbm, 67, rfl⟩
abbrev main_v32_1 : Ref sig .tc := ⟨.hbm, 68, rfl⟩
abbrev main_v32_2 : Ref sig .tc := ⟨.hbm, 69, rfl⟩
abbrev main_v32_3 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S4x8192 : Shape := ⟨2, ![4, 8192]⟩
abbrev S32768x1 : Shape := ⟨2, ![32768, 1]⟩
abbrev S8 : Shape := ⟨1, ![8]⟩
abbrev S_ : Shape := ⟨0, ![]⟩
abbrev S1x8 : Shape := ⟨2, ![1, 8]⟩
abbrev S32768x8 : Shape := ⟨2, ![32768, 8]⟩
abbrev S32768x48 : Shape := ⟨2, ![32768, 48]⟩
abbrev S32768x64 : Shape := ⟨2, ![32768, 64]⟩
abbrev S32768x128 : Shape := ⟨2, ![32768, 128]⟩
abbrev S32768x112 : Shape := ⟨2, ![32768, 112]⟩
abbrev S15 : Shape := ⟨1, ![15]⟩
abbrev S1 : Shape := ⟨1, ![1]⟩
abbrev S16 : Shape := ⟨1, ![16]⟩
abbrev S1x16 : Shape := ⟨2, ![1, 16]⟩
abbrev S32768x16 : Shape := ⟨2, ![32768, 16]⟩
abbrev S32768x32 : Shape := ⟨2, ![32768, 32]⟩

abbrev nBuf : Space → Nat
  | .hbm => 72
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S32768x1, .i32⟩
  | .hbm, ⟨2, _⟩ => ⟨S32768x1, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S1x8, .f32⟩
  | .hbm, ⟨18, _⟩ => ⟨S32768x8, .f32⟩
  | .hbm, ⟨19, _⟩ => ⟨S32768x8, .f32⟩
  | .hbm, ⟨20, _⟩ => ⟨S32768x8, .f32⟩
  | .hbm, ⟨21, _⟩ => ⟨S32768x8, .f32⟩
  | .hbm, ⟨22, _⟩ => ⟨S32768x8, .f32⟩
  | .hbm, ⟨23, _⟩ => ⟨S_, .f32⟩
  | .hbm, ⟨24, _⟩ => ⟨S32768x48, .f32⟩
  | .hbm, ⟨25, _⟩ => ⟨S_, .f32⟩
  | .hbm, ⟨26, _⟩ => ⟨S32768x64, .f32⟩
  | .hbm, ⟨27, _⟩ => ⟨S32768x128, .f32⟩
  | .hbm, ⟨28, _⟩ => ⟨S_, .f32⟩
  | .hbm, ⟨29, _⟩ => ⟨S32768x112, .f32⟩
  | .hbm, ⟨30, _⟩ => ⟨S32768x128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S15, .f32⟩
  | .hbm, ⟨39, _⟩ => ⟨S_, .f32⟩
  | .hbm, ⟨40, _⟩ => ⟨S15, .f32⟩
  | .hbm, ⟨41, _⟩ => ⟨S15, .f32⟩
  | .hbm, ⟨42, _⟩ => ⟨S1, .f32⟩
  | .hbm, ⟨43, _⟩ => ⟨S_, .f32⟩
  | .hbm, ⟨44, _⟩ => ⟨S15, .f32⟩
  | .hbm, ⟨45, _⟩ => ⟨S15, .f32⟩
  | .hbm, ⟨46, _⟩ => ⟨S15, .f32⟩
  | .hbm, ⟨47, _⟩ => ⟨S15, .f32⟩
  | .hbm, ⟨48, _⟩ => ⟨S1, .f32⟩
  | .hbm, ⟨49, _⟩ => ⟨S15, .f32⟩
  | .hbm, ⟨50, _⟩ => ⟨S15, .f32⟩
  | .hbm, ⟨51, _⟩ => ⟨S15, .f32⟩
  | .hbm, ⟨52, _⟩ => ⟨S1, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S1x16, .f32⟩
  | .hbm, ⟨61, _⟩ => ⟨S32768x16, .f32⟩
  | .hbm, ⟨62, _⟩ => ⟨S32768x16, .f32⟩
  | .hbm, ⟨63, _⟩ => ⟨S32768x16, .f32⟩
  | .hbm, ⟨64, _⟩ => ⟨S32768x16, .f32⟩
  | .hbm, ⟨65, _⟩ => ⟨S32768x16, .f32⟩
  | .hbm, ⟨66, _⟩ => ⟨S_, .f32⟩
  | .hbm, ⟨67, _⟩ => ⟨S32768x32, .f32⟩
  | .hbm, ⟨68, _⟩ => ⟨S32768x128, .f32⟩
  | .hbm, ⟨69, _⟩ => ⟨S_, .f32⟩
  | .hbm, ⟨70, _⟩ => ⟨S32768x32, .f32⟩
  | .hbm, ⟨71, _⟩ => ⟨S32768x128, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_v22 : Ref sig .tc := ⟨.hbm, 30, rfl⟩
abbrev main_cst_6 : Ref sig .tc := ⟨.hbm, 31, rfl⟩
abbrev main_cst_7 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_cst : Ref sig .tc := ⟨.hbm, 36, rfl⟩
abbrev main_call0_v3 : Ref sig .tc := ⟨.hbm, 37, rfl⟩
abbrev main_call0_v4 : Ref sig .tc := ⟨.hbm, 38, rfl⟩
abbrev main_call0_cst_0 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_v15 : Ref sig .tc := ⟨.hbm, 51, rfl⟩
abbrev main_call0_v16 : Ref sig .tc := ⟨.hbm, 52, rfl⟩
abbrev main_v23 : Ref sig .tc := ⟨.hbm, 53, rfl⟩
abbrev main_cst_8 : Ref sig .tc := ⟨.hbm, 54, rfl⟩
abbrev main_v24 : Ref sig .tc := ⟨.hbm, 55, rfl⟩
abbrev main_v25 : Ref sig .tc := ⟨.hbm, 56, rfl⟩
abbrev main_cst_9 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_10 : Ref sig .tc := ⟨.hbm, 66, rfl⟩
abbrev main_v34 : Ref sig .tc := ⟨.hbm, 67, rfl⟩
abbrev main_v35 : Ref sig .tc := ⟨.hbm, 68, rfl⟩
abbrev main_cst_11 : Ref sig .tc := ⟨.hbm, 69, rfl⟩
abbrev main_v36 : Ref sig .tc := ⟨.hbm, 70, rfl⟩
abbrev main_v37 : Ref sig .tc := ⟨.hbm, 71, rfl⟩

abbrev nD : Nat := 1
abbrev τ : Topo := Topo.v7x

variable {F : FTy → Type} [FloatOps F]
-- ==== Proof.DsaFrame.lean ====
/- The frame of the sparse attention call, over the generated kit: the body's triple by symbolic execution, then the
   pipeline's proof data, obligation and launch.

   Nothing about what the body writes is named. The three scratch buffers (the sortable keys, their bit planes, the
   live mask) and the output block are held at some contents before and after every grid point, so the triple needs no
   case on what an earlier point left there; the only cases are the branches of the body itself. -/
module

public import proofs.«01_k».proof.Proof.Gen.Kernel.Frame
public import proofs.«01_k».proof.Proof.Gen.Kernel.Loops
public import Idealize.ShloMosaic.Lib.Claim

@[expose] public section

set_option maxRecDepth 16384

noncomputable section

namespace Cert.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The body on any whole memrefs: the six inputs come back as they were, the output block and the three scratch
    buffers at some contents. The branches are the first query block of a batch entry (scratch cleared), the tie pass
    (taken when some query's threshold is shared by more keys than remain to be taken) and the odd last chunk. -/
theorem bodyRun (c : Dev nD) (i : grid0.Coords) (arg2 : Memref sig .tc .vmem S1x128x1024 .bf16) (harg2 : arg2.IsWhole) (arg3 : Memref sig .tc .vmem S1x128x512 .bf16) (harg3 : arg3.IsWhole) (arg4 : Memref sig .tc .vmem S1x128x128 .f32) (harg4 : arg4.IsWhole)
    (arg5 : Memref sig .tc .vmem S1x8192x256 .bf16) (harg5 : arg5.IsWhole) (arg6 : Memref sig .tc .vmem S1x8192x128 .bf16) (harg6 : arg6.IsWhole) (arg7 : Memref sig .tc .vmem S1x256x8192 .bf16) (harg7 : arg7.IsWhole)
    (arg8 : Memref sig .tc .vmem S1x128x512 .bf16) (harg8 : arg8.IsWhole) (arg9 : Memref sig .tc .vmem S16x512x128 .i32) (harg9 : arg9.IsWhole) (arg10 : Memref sig .tc .vmem S32x32x8x128 .i32) (harg10 : arg10.IsWhole) (arg11 : Memref sig .tc .vmem S32x8x128 .i32) (harg11 : arg11.IsWhole)
    (x0 : Vec F S1x128x1024 .bf16) (x1 : Vec F S1x128x512 .bf16) (x2 : Vec F S1x128x128 .f32) (x3 : Vec F S1x8192x256 .bf16) (x4 : Vec F S1x8192x128 .bf16) (x5 : Vec F S1x256x8192 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_dsa_attention i arg2 harg2 arg3 harg3 arg4 harg4 arg5 harg5 arg6 harg6 arg7 harg7 arg8 harg8 arg9 harg9 arg10 harg10 arg11 harg11) K := by
    simp only [cc0_dsa_attention_eq_skeleton]; unfold cc0_dsa_attention_skel
    simp only [k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    by_cases hc0 : (Scalar.cmpi .ne (Scalar.extui (Scalar.cmpi .eq (BitVec.ofNat 32 (i 1).val) 0#32)) 0#32) = 1#1 <;>
      by_cases hc3 : k0_cond3 i = 1#1
    · sl_exec (disch := first | sl_exact hc0 | sl_exact hc3)
      split <;> rename_i htie
      · sl_exec (disch := first | sl_exact hc0 | sl_exact hc3)
        sl_step
        iapply Hk
        isplitl [H0]
        · iexists _; isplitr; · ipureintro; exact harg2.read_unread _
          iexact H0
        isplitl [H1]
        · iexists _; isplitr; · ipureintro; exact harg3.read_unread _
          iexact H1
        isplitl [H2]
        · iexists _; isplitr; · ipureintro; exact harg4.read_unread _
          iexact H2
        isplitl [H3]
        · iexists _; isplitr; · ipureintro; exact harg5.read_unread _
          iexact H3
        isplitl [H4]
        · iexists _; isplitr; · ipureintro; exact harg6.read_unread _
          iexact H4
        isplitl [H5]
        · iexists _; isplitr; · ipureintro; exact harg7.read_unread _
          iexact H5
        isplitl [H6]
        · iexists _, _; isplitr; swap; · iexact H6
          ipureintro; rfl
        isplitl [H7]
        · iexists _, _; isplitr; swap; · iexact H7
          ipureintro; rfl
        isplitl [H8]
        · iexists _, _; isplitr; swap; · iexact H8
          ipureintro; rfl
        iexists _, _; isplitr; swap; · iexact H9
        ipureintro; rfl
      · sl_exec (disch := first | sl_exact hc0 | sl_exact hc3)
        sl_step
        iapply Hk
        isplitl [H0]
        · iexists _; isplitr; · ipureintro; exact harg2.read_unread _
          iexact H0
        isplitl [H1]
        · iexists _; isplitr; · ipureintro; exact harg3.read_unread _
          iexact H1
        isplitl [H2]
        · iexists _; isplitr; · ipureintro; exact harg4.read_unread _
          iexact H2
        isplitl [H3]
        · iexists _; isplitr; · ipureintro; exact harg5.read_unread _
          iexact H3
        isplitl [H4]
        · iexists _; isplitr; · ipureintro; exact harg6.read_unread _
          iexact H4
        isplitl [H5]
        · iexists _; isplitr; · ipureintro; exact harg7.read_unread _
          iexact H5
        isplitl [H6]
        · iexists _, _; isplitr; swap; · iexact H6
          ipureintro; rfl
        isplitl [H7]
        · iexists _, _; isplitr; swap; · iexact H7
          ipureintro; rfl
        isplitl [H8]
        · iexists _, _; isplitr; swap; · iexact H8
          ipureintro; rfl
        iexists _, _; isplitr; swap; · iexact H9
        ipureintro; rfl
    · sl_exec (disch := first | sl_exact hc0 | sl_exact hc3)
      split <;> rename_i htie
      · sl_exec (disch := first | sl_exact hc0 | sl_exact hc3)
        sl_step
        iapply Hk
        isplitl [H0]
        · iexists _; isplitr; · ipureintro; exact harg2.read_unread _
          iexact H0
        isplitl [H1]
        · iexists _; isplitr; · ipureintro; exact harg3.read_unread _
          iexact H1
        isplitl [H2]
        · iexists _; isplitr; · ipureintro; exact harg4.read_unread _
          iexact H2
        isplitl [H3]
        · iexists _; isplitr; · ipureintro; exact harg5.read_unread _
          iexact H3
        isplitl [H4]
        · iexists _; isplitr; · ipureintro; exact harg6.read_unread _
          iexact H4
        isplitl [H5]
        · iexists _; isplitr; · ipureintro; exact harg7.read_unread _
          iexact H5
        isplitl [H6]
        · iexists _, _; isplitr; swap; · iexact H6
          ipureintro; rfl
        isplitl [H7]
        · iexists _, _; isplitr; swap; · iexact H7
          ipureintro; rfl
        isplitl [H8]
        · iexists _, _; isplitr; swap; · iexact H8
          ipureintro; rfl
        iexists _, _; isplitr; swap; · iexact H9
        ipureintro; rfl
      · sl_exec (disch := first | sl_exact hc0 | sl_exact hc3)
        sl_step
        iapply Hk
        isplitl [H0]
        · iexists _; isplitr; · ipureintro; exact harg2.read_unread _
          iexact H0
        isplitl [H1]
        · iexists _; isplitr; · ipureintro; exact harg3.read_unread _
          iexact H1
        isplitl [H2]
        · iexists _; isplitr; · ipureintro; exact harg4.read_unread _
          iexact H2
        isplitl [H3]
        · iexists _; isplitr; · ipureintro; exact harg5.read_unread _
          iexact H3
        isplitl [H4]
        · iexists _; isplitr; · ipureintro; exact harg6.read_unread _
          iexact H4
        isplitl [H5]
        · iexists _; isplitr; · ipureintro; exact harg7.read_unread _
          iexact H5
        isplitl [H6]
        · iexists _, _; isplitr; swap; · iexact H6
          ipureintro; rfl
        isplitl [H7]
        · iexists _, _; isplitr; swap; · iexact H7
          ipureintro; rfl
        isplitl [H8]
        · iexists _, _; isplitr; swap; · iexact H8
          ipureintro; rfl
        iexists _, _; isplitr; swap; · iexact H9
        ipureintro; rfl
    · sl_exec (disch := first | sl_exact hc0 | sl_exact hc3)
      split <;> rename_i htie
      · sl_exec (disch := first | sl_exact hc0 | sl_exact hc3)
        sl_step
        iapply Hk
        isplitl [H0]
        · iexists _; isplitr; · ipureintro; exact harg2.read_unread _
          iexact H0
        isplitl [H1]
        · iexists _; isplitr; · ipureintro; exact harg3.read_unread _
          iexact H1
        isplitl [H2]
        · iexists _; isplitr; · ipureintro; exact harg4.read_unread _
          iexact H2
        isplitl [H3]
        · iexists _; isplitr; · ipureintro; exact harg5.read_unread _
          iexact H3
        isplitl [H4]
        · iexists _; isplitr; · ipureintro; exact harg6.read_unread _
          iexact H4
        isplitl [H5]
        · iexists _; isplitr; · ipureintro; exact harg7.read_unread _
          iexact H5
        isplitl [H6]
        · iexists _, _; isplitr; swap; · iexact H6
          ipureintro; rfl
        isplitl [H7]
        · iexists _, _; isplitr; swap; · iexact H7
          ipureintro; rfl
        isplitl [H8]
        · iexists _, _; isplitr; swap; · iexact H8
          ipureintro; rfl
        iexists _, _; isplitr; swap; · iexact H9
        ipureintro; rfl
      · sl_exec (disch := first | sl_exact hc0 | sl_exact hc3)
        sl_step
        iapply Hk
        isplitl [H0]
        · iexists _; isplitr; · ipureintro; exact harg2.read_unread _
          iexact H0
        isplitl [H1]
        · iexists _; isplitr; · ipureintro; exact harg3.read_unread _
          iexact H1
        isplitl [H2]
        · iexists _; isplitr; · ipureintro; exact harg4.read_unread _
          iexact H2
        isplitl [H3]
        · iexists _; isplitr; · ipureintro; exact harg5.read_unread _
          iexact H3
        isplitl [H4]
        · iexists _; isplitr; · ipureintro; exact harg6.read_unread _
          iexact H4
        isplitl [H5]
        · iexists _; isplitr; · ipureintro; exact harg7.read_unread _
          iexact H5
        isplitl [H6]
        · iexists _, _; isplitr; swap; · iexact H6
          ipureintro; rfl
        isplitl [H7]
        · iexists _, _; isplitr; swap; · iexact H7
          ipureintro; rfl
        isplitl [H8]
        · iexists _, _; isplitr; swap; · iexact H8
          ipureintro; rfl
        iexists _, _; isplitr; swap; · iexact H9
        ipureintro; rfl
    · sl_exec (disch := first | sl_exact hc0 | sl_exact hc3)
      split <;> rename_i htie
      · sl_exec (disch := first | sl_exact hc0 | sl_exact hc3)
        sl_step
        iapply Hk
        isplitl [H0]
        · iexists _; isplitr; · ipureintro; exact harg2.read_unread _
          iexact H0
        isplitl [H1]
        · iexists _; isplitr; · ipureintro; exact harg3.read_unread _
          iexact H1
        isplitl [H2]
        · iexists _; isplitr; · ipureintro; exact harg4.read_unread _
          iexact H2
        isplitl [H3]
        · iexists _; isplitr; · ipureintro; exact harg5.read_unread _
          iexact H3
        isplitl [H4]
        · iexists _; isplitr; · ipureintro; exact harg6.read_unread _
          iexact H4
        isplitl [H5]
        · iexists _; isplitr; · ipureintro; exact harg7.read_unread _
          iexact H5
        isplitl [H6]
        · iexists _, _; isplitr; swap; · iexact H6
          ipureintro; rfl
        isplitl [H7]
        · iexists _, _; isplitr; swap; · iexact H7
          ipureintro; rfl
        isplitl [H8]
        · iexists _, _; isplitr; swap; · iexact H8
          ipureintro; rfl
        iexists _, _; isplitr; swap; · iexact H9
        ipureintro; rfl
      · sl_exec (disch := first | sl_exact hc0 | sl_exact hc3)
        sl_step
        iapply Hk
        isplitl [H0]
        · iexists _; isplitr; · ipureintro; exact harg2.read_unread _
          iexact H0
        isplitl [H1]
        · iexists _; isplitr; · ipureintro; exact harg3.read_unread _
          iexact H1
        isplitl [H2]
        · iexists _; isplitr; · ipureintro; exact harg4.read_unread _
          iexact H2
        isplitl [H3]
        · iexists _; isplitr; · ipureintro; exact harg5.read_unread _
          iexact H3
        isplitl [H4]
        · iexists _; isplitr; · ipureintro; exact harg6.read_unread _
          iexact H4
        isplitl [H5]
        · iexists _; isplitr; · ipureintro; exact harg7.read_unread _
          iexact H5
        isplitl [H6]
        · iexists _, _; isplitr; swap; · iexact H6
          ipureintro; rfl
        isplitl [H7]
        · iexists _, _; isplitr; swap; · iexact H7
          ipureintro; rfl
        isplitl [H8]
        · iexists _, _; isplitr; swap; · iexact H8
          ipureintro; rfl
        iexists _, _; isplitr; swap; · iexact H9
        ipureintro; rfl

/-! ## The invariant and the proof data -/

variable (m : (ℓ : Loc nD τ sig) → Buf (Elt F) ℓ) (ρ : Dev nD → PrngReg)

abbrev stg0 (t : Fin cfg0.N) : Memref sig .tc .vmem S1x128x1024 .bf16 := win0_0.stage (cfg0.slots t 0)
abbrev stg1 (t : Fin cfg0.N) : Memref sig .tc .vmem S1x128x512 .bf16 := win0_1.stage (cfg0.slots t 1)
abbrev stg2 (t : Fin cfg0.N) : Memref sig .tc .vmem S1x128x128 .f32 := win0_2.stage (cfg0.slots t 2)
abbrev stg3 (t : Fin cfg0.N) : Memref sig .tc .vmem S1x8192x256 .bf16 := win0_3.stage (cfg0.slots t 3)
abbrev stg4 (t : Fin cfg0.N) : Memref sig .tc .vmem S1x8192x128 .bf16 := win0_4.stage (cfg0.slots t 4)
abbrev stg5 (t : Fin cfg0.N) : Memref sig .tc .vmem S1x256x8192 .bf16 := win0_5.stage (cfg0.slots t 5)
abbrev stg6 (t : Fin cfg0.N) : Memref sig .tc .vmem S1x128x512 .bf16 := win0_6.stage (cfg0.slots t 6)

/-- The three scratch buffers. -/
abbrev keysM : Memref sig .tc .vmem S16x512x128 .i32 := Memref.whole cc0_scratch0
abbrev planesM : Memref sig .tc .vmem S32x32x8x128 .i32 := Memref.whole cc0_scratch1
abbrev liveM : Memref sig .tc .vmem S32x8x128 .i32 := Memref.whole cc0_scratch2

/-- The invariant between points: every scratch buffer at some contents, the generator register at some state. -/
theorem inv_eq (c : Dev nD) :
    (Pipeline.ΦA spec0 c : sProp 𝕄)
      = iprop(iprop((∃ d, owns (c : Thread nD τ) keysM fullShare d) ∗ (∃ d, owns (c : Thread nD τ) planesM fullShare d)
          ∗ (∃ d, owns (c : Thread nD τ) liveM fullShare d)) ∗ (∃ r, prngReg c r)) := by
  unfold Pipeline.ΦA; rw [scopedRest0_eq]; simp only [keysM, planesM, liveM, owns_whole]; try rfl

/-- Only the output window is left unnamed. -/
def forgets : Fin 7 → Bool := fun w => w.val == 6

/-- The proof data: the arrays as the region finds them, each input's buffer at its block after every point, the
    output unnamed, the invariant above throughout, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem arrays (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem found0 (c : Dev nD) (t : Fin cfg0.N) (d) : (dats m 0 c).before 0 t d = iblk m c 0 t :=
  before0_0_of m (dats m 0 c) (arrays m c 0) (left0 m c) t d
theorem found1 (c : Dev nD) (t : Fin cfg0.N) (d) : (dats m 0 c).before 1 t d = iblk m c 1 t :=
  before0_1_of m (dats m 0 c) (arrays m c 1) (left1 m c) t d
theorem found2 (c : Dev nD) (t : Fin cfg0.N) (d) : (dats m 0 c).before 2 t d = iblk m c 2 t :=
  before0_2_of m (dats m 0 c) (arrays m c 2) (left2 m c) t d
theorem found3 (c : Dev nD) (t : Fin cfg0.N) (d) : (dats m 0 c).before 3 t d = iblk m c 3 t :=
  before0_3_of m (dats m 0 c) (arrays m c 3) (left3 m c) t d
theorem found4 (c : Dev nD) (t : Fin cfg0.N) (d) : (dats m 0 c).before 4 t d = iblk m c 4 t :=
  before0_4_of m (dats m 0 c) (arrays m c 4) (left4 m c) t d
theorem found5 (c : Dev nD) (t : Fin cfg0.N) (d) : (dats m 0 c).before 5 t d = iblk m c 5 t :=
  before0_5_of m (dats m 0 c) (arrays m c 5) (left5 m c) t d

/-! ## The body obligation -/

def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare d))

def post (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ (∃ d, owns (c : Thread nD τ) (stg6 t) fullShare d))

set_option maxHeartbeats 1600000 in
/-- The body at any point, from the triple. -/
theorem sound (c : Dev nD) (t : Fin cfg0.N) :
    pre m c t ⊢ wp frame (wpE (defs₀ (F := F)) Variants.none c none) Set.univ (bodyAt0 t) (fun _ => post m c t) := by
  unfold pre post bodyAt0
  simp only [found0, found1, found2, found3, found4, found5]
  rw [show (dats m 0 c).owesAt () t.succ = (dats m 0 c).owesAt () t.castSucc from rfl,
    left0, left1, left2, left3, left4, left5]
  rw [show (dats m 0 c).Φ t.succ = Pipeline.ΦA spec0 c from rfl, show (dats m 0 c).Φ t.castSucc = Pipeline.ΦA spec0 c from rfl,
    inv_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (bodyRun c (grid0.coords t) _ _ _ _ _ _ _ _ _ _ _ _ _ _ _ _ _ _ _ _ (iblk m c 0 t) (iblk m c 1 t) (iblk m c 2 t)
    (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ forgets := fun t => by
  rw [bigSep_W0, bigSep_W0, row]
  exact triple_restated (sound m c t) rfl .rfl fun _ => .rfl

/-! ## The launch -/

set_option backward.isDefEq.respectTransparency.types false in
/-- Every fair execution ends, with every input array unchanged and every counter at zero. -/
theorem launch : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := arrays m)
    (hin := fun _ => Idealize.SL.BI.Entails.refl _) (hout := fun _ => Idealize.SL.BI.Entails.refl _)

/-- The frame of the call: the argument arrays end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans ((arrays m c 0).trans (V_main_arg0 m c)),
      (Pipeline.RDat.FramePost.arr_in h.1 c 1 rfl).trans ((arrays m c 1).trans (V_main_arg1 m c)),
      (Pipeline.RDat.FramePost.arr_in h.1 c 2 rfl).trans ((arrays m c 2).trans (V_main_arg2 m c)),
      (Pipeline.RDat.FramePost.arr_in h.1 c 3 rfl).trans ((arrays m c 3).trans (V_main_arg3 m c)),
      (Pipeline.RDat.FramePost.arr_in h.1 c 4 rfl).trans ((arrays m c 4).trans (V_main_arg4 m c)),
      (Pipeline.RDat.FramePost.arr_in h.1 c 5 rfl).trans ((arrays m c 5).trans (V_main_arg5 m c))⟩, h.2⟩) (launch m ρ)

end Cert.Dsa

end
-- ==== Proof.Common.lean ====
module

public import Idealize.ShloMosaic.Lib.Pointwise
public import Idealize.ShloMosaic.Lib.Pipeline.ValueKit
public import Idealize.ShloMosaic.Lib.Pipeline.ValueKit.Held
public import Idealize.ShloMosaic.Lib.Pipeline.ReadBack

@[expose] public section

noncomputable section

/-! What the value proofs of the layer's calls share. -/

namespace Cert.Layer

open Idealize.ShloMosaic

/-- A row of 1024 numbers normalized by its root mean square and scaled by `g`, at column `k`. -/
def normed (x g : Fin 1024 → EReal) (k : Fin 1024) : EReal :=
  x k * Ideal.rsqrt (Ideal.div (∑ j, x j * x j) (Ideal.ofBits FTy.f32 1149239296#32)
    + Ideal.ofBits FTy.f32 925353388#32) * g k

end Cert.Layer

end
-- ==== Proof.Mlp.lean ====
module

public import proofs.«01_k».proof.Proof.Gen.Kernel2Ideal.Value
public import proofs.«01_k».proof.Proof.Gen.Reference2Ideal.Run
public import proofs.«01_k».proof.Proof.Common
public import proofs.«01_k».proof.Defs

@[expose] public section

set_option maxRecDepth 16384

noncomputable section

/-! The MLP with the final norm: the rows of `x` normalized, times the up weights, the squared positive part of that
    times the down weights, added to `x`, and the sum normalized. The kernel walks 32 blocks of 1024 rows and, within
    one, four blocks of 1024 hidden columns. At a row block's first point it normalizes the rows into one scratch and
    puts the rows themselves into another, the accumulator; every point adds its hidden columns' share to the
    accumulator; the last point writes the accumulator's norm. -/

namespace Cert.Mlp

open Cert.Kernel2Ideal Cert.Kernel2Ideal.Gen Idealize.ShloMosaic Idealize.ShloMosaic.TcCoe Idealize.SL.Sem
open Cert.Layer

variable (m : (ℓ : Loc nD τ sig) → Buf (Elt Ideal) ℓ)

/-- Which block each window reads at a grid point. -/
theorem idx : ∀ t : Fin cfg0.N, win0_0.index t = ![t.val / 4, 0] ∧ win0_1.index t = ![0, 0]
    ∧ win0_2.index t = ![0, t.val % 4] ∧ win0_3.index t = ![t.val % 4, 0] ∧ win0_4.index t = ![0, 0]
    ∧ win0_5.index t = ![t.val / 4, 0] :=
  (by decide +kernel : ∀ t : Fin grid0.N, _)

/-- The normalizing payload at an index. -/
theorem pay1_at (x : Vec Ideal S1024x1024 .f32) (g : Vec Ideal S1x1024 .f32) (r k : Fin 1024) :
    k0_pay1 x g (ix2 r k) = normed (fun k => x (ix2 r k)) (fun k => g (ix2 0 k)) k := by
  pointwise [k0_pay1, normed]

/-- The final norm's payload at an index. -/
theorem pay4_at (x : Vec Ideal S1024x1024 .f32) (g : Vec Ideal S1x1024 .f32) (r k : Fin 1024) :
    k0_pay4 x g (ix2 r k) = normed (fun k => x (ix2 r k)) (fun k => g (ix2 0 k)) k := by
  pointwise [k0_pay4, normed]

/-- The accumulator starts as the rows themselves. -/
theorem pay2_eq (x : Vec Ideal S1024x1024 .f32) : k0_pay2 x = x := by
  funext i
  idx_vars i
  pointwise [k0_pay2]

/-- One tile of the hidden columns adds its share. -/
theorem pay3_at (x w : Vec Ideal S1024x1024 .bf16) (a : Vec Ideal S1024x1024 .f32) (u : Vec Ideal S1024x1024 .bf16)
    (r k : Fin 1024) :
    k0_pay3 x w a u (ix2 r k) = a (ix2 r k) + ∑ h : Fin 1024,
      (max (∑ j : Fin 1024, x (ix2 r j) * w (ix2 j h)) 0 * max (∑ j : Fin 1024, x (ix2 r j) * w (ix2 j h)) 0) * u (ix2 h k) := by
  pointwise [k0_pay3]

/-- What a row block's first point leaves in the scratches. -/
theorem point_first (c : Dev nD) (t : Fin cfg0.N) (h0 : t.val % 4 = 0) :
    (outsAt0 m c t.val t.isLt).2 = (k0_pay1 (iblk m c 0 t) (iblk m c 1 t), k0_pay3 (k0_pay1 (iblk m c 0 t) (iblk m c 1 t)) (iblk m c 2 t) (k0_pay2 (iblk m c 0 t)) (iblk m c 3 t)) := by
  rw [outsAt0_A m c t h0 (by omega)]
  frame_out

/-- What a row block's other points leave in the scratches. -/
theorem point_next (c : Dev nD) (t : Fin cfg0.N) (h0 : ¬ t.val % 4 = 0) :
    (outsAt0 m c t.val t.isLt).2 = ((outsAt0 m c (t.val - 1) (Nat.lt_of_le_of_lt (Nat.sub_le _ _) t.isLt)).2.1, k0_pay3 ((outsAt0 m c (t.val - 1) (Nat.lt_of_le_of_lt (Nat.sub_le _ _) t.isLt)).2.1) (iblk m c 2 t) ((outsAt0 m c (t.val - 1) (Nat.lt_of_le_of_lt (Nat.sub_le _ _) t.isLt)).2.2) (iblk m c 3 t)) := by
  by_cases h1 : t.val % 4 = 3
  · rw [outsAt0_C m c t h0 h1]
    frame_out
    simp only [read_unread_whole]
    rfl
  · rw [outsAt0_B m c t h0 h1]
    frame_out
    simp only [read_unread_whole]
    rfl

/-- What a row block's last point leaves in the result's block. -/
theorem point_last (c : Dev nD) (t : Fin cfg0.N) (h1 : t.val % 4 = 3) :
    (outsAt0 m c t.val t.isLt).1 = k0_pay4 (outsAt0 m c t.val t.isLt).2.2 (iblk m c 4 t) := by
  rw [outsAt0_C m c t (by omega) h1]
  frame_out

/-- The row of the arrays that row `r` of a point's row block is. -/
def row (t : Fin cfg0.N) (r : Fin 1024) : Fin 32768 :=
  ⟨1024 * (t.val / 4) + r.val, by have := t.isLt; have : cfg0.N = 128 := N_0; omega⟩

/-- The hidden column that column `k` of a point's hidden block is. -/
def hid (t : Fin cfg0.N) (k : Fin 1024) : Fin 4096 := ⟨t.val % 4 * 1024 + k.val, by omega⟩

/-- The block of `x` at a point. -/
theorem blk0 (c : Dev nD) (t : Fin cfg0.N) (r k : Fin 1024) :
    iblk m c 0 t (ix2 r k) = m ((c.tc : Thread nD τ).loc main_arg0) (ix2 (row t r) k) := by
  unfold row
  blk_ext [iblk, V, idx t]

/-- The block of the first norm's scale. -/
theorem blk1 (c : Dev nD) (t : Fin cfg0.N) (k : Fin 1024) :
    iblk m c 1 t (ix2 0 k) = m ((c.tc : Thread nD τ).loc main_arg1) (ix1 k) := by
  blk_ext! [iblk, V, idx t]

/-- The block of the up weights. -/
theorem blk2 (c : Dev nD) (t : Fin cfg0.N) (j k : Fin 1024) :
    iblk m c 2 t (ix2 j k) = m ((c.tc : Thread nD τ).loc main_arg2) (ix2 j (hid t k)) := by
  unfold hid
  blk_ext! [iblk, V, idx t]

/-- The block of the down weights. -/
theorem blk3 (c : Dev nD) (t : Fin cfg0.N) (j k : Fin 1024) :
    iblk m c 3 t (ix2 j k) = m ((c.tc : Thread nD τ).loc main_arg3) (ix2 (hid t j) k) := by
  unfold hid
  blk_ext! [iblk, V, idx t]

/-- The block of the final norm's scale. -/
theorem blk4 (c : Dev nD) (t : Fin cfg0.N) (k : Fin 1024) :
    iblk m c 4 t (ix2 0 k) = m ((c.tc : Thread nD τ).loc main_arg4) (ix1 k) := by
  blk_ext! [iblk, V, idx t]

/-- Where the result's block sits in its array. -/
theorem emb5 (t : Fin cfg0.N) (r k : Fin 1024) :
    ((cfg0.win 5).blk t).view.emb (ix2 r k) = ix2 (row t r) k := by
  unfold row
  blk_ext [idx t]

/-- One hidden column's entry of a row, before the squared positive part. -/
def pre (x : Vec Ideal S32768x1024 .f32) (g : Vec Ideal S1024 .f32) (up : Vec Ideal S1024x4096 .f32)
    (r : Fin 32768) (h : Fin 4096) : EReal :=
  ∑ j : Fin 1024, normed (fun k => x (ix2 r k)) (fun k => g (ix1 k)) j * up (ix2 j h)

/-- One hidden column's share of an entry of the second product. -/
def share (x : Vec Ideal S32768x1024 .f32) (g : Vec Ideal S1024 .f32) (up : Vec Ideal S1024x4096 .f32)
    (down : Vec Ideal S4096x1024 .f32) (r : Fin 32768) (k : Fin 1024) (h : Fin 4096) : EReal :=
  max (pre x g up r h) 0 * max (pre x g up r h) 0 * down (ix2 h k)

/-- The MLP's residual sum. -/
def added (x : Vec Ideal S32768x1024 .f32) (g : Vec Ideal S1024 .f32) (up : Vec Ideal S1024x4096 .f32)
    (down : Vec Ideal S4096x1024 .f32) (r : Fin 32768) (k : Fin 1024) : EReal :=
  x (ix2 r k) + ∑ h : Fin 4096, share x g up down r k h

/-- The MLP's result, as one function of the arguments. -/
def result (x : Vec Ideal S32768x1024 .f32) (g : Vec Ideal S1024 .f32) (up : Vec Ideal S1024x4096 .f32)
    (down : Vec Ideal S4096x1024 .f32) (gf : Vec Ideal S1024 .f32) : Vec Ideal S32768x1024 .f32 := fun i =>
  normed (added x g up down (i 0)) (fun k => gf (ix1 k)) (i 1)

/-- The first scratch after any point: the normalized rows of its row block. -/
theorem scratch (c : Dev nD) (t : Fin cfg0.N) (r k : Fin 1024) :
    (outsAt0 m c t.val t.isLt).2.1 (ix2 r k)
      = normed (fun k => m ((c.tc : Thread nD τ).loc main_arg0) (ix2 (row t r) k))
          (fun k => m ((c.tc : Thread nD τ).loc main_arg1) (ix1 k)) k := by
  refine (Pipeline.eq_of_write_hold_apply (fun n h => (outsAt0 m c n h).2.1) 4
    (fun t => k0_pay1 (iblk m c 0 t) (iblk m c 1 t)) (fun t h i => ?_) (fun t h i => ?_) t (ix2 r k)).trans ?_
  · rw [point_first m c t h]
  · rw [point_next m c t h]
  · rw [pay1_at]
    simp only [blk0, blk1]
    rw [show row _ r = row t r from Fin.ext (by simp only [row]; omega)]

/-- What a point adds to the accumulator. -/
def tile (c : Dev nD) (t : Fin cfg0.N) (r k : Fin 1024) : EReal :=
  ∑ h : Fin 1024, share (m ((c.tc : Thread nD τ).loc main_arg0)) (m ((c.tc : Thread nD τ).loc main_arg1))
    (m ((c.tc : Thread nD τ).loc main_arg2)) (m ((c.tc : Thread nD τ).loc main_arg3)) (row t r) k (hid t h)

/-- An entry of the rows a point's row block is. -/
def start (c : Dev nD) (t : Fin cfg0.N) (r k : Fin 1024) : EReal :=
  m ((c.tc : Thread nD τ).loc main_arg0) (ix2 (row t r) k)

/-- Whatever the accumulator held, a point's step adds its tile. -/
theorem step (c : Dev nD) (t : Fin cfg0.N) (a : Vec Ideal S1024x1024 .f32) (r k : Fin 1024) :
    k0_pay3 (outsAt0 m c t.val t.isLt).2.1 (iblk m c 2 t) a (iblk m c 3 t) (ix2 r k)
      = a (ix2 r k) + tile m c t r k := by
  refine (pay3_at _ _ _ _ r k).trans ?_
  simp only [scratch, blk2, blk3]
  rfl

/-- The accumulator at a row block's first point. -/
theorem acc_first (c : Dev nD) (t : Fin cfg0.N) (h0 : t.val % 4 = 0) (r k : Fin 1024) :
    (outsAt0 m c t.val t.isLt).2.2 (ix2 r k)
      = start m c t r k + tile m c t r k := by
  have h := point_first m c t h0
  have hs : (outsAt0 m c t.val t.isLt).2.1 = k0_pay1 (iblk m c 0 t) (iblk m c 1 t) := by rw [h]
  have := step m c t (k0_pay2 (iblk m c 0 t)) r k
  rw [hs, pay2_eq, blk0] at this
  rw [h, pay2_eq]
  exact this

/-- The accumulator at the other points. -/
theorem acc_next (c : Dev nD) (t : Fin cfg0.N) (h0 : ¬ t.val % 4 = 0) (r k : Fin 1024) :
    (outsAt0 m c t.val t.isLt).2.2 (ix2 r k)
      = (outsAt0 m c (t.val - 1) (Nat.lt_of_le_of_lt (Nat.sub_le _ _) t.isLt)).2.2 (ix2 r k) + tile m c t r k := by
  have h := point_next m c t h0
  have hs : (outsAt0 m c t.val t.isLt).2.1
      = (outsAt0 m c (t.val - 1) (Nat.lt_of_le_of_lt (Nat.sub_le _ _) t.isLt)).2.1 := by rw [h]
  have := step m c t (outsAt0 m c (t.val - 1) (Nat.lt_of_le_of_lt (Nat.sub_le _ _) t.isLt)).2.2 r k
  rw [hs] at this
  rw [h]
  exact this

/-- The accumulator's entries as plain numbers. -/
def acc (c : Dev nD) (n : ℕ) (h : n < cfg0.N) (i : Fin 1024 × Fin 1024) : EReal :=
  (outsAt0 m c n h).2.2 (ix2 i.1 i.2)

/-- The accumulator at a row block's last point: the whole residual sum. -/
theorem acc_last (c : Dev nD) (t : Fin cfg0.N) (h1 : t.val % 4 = 3) (r k : Fin 1024) :
    (outsAt0 m c t.val t.isLt).2.2 (ix2 r k)
      = added (m ((c.tc : Thread nD τ).loc main_arg0)) (m ((c.tc : Thread nD τ).loc main_arg1))
          (m ((c.tc : Thread nD τ).loc main_arg2)) (m ((c.tc : Thread nD τ).loc main_arg3)) (row t r) k := by
  refine (Pipeline.eq_sum_fin_of_reset_step_apply_of_flush (fun n h => acc m c n h) 4 (fun _ => 0)
    (fun t i => (if t.val % 4 = 0 then start m c t i.1 i.2 else 0) + tile m c t i.1 i.2) (fun t h i => ?_) (fun t h i => ?_) t h1 (r, k)).trans ?_
  · rw [if_pos h, zero_add]
    exact acc_first m c t h i.1 i.2
  · rw [if_neg h, zero_add]
    exact acc_next m c t h i.1 i.2
  · have hr : ∀ (s : Fin 4) (hs : 4 * (t.val / 4) + s.val < cfg0.N), row ⟨4 * (t.val / 4) + s.val, hs⟩ r = row t r :=
      fun s hs => Fin.ext (by simp only [row]; omega)
    rw [zero_add, Finset.sum_add_distrib]
    simp only [start, tile, hr, hid]
    refine congrArg₂ (· + ·) ?_ ?_
    · rw [Fin.sum_univ_four]
      simp
    · refine Eq.trans ?_ (Fin.sum_mul_add_fin 4 1024 _ rfl)
      refine Finset.sum_congr rfl fun s _ => Finset.sum_congr rfl fun h _ => ?_
      congr 2
      omega

/-- The kernel's result array is `result` of the arguments. -/
theorem kernel_array (c : Dev nD) : (dats m 0 c).arrAt 5 cfg0.N
    = result (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (dats m 0 c).arrAt_eq_of_covers 5 _ (by decide +kernel) fun t hf y => ?_
  blk_simp
  rw [after0_5]
  idx_vars y
  refine Eq.trans ?_ (congrArg (result _ _ _ _ _) (emb5 t y0 y1)).symm
  have h1 := (flush0_5 t).mp hf
  rw [point_last m c t h1]
  refine (pay4_at _ _ y0 y1).trans ?_
  simp only [acc_last m c t h1, blk4]
  rfl

/-- The reference ends with its arguments unchanged and every counter at zero. -/
theorem frame_reference : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

set_option maxHeartbeats 4000000 in
/-- The kernel and the plain reference end with the same array. -/
theorem algebraic : algebraic_Kernel2Ideal_Reference2Ideal := by
  intro m ρ m' ρ' _ h
  refine ⟨fun c => result (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)), ?_, ?_⟩
  · refine (θ_run _ _ _).mono (fun r hr c => ⟨(hr c).1.trans (kernel_array m c), (hr c).2⟩)
      (Value.run_blocks m ρ)
  · refine (θ_run _ _ _).mono (fun r hr c => ⟨(hr c).1.trans ?_, (hr c).2⟩) (Cert.Reference2Ideal.Value.run m' ρ')
    obtain ⟨h0, h1, h2, h3, h4⟩ := h c
    simp only [Cert.Reference2Ideal.Value.res_main_v30, h0, h1, h2, h3, h4]
    funext i
    idx_vars i
    pointwise [result, added, share, pre, normed]

end Cert.Mlp

end
-- ==== Proof.Merge.lean ====
module

public import proofs.«01_k».proof.Proof.Gen.Kernel3Ideal.Value
public import proofs.«01_k».proof.Proof.Gen.Reference3Ideal.Run
public import proofs.«01_k».proof.Proof.Common
public import proofs.«01_k».proof.Defs

@[expose] public section

set_option maxRecDepth 16384

noncomputable section

/-! The branches' merge: each branch's output times its weights, gated by the logistic of its gate, the four summed,
    the sum times the output weights added to `x`. The kernel walks 64 blocks of 512 rows. -/

namespace Cert.Merge

open Cert.Kernel3Ideal Cert.Kernel3Ideal.Gen Idealize.ShloMosaic Idealize.ShloMosaic.TcCoe Idealize.SL.Sem

variable (m : (ℓ : Loc nD τ sig) → Buf (Elt Ideal) ℓ)

/-- Which block each window reads at a grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![0, 0] ∧ win0_7.index t = ![0, 0, 0]
    ∧ win0_8.index t = ![0, 0] ∧ win0_9.index t = ![t.val, 0] :=
  (by decide +kernel : ∀ t : Fin grid0.N, _)

/-- The row of the arrays that row `r` of a point's block is. -/
def row (t : Fin cfg0.N) (r : Fin 512) : Fin 32768 :=
  ⟨512 * t.val + r.val, by have := t.isLt; have : cfg0.N = 64 := N_0; omega⟩

/-- The block of `x` at a point. -/
theorem blk0 (c : Dev nD) (t : Fin cfg0.N) (r : Fin 512) (k : Fin 1024) :
    iblk m c 0 t (ix2 r k) = m ((c.tc : Thread nD τ).loc main_arg0) (ix2 (row t r) k) := by
  unfold row
  blk_ext [iblk, V, idx t]

/-- The block of the gates. -/
theorem blk1 (c : Dev nD) (t : Fin cfg0.N) (r : Fin 512) (k : Fin 4096) :
    iblk m c 1 t (ix2 r k) = m ((c.tc : Thread nD τ).loc main_arg1) (ix2 (row t r) k) := by
  unfold row
  blk_ext! [iblk, V, idx t]

/-- The blocks of the four branches' outputs. -/
theorem blk2 (c : Dev nD) (t : Fin cfg0.N) (r k : Fin 512) :
    iblk m c 2 t (ix2 r k) = m ((c.tc : Thread nD τ).loc main_arg2) (ix2 (row t r) k) := by
  unfold row
  blk_ext! [iblk, V, idx t]
theorem blk3 (c : Dev nD) (t : Fin cfg0.N) (r k : Fin 512) :
    iblk m c 3 t (ix2 r k) = m ((c.tc : Thread nD τ).loc main_arg3) (ix2 (row t r) k) := by
  unfold row
  blk_ext! [iblk, V, idx t]
theorem blk4 (c : Dev nD) (t : Fin cfg0.N) (r k : Fin 512) :
    iblk m c 4 t (ix2 r k) = m ((c.tc : Thread nD τ).loc main_arg4) (ix2 (row t r) k) := by
  unfold row
  blk_ext! [iblk, V, idx t]
theorem blk5 (c : Dev nD) (t : Fin cfg0.N) (r k : Fin 512) :
    iblk m c 5 t (ix2 r k) = m ((c.tc : Thread nD τ).loc main_arg5) (ix2 (row t r) k) := by
  unfold row
  blk_ext! [iblk, V, idx t]

/-- The gates' biases, the branches' weights and the output weights: whole arrays. -/
theorem blk6 (c : Dev nD) (t : Fin cfg0.N) (i : Fin 4) (k : Fin 1024) :
    iblk m c 6 t (ix2 i k) = m ((c.tc : Thread nD τ).loc main_arg6) (ix2 i k) := by
  blk_ext! [iblk, V, idx t]
theorem blk7 (c : Dev nD) (t : Fin cfg0.N) (i : Fin 4) (j : Fin 512) (k : Fin 1024) :
    iblk m c 7 t (ix3 i j k) = m ((c.tc : Thread nD τ).loc main_arg7) (ix3 i j k) := by
  blk_ext! [iblk, V, idx t]
theorem blk8 (c : Dev nD) (t : Fin cfg0.N) (j k : Fin 1024) :
    iblk m c 8 t (ix2 j k) = m ((c.tc : Thread nD τ).loc main_arg8) (ix2 j k) := by
  blk_ext! [iblk, V, idx t]

/-- Where the result's block sits in its array. -/
theorem emb9 (t : Fin cfg0.N) (r : Fin 512) (k : Fin 1024) :
    ((cfg0.win 9).blk t).view.emb (ix2 r k) = ix2 (row t r) k := by
  unfold row
  blk_ext [idx t]

/-- One branch's gated term: row `r`, column `q`, of branch `i`. -/
def gated (pg : Vec Ideal S32768x4096 .f32) (o : Vec Ideal S32768x512 .f32) (b : Vec Ideal S4x1024 .f32)
    (wb : Vec Ideal S4x512x1024 .f32) (i : Fin 4) (r : Fin 32768) (q : Fin 1024) : EReal :=
  Ideal.logistic (pg (ix2 r ⟨1024 * i.val + q.val, by omega⟩) + b (ix2 i q))
    * ∑ j : Fin 512, o (ix2 r j) * wb (ix3 i j q)

/-- The merge's result, as one function of the arguments. -/
def result (x : Vec Ideal S32768x1024 .f32) (pg : Vec Ideal S32768x4096 .f32)
    (o0 o1 o2 o3 : Vec Ideal S32768x512 .f32) (b : Vec Ideal S4x1024 .f32) (wb : Vec Ideal S4x512x1024 .f32)
    (wo : Vec Ideal S1024x1024 .f32) : Vec Ideal S32768x1024 .f32 := fun i =>
  x (ix2 (i 0) (i 1)) + ∑ q : Fin 1024,
    (gated pg o0 b wb 0 (i 0) q + gated pg o1 b wb 1 (i 0) q + gated pg o2 b wb 2 (i 0) q + gated pg o3 b wb 3 (i 0) q)
      * wo (ix2 q (i 1))

/-- The kernel's result array is `result` of the arguments. -/
theorem kernel_array (c : Dev nD) : (dats m 0 c).arrAt 9 cfg0.N
    = result (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) := by
  refine (dats m 0 c).arrAt_eq_of_covers 9 _ (by decide +kernel) fun t hf y => ?_
  blk_simp
  rw [after0_9]
  frame_out
  idx_vars y
  refine Eq.trans ?_ (congrArg (result _ _ _ _ _ _ _ _ _) (emb9 t y0 y1)).symm
  pointwise [k0_pay1, k0_pay2, k0_pay3]
  simp only [blk0, blk1, blk2, blk3, blk4, blk5, blk6, blk7, blk8]
  simp only [result, gated]
  pointwise

/-- The reference ends with its arguments unchanged and every counter at zero. -/
theorem frame_reference : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

set_option maxHeartbeats 4000000 in
/-- The kernel and the plain reference end with the same array. -/
theorem algebraic : algebraic_Kernel3Ideal_Reference3Ideal := by
  intro m ρ m' ρ' _ h
  refine ⟨fun c => result (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)), ?_, ?_⟩
  · refine (θ_run _ _ _).mono (fun r hr c => ⟨(hr c).1.trans (kernel_array m c), (hr c).2⟩)
      (Value.run_blocks m ρ)
  · refine (θ_run _ _ _).mono (fun r hr c => ⟨(hr c).1.trans ?_, (hr c).2⟩) (Cert.Reference3Ideal.Value.run m' ρ')
    obtain ⟨h0, h1, h2, h3, h4, h5, h6, h7, h8⟩ := h c
    rw [h0, h1, h2, h3, h4, h5, h6, h7, h8]
    funext i
    idx_vars i
    pointwise
    simp only [result, gated, Ideal.logistic]
    pointwise
end Cert.Merge

end
-- ==== Proof.Proj.lean ====
module

public import proofs.«01_k».proof.Proof.Gen.Kernel4Ideal.Value
public import proofs.«01_k».proof.Proof.Gen.Reference4Ideal.Run
public import proofs.«01_k».proof.Proof.Common
public import proofs.«01_k».proof.Defs

@[expose] public section

set_option maxRecDepth 16384

noncomputable section

/-! The gates' projection: the rows of `x` normalized by their root mean square, times the last 4096 columns of the
    input weights. The kernel walks 32 blocks of 1024 rows and, within one, four blocks of 1024 columns; at a row
    block's first column block it normalizes the rows into a scratch, which the other three column blocks read again. -/

namespace Cert.Proj

open Cert.Kernel4Ideal Cert.Kernel4Ideal.Gen Idealize.ShloMosaic Idealize.ShloMosaic.TcCoe Idealize.SL.Sem
open Cert.Layer

variable (m : (ℓ : Loc nD τ sig) → Buf (Elt Ideal) ℓ)

/-- Which block each window reads at a grid point. -/
theorem idx : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

/-- The normalizing payload at an index. -/
theorem pay1_at (x : Vec Ideal S1024x1024 .f32) (g : Vec Ideal S1x1024 .f32) (r k : Fin 1024) :
    k0_pay1 x g (ix2 r k) = normed (fun k => x (ix2 r k)) (fun k => g (ix2 0 k)) k := by
  pointwise [k0_pay1, normed]

/-- The product's payload at an index. -/
theorem pay2_at (x w : Vec Ideal S1024x1024 .bf16) (r k : Fin 1024) :
    k0_pay2 x w (ix2 r k) = ∑ j : Fin 1024, x (ix2 r j) * w (ix2 j k) := by
  pointwise [k0_pay2]

/-- What a row block's first point leaves. -/
theorem point_first (c : Dev nD) (t : Fin cfg0.N) (h0 : t.val % 4 = 0) :
    outsAt0 m c t.val t.isLt = (k0_pay2 (k0_pay1 (iblk m c 0 t) (iblk m c 1 t)) (iblk m c 2 t),
      k0_pay1 (iblk m c 0 t) (iblk m c 1 t)) := by
  rw [outsAt0_A m c t h0]
  frame_out

/-- What a row block's other points leave. -/
theorem point_next (c : Dev nD) (t : Fin cfg0.N) (h0 : ¬ t.val % 4 = 0) :
    outsAt0 m c t.val t.isLt
      = (k0_pay2 ((outsAt0 m c (t.val - 1) (Nat.lt_of_le_of_lt (Nat.sub_le _ _) t.isLt)).2) (iblk m c 2 t),
        (outsAt0 m c (t.val - 1) (Nat.lt_of_le_of_lt (Nat.sub_le _ _) t.isLt)).2) := by
  rw [outsAt0_B m c t h0]
  frame_out
  simp only [read_unread_whole]
  rfl

/-- The row of the arrays that row `r` of a point's row block is. -/
def row (t : Fin cfg0.N) (r : Fin 1024) : Fin 32768 :=
  ⟨1024 * (t.val / 4) + r.val, by have := t.isLt; have : cfg0.N = 128 := N_0; omega⟩

/-- The column of the gates that column `k` of a point's column block is. -/
def col (t : Fin cfg0.N) (k : Fin 1024) : Fin 4096 := ⟨1024 * (t.val % 4) + k.val, by omega⟩

/-- The block of `x` at a point. -/
theorem blk0 (c : Dev nD) (t : Fin cfg0.N) (r k : Fin 1024) :
    iblk m c 0 t (ix2 r k) = m ((c.tc : Thread nD τ).loc main_arg0) (ix2 (row t r) k) := by
  unfold row
  blk_ext [iblk, V, idx t]

/-- The block of the scale. -/
theorem blk1 (c : Dev nD) (t : Fin cfg0.N) (k : Fin 1024) :
    iblk m c 1 t (ix2 0 k) = m ((c.tc : Thread nD τ).loc main_arg1) (ix1 k) := by
  blk_ext! [iblk, V, idx t]

/-- The block of the weights at a point. -/
theorem blk2 (c : Dev nD) (t : Fin cfg0.N) (j k : Fin 1024) :
    iblk m c 2 t (ix2 j k) = m ((c.tc : Thread nD τ).loc main_arg2)
      (ix2 j ⟨4836 + (col t k).val, by have := (col t k).isLt; omega⟩) := by
  unfold col
  blk_ext! [iblk, V, idx t]

/-- Where the result's block sits in its array. -/
theorem emb3 (t : Fin cfg0.N) (r k : Fin 1024) :
    ((cfg0.win 3).blk t).view.emb (ix2 r k) = ix2 (row t r) (col t k) := by
  unfold row col
  blk_ext [idx t]

/-- The scratch after any point: the normalized rows of its row block. -/
theorem scratch (c : Dev nD) (t : Fin cfg0.N) (r k : Fin 1024) :
    (outsAt0 m c t.val t.isLt).2 (ix2 r k)
      = normed (fun k => m ((c.tc : Thread nD τ).loc main_arg0) (ix2 (row t r) k))
          (fun k => m ((c.tc : Thread nD τ).loc main_arg1) (ix1 k)) k := by
  refine (Pipeline.eq_of_write_hold_apply (fun n h => (outsAt0 m c n h).2) 4
    (fun t => k0_pay1 (iblk m c 0 t) (iblk m c 1 t)) (fun t h i => ?_) (fun t h i => ?_) t (ix2 r k)).trans ?_
  · rw [point_first m c t h]
  · rw [point_next m c t h]
  · rw [pay1_at]
    simp only [blk0, blk1]
    rw [show row _ r = row t r from Fin.ext (by simp only [row]; omega)]

/-- What any point leaves in the result's block. -/
theorem block (c : Dev nD) (t : Fin cfg0.N) (r k : Fin 1024) :
    (outsAt0 m c t.val t.isLt).1 (ix2 r k)
      = ∑ j : Fin 1024, (outsAt0 m c t.val t.isLt).2 (ix2 r j) * iblk m c 2 t (ix2 j k) := by
  by_cases h : t.val % 4 = 0
  · rw [point_first m c t h]
    exact pay2_at ..
  · rw [point_next m c t h]
    exact pay2_at ..

/-- The projection's result, as one function of the arguments. -/
def result (x : Vec Ideal S32768x1024 .f32) (g : Vec Ideal S1024 .f32) (w : Vec Ideal S1024x8932 .f32) :
    Vec Ideal S32768x4096 .bf16 := fun i =>
  ∑ j : Fin 1024, normed (fun k => x (ix2 (i 0) k)) (fun k => g (ix1 k)) j
    * w (ix2 j ⟨4836 + (i 1).val, by have h : (i 1).val < 4096 := (i 1).isLt; omega⟩)

/-- The kernel's result array is `result` of the arguments. -/
theorem kernel_array (c : Dev nD) : (dats m 0 c).arrAt 3 cfg0.N
    = result (m ((c.tc : Thread nD τ).loc main_arg0)) (m ((c.tc : Thread nD τ).loc main_arg1))
        (m ((c.tc : Thread nD τ).loc main_arg2)) := by
  refine (dats m 0 c).arrAt_eq_of_covers 3 _ (by decide +kernel) fun t hf y => ?_
  blk_simp
  rw [after0_3]
  idx_vars y
  refine (block m c t y0 y1).trans (Eq.trans ?_ (congrArg (result _ _ _) (emb3 t y0 y1)).symm)
  simp only [scratch, blk2]
  rfl

/-- The reference ends with its arguments unchanged and every counter at zero. -/
theorem frame_reference : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel and the plain reference end with the same array. -/
theorem algebraic : algebraic_Kernel4Ideal_Reference4Ideal := by
  intro m ρ m' ρ' _ h
  refine ⟨fun c => result (m ((c.tc : Thread nD τ).loc main_arg0)) (m ((c.tc : Thread nD τ).loc main_arg1))
    (m ((c.tc : Thread nD τ).loc main_arg2)), ?_, ?_⟩
  · refine (θ_run _ _ _).mono (fun r hr c => ⟨(hr c).1.trans (kernel_array m c), (hr c).2⟩)
      (Value.run_blocks m ρ)
  · refine (θ_run _ _ _).mono (fun r hr c => ⟨(hr c).1.trans ?_, (hr c).2⟩) (Cert.Reference4Ideal.Value.run m' ρ')
    rw [(h c).1, (h c).2.1, (h c).2.2]
    funext i
    idx_vars i
    pointwise [result, normed]

end Cert.Proj

end
-- ==== Proof.MlpMid.lean ====
module

public import proofs.«01_k».proof.Proof.Gen.Kernel5Ideal.Value
public import proofs.«01_k».proof.Proof.Gen.Reference5Ideal.Run
public import proofs.«01_k».proof.Proof.Common
public import proofs.«01_k».proof.Defs

@[expose] public section

set_option maxRecDepth 16384

noncomputable section

/-! The MLP of a layer before the last: the rows of `x` normalized, times the up weights, the squared positive part of that
    times the down weights, added to `x`. The kernel walks 32 blocks of 1024 rows and, within
    one, four blocks of 1024 hidden columns. At a row block's first point it normalizes the rows into one scratch and
    puts the rows themselves into another, the accumulator; every point adds its hidden columns' share to the
    accumulator; the last point writes the accumulator. -/

namespace Cert.MlpMid

open Cert.Kernel5Ideal Cert.Kernel5Ideal.Gen Idealize.ShloMosaic Idealize.ShloMosaic.TcCoe Idealize.SL.Sem
open Cert.Layer

variable (m : (ℓ : Loc nD τ sig) → Buf (Elt Ideal) ℓ)

/-- Which block each window reads at a grid point. -/
theorem idx : ∀ t : Fin cfg0.N, win0_0.index t = ![t.val / 4, 0] ∧ win0_1.index t = ![0, 0]
    ∧ win0_2.index t = ![0, t.val % 4] ∧ win0_3.index t = ![t.val % 4, 0] ∧ win0_4.index t = ![0, 0]
    ∧ win0_5.index t = ![t.val / 4, 0] :=
  (by decide +kernel : ∀ t : Fin grid0.N, _)

/-- The normalizing payload at an index. -/
theorem pay1_at (x : Vec Ideal S1024x1024 .f32) (g : Vec Ideal S1x1024 .f32) (r k : Fin 1024) :
    k0_pay1 x g (ix2 r k) = normed (fun k => x (ix2 r k)) (fun k => g (ix2 0 k)) k := by
  pointwise [k0_pay1, normed]

/-- The accumulator starts as the rows themselves. -/
theorem pay2_eq (x : Vec Ideal S1024x1024 .f32) : k0_pay2 x = x := by
  funext i
  idx_vars i
  pointwise [k0_pay2]

/-- One tile of the hidden columns adds its share. -/
theorem pay3_at (x w : Vec Ideal S1024x1024 .bf16) (a : Vec Ideal S1024x1024 .f32) (u : Vec Ideal S1024x1024 .bf16)
    (r k : Fin 1024) :
    k0_pay3 x w a u (ix2 r k) = a (ix2 r k) + ∑ h : Fin 1024,
      (max (∑ j : Fin 1024, x (ix2 r j) * w (ix2 j h)) 0 * max (∑ j : Fin 1024, x (ix2 r j) * w (ix2 j h)) 0) * u (ix2 h k) := by
  pointwise [k0_pay3]

/-- What a row block's first point leaves in the scratches. -/
theorem point_first (c : Dev nD) (t : Fin cfg0.N) (h0 : t.val % 4 = 0) :
    (outsAt0 m c t.val t.isLt).2 = (k0_pay1 (iblk m c 0 t) (iblk m c 1 t), k0_pay3 (k0_pay1 (iblk m c 0 t) (iblk m c 1 t)) (iblk m c 2 t) (k0_pay2 (iblk m c 0 t)) (iblk m c 3 t)) := by
  rw [outsAt0_A m c t h0 (by omega)]
  frame_out

/-- What a row block's other points leave in the scratches. -/
theorem point_next (c : Dev nD) (t : Fin cfg0.N) (h0 : ¬ t.val % 4 = 0) :
    (outsAt0 m c t.val t.isLt).2 = ((outsAt0 m c (t.val - 1) (Nat.lt_of_le_of_lt (Nat.sub_le _ _) t.isLt)).2.1, k0_pay3 ((outsAt0 m c (t.val - 1) (Nat.lt_of_le_of_lt (Nat.sub_le _ _) t.isLt)).2.1) (iblk m c 2 t) ((outsAt0 m c (t.val - 1) (Nat.lt_of_le_of_lt (Nat.sub_le _ _) t.isLt)).2.2) (iblk m c 3 t)) := by
  by_cases h1 : t.val % 4 = 3
  · rw [outsAt0_C m c t h0 h1]
    frame_out
    simp only [read_unread_whole]
    rfl
  · rw [outsAt0_B m c t h0 h1]
    frame_out
    simp only [read_unread_whole]
    rfl

/-- What a row block's last point leaves in the result's block. -/
theorem point_last (c : Dev nD) (t : Fin cfg0.N) (h1 : t.val % 4 = 3) :
    (outsAt0 m c t.val t.isLt).1 = (outsAt0 m c t.val t.isLt).2.2 := by
  rw [outsAt0_C m c t (by omega) h1]
  frame_out

/-- The row of the arrays that row `r` of a point's row block is. -/
def row (t : Fin cfg0.N) (r : Fin 1024) : Fin 32768 :=
  ⟨1024 * (t.val / 4) + r.val, by have := t.isLt; have : cfg0.N = 128 := N_0; omega⟩

/-- The hidden column that column `k` of a point's hidden block is. -/
def hid (t : Fin cfg0.N) (k : Fin 1024) : Fin 4096 := ⟨t.val % 4 * 1024 + k.val, by omega⟩

/-- The block of `x` at a point. -/
theorem blk0 (c : Dev nD) (t : Fin cfg0.N) (r k : Fin 1024) :
    iblk m c 0 t (ix2 r k) = m ((c.tc : Thread nD τ).loc main_arg0) (ix2 (row t r) k) := by
  unfold row
  blk_ext [iblk, V, idx t]

/-- The block of the first norm's scale. -/
theorem blk1 (c : Dev nD) (t : Fin cfg0.N) (k : Fin 1024) :
    iblk m c 1 t (ix2 0 k) = m ((c.tc : Thread nD τ).loc main_arg1) (ix1 k) := by
  blk_ext! [iblk, V, idx t]

/-- The block of the up weights. -/
theorem blk2 (c : Dev nD) (t : Fin cfg0.N) (j k : Fin 1024) :
    iblk m c 2 t (ix2 j k) = m ((c.tc : Thread nD τ).loc main_arg2) (ix2 j (hid t k)) := by
  unfold hid
  blk_ext! [iblk, V, idx t]

/-- The block of the down weights. -/
theorem blk3 (c : Dev nD) (t : Fin cfg0.N) (j k : Fin 1024) :
    iblk m c 3 t (ix2 j k) = m ((c.tc : Thread nD τ).loc main_arg3) (ix2 (hid t j) k) := by
  unfold hid
  blk_ext! [iblk, V, idx t]

/-- Where the result's block sits in its array. -/
theorem emb5 (t : Fin cfg0.N) (r k : Fin 1024) :
    ((cfg0.win 5).blk t).view.emb (ix2 r k) = ix2 (row t r) k := by
  unfold row
  blk_ext [idx t]

/-- One hidden column's entry of a row, before the squared positive part. -/
def pre (x : Vec Ideal S32768x1024 .f32) (g : Vec Ideal S1024 .f32) (up : Vec Ideal S1024x4096 .f32)
    (r : Fin 32768) (h : Fin 4096) : EReal :=
  ∑ j : Fin 1024, normed (fun k => x (ix2 r k)) (fun k => g (ix1 k)) j * up (ix2 j h)

/-- One hidden column's share of an entry of the second product. -/
def share (x : Vec Ideal S32768x1024 .f32) (g : Vec Ideal S1024 .f32) (up : Vec Ideal S1024x4096 .f32)
    (down : Vec Ideal S4096x1024 .f32) (r : Fin 32768) (k : Fin 1024) (h : Fin 4096) : EReal :=
  max (pre x g up r h) 0 * max (pre x g up r h) 0 * down (ix2 h k)

/-- The MLP's residual sum. -/
def added (x : Vec Ideal S32768x1024 .f32) (g : Vec Ideal S1024 .f32) (up : Vec Ideal S1024x4096 .f32)
    (down : Vec Ideal S4096x1024 .f32) (r : Fin 32768) (k : Fin 1024) : EReal :=
  x (ix2 r k) + ∑ h : Fin 4096, share x g up down r k h

/-- The MLP's result, as one function of the arguments. -/
def result (x : Vec Ideal S32768x1024 .f32) (g : Vec Ideal S1024 .f32) (up : Vec Ideal S1024x4096 .f32)
    (down : Vec Ideal S4096x1024 .f32) : Vec Ideal S32768x1024 .f32 := fun i => added x g up down (i 0) (i 1)

/-- The first scratch after any point: the normalized rows of its row block. -/
theorem scratch (c : Dev nD) (t : Fin cfg0.N) (r k : Fin 1024) :
    (outsAt0 m c t.val t.isLt).2.1 (ix2 r k)
      = normed (fun k => m ((c.tc : Thread nD τ).loc main_arg0) (ix2 (row t r) k))
          (fun k => m ((c.tc : Thread nD τ).loc main_arg1) (ix1 k)) k := by
  refine (Pipeline.eq_of_write_hold_apply (fun n h => (outsAt0 m c n h).2.1) 4
    (fun t => k0_pay1 (iblk m c 0 t) (iblk m c 1 t)) (fun t h i => ?_) (fun t h i => ?_) t (ix2 r k)).trans ?_
  · rw [point_first m c t h]
  · rw [point_next m c t h]
  · rw [pay1_at]
    simp only [blk0, blk1]
    rw [show row _ r = row t r from Fin.ext (by simp only [row]; omega)]

/-- What a point adds to the accumulator. -/
def tile (c : Dev nD) (t : Fin cfg0.N) (r k : Fin 1024) : EReal :=
  ∑ h : Fin 1024, share (m ((c.tc : Thread nD τ).loc main_arg0)) (m ((c.tc : Thread nD τ).loc main_arg1))
    (m ((c.tc : Thread nD τ).loc main_arg2)) (m ((c.tc : Thread nD τ).loc main_arg3)) (row t r) k (hid t h)

/-- An entry of the rows a point's row block is. -/
def start (c : Dev nD) (t : Fin cfg0.N) (r k : Fin 1024) : EReal :=
  m ((c.tc : Thread nD τ).loc main_arg0) (ix2 (row t r) k)

/-- Whatever the accumulator held, a point's step adds its tile. -/
theorem step (c : Dev nD) (t : Fin cfg0.N) (a : Vec Ideal S1024x1024 .f32) (r k : Fin 1024) :
    k0_pay3 (outsAt0 m c t.val t.isLt).2.1 (iblk m c 2 t) a (iblk m c 3 t) (ix2 r k)
      = a (ix2 r k) + tile m c t r k := by
  refine (pay3_at _ _ _ _ r k).trans ?_
  simp only [scratch, blk2, blk3]
  rfl

/-- The accumulator at a row block's first point. -/
theorem acc_first (c : Dev nD) (t : Fin cfg0.N) (h0 : t.val % 4 = 0) (r k : Fin 1024) :
    (outsAt0 m c t.val t.isLt).2.2 (ix2 r k)
      = start m c t r k + tile m c t r k := by
  have h := point_first m c t h0
  have hs : (outsAt0 m c t.val t.isLt).2.1 = k0_pay1 (iblk m c 0 t) (iblk m c 1 t) := by rw [h]
  have := step m c t (k0_pay2 (iblk m c 0 t)) r k
  rw [hs, pay2_eq, blk0] at this
  rw [h, pay2_eq]
  exact this

/-- The accumulator at the other points. -/
theorem acc_next (c : Dev nD) (t : Fin cfg0.N) (h0 : ¬ t.val % 4 = 0) (r k : Fin 1024) :
    (outsAt0 m c t.val t.isLt).2.2 (ix2 r k)
      = (outsAt0 m c (t.val - 1) (Nat.lt_of_le_of_lt (Nat.sub_le _ _) t.isLt)).2.2 (ix2 r k) + tile m c t r k := by
  have h := point_next m c t h0
  have hs : (outsAt0 m c t.val t.isLt).2.1
      = (outsAt0 m c (t.val - 1) (Nat.lt_of_le_of_lt (Nat.sub_le _ _) t.isLt)).2.1 := by rw [h]
  have := step m c t (outsAt0 m c (t.val - 1) (Nat.lt_of_le_of_lt (Nat.sub_le _ _) t.isLt)).2.2 r k
  rw [hs] at this
  rw [h]
  exact this

/-- The accumulator's entries as plain numbers. -/
def acc (c : Dev nD) (n : ℕ) (h : n < cfg0.N) (i : Fin 1024 × Fin 1024) : EReal :=
  (outsAt0 m c n h).2.2 (ix2 i.1 i.2)

/-- The accumulator at a row block's last point: the whole residual sum. -/
theorem acc_last (c : Dev nD) (t : Fin cfg0.N) (h1 : t.val % 4 = 3) (r k : Fin 1024) :
    (outsAt0 m c t.val t.isLt).2.2 (ix2 r k)
      = added (m ((c.tc : Thread nD τ).loc main_arg0)) (m ((c.tc : Thread nD τ).loc main_arg1))
          (m ((c.tc : Thread nD τ).loc main_arg2)) (m ((c.tc : Thread nD τ).loc main_arg3)) (row t r) k := by
  refine (Pipeline.eq_sum_fin_of_reset_step_apply_of_flush (fun n h => acc m c n h) 4 (fun _ => 0)
    (fun t i => (if t.val % 4 = 0 then start m c t i.1 i.2 else 0) + tile m c t i.1 i.2) (fun t h i => ?_) (fun t h i => ?_) t h1 (r, k)).trans ?_
  · rw [if_pos h, zero_add]
    exact acc_first m c t h i.1 i.2
  · rw [if_neg h, zero_add]
    exact acc_next m c t h i.1 i.2
  · have hr : ∀ (s : Fin 4) (hs : 4 * (t.val / 4) + s.val < cfg0.N), row ⟨4 * (t.val / 4) + s.val, hs⟩ r = row t r :=
      fun s hs => Fin.ext (by simp only [row]; omega)
    rw [zero_add, Finset.sum_add_distrib]
    simp only [start, tile, hr, hid]
    refine congrArg₂ (· + ·) ?_ ?_
    · rw [Fin.sum_univ_four]
      simp
    · refine Eq.trans ?_ (Fin.sum_mul_add_fin 4 1024 _ rfl)
      refine Finset.sum_congr rfl fun s _ => Finset.sum_congr rfl fun h _ => ?_
      congr 2
      omega

/-- The kernel's result array is `result` of the arguments. -/
theorem kernel_array (c : Dev nD) : (dats m 0 c).arrAt 5 cfg0.N
    = result (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 5 _ (by decide +kernel) fun t hf y => ?_
  blk_simp
  rw [after0_5]
  idx_vars y
  refine Eq.trans ?_ (congrArg (result _ _ _ _) (emb5 t y0 y1)).symm
  have h1 := (flush0_5 t).mp hf
  rw [point_last m c t h1]
  exact acc_last m c t h1 y0 y1

/-- The reference ends with its arguments unchanged and every counter at zero. -/
theorem frame_reference : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

set_option maxHeartbeats 4000000 in
/-- The kernel and the plain reference end with the same array. -/
theorem algebraic : algebraic_Kernel5Ideal_Reference5Ideal := by
  intro m ρ m' ρ' _ h
  refine ⟨fun c => result (m ((c.tc : Thread nD τ).loc main_arg0)) (m ((c.tc : Thread nD τ).loc main_arg1))
        (m ((c.tc : Thread nD τ).loc main_arg2)) (m ((c.tc : Thread nD τ).loc main_arg3)), ?_, ?_⟩
  · refine (θ_run _ _ _).mono (fun r hr c => ⟨(hr c).1.trans (kernel_array m c), (hr c).2⟩)
      (Value.run_blocks m ρ)
  · refine (θ_run _ _ _).mono (fun r hr c => ⟨(hr c).1.trans ?_, (hr c).2⟩) (Cert.Reference5Ideal.Value.run m' ρ')
    obtain ⟨h0, h1, h2, h3, h4⟩ := h c
    rw [h0, h1, h2, h3]
    funext i
    idx_vars i
    pointwise [result, added, share, pre, normed]

end Cert.MlpMid

end
-- ==== Proof.ProjPool.lean ====
module

public import proofs.«01_k».proof.Proof.Gen.Kernel6Ideal.Value
public import proofs.«01_k».proof.Proof.Gen.Reference6Ideal.Run
public import proofs.«01_k».proof.Proof.Common
public import proofs.«01_k».proof.Defs

@[expose] public section

set_option maxRecDepth 16384

noncomputable section

/-! The pooling's projection: the rows of `x` normalized by their root mean square, times 512 columns of the input
    weights. The kernel walks 32 blocks of 1024 rows; at each it normalizes the rows into a scratch and multiplies
    the scratch by the weights. -/

namespace Cert.ProjPool

open Cert.Kernel6Ideal Cert.Kernel6Ideal.Gen Idealize.ShloMosaic Idealize.ShloMosaic.TcCoe Idealize.SL.Sem
open Cert.Layer

variable (m : (ℓ : Loc nD τ sig) → Buf (Elt Ideal) ℓ)

/-- Which block each window reads at a grid point. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- The normalizing payload at an index. -/
theorem pay1_at (x : Vec Ideal S1024x1024 .f32) (g : Vec Ideal S1x1024 .f32) (r k : Fin 1024) :
    k0_pay1 x g (ix2 r k) = normed (fun k => x (ix2 r k)) (fun k => g (ix2 0 k)) k := by
  pointwise [k0_pay1, normed]

/-- The product's payload at an index. -/
theorem pay2_at (x : Vec Ideal S1024x1024 .bf16) (w : Vec Ideal S1024x512 .bf16) (r : Fin 1024) (k : Fin 512) :
    k0_pay2 x w (ix2 r k) = ∑ j : Fin 1024, x (ix2 r j) * w (ix2 j k) := by
  pointwise [k0_pay2]

/-- The row of the arrays that row `r` of a point's row block is. -/
def row (t : Fin cfg0.N) (r : Fin 1024) : Fin 32768 :=
  ⟨1024 * t.val + r.val, by have := t.isLt; have : cfg0.N = 32 := N_0; omega⟩

/-- The block of `x` at a point. -/
theorem blk0 (c : Dev nD) (t : Fin cfg0.N) (r k : Fin 1024) :
    iblk m c 0 t (ix2 r k) = m ((c.tc : Thread nD τ).loc main_arg0) (ix2 (row t r) k) := by
  unfold row
  blk_ext [iblk, V, idx t]

/-- The block of the scale. -/
theorem blk1 (c : Dev nD) (t : Fin cfg0.N) (k : Fin 1024) :
    iblk m c 1 t (ix2 0 k) = m ((c.tc : Thread nD τ).loc main_arg1) (ix1 k) := by
  blk_ext! [iblk, V, idx t]

/-- The block of the weights. -/
theorem blk2 (c : Dev nD) (t : Fin cfg0.N) (j : Fin 1024) (k : Fin 512) :
    iblk m c 2 t (ix2 j k) = m ((c.tc : Thread nD τ).loc main_arg2) (ix2 j ⟨2788 + k.val, by omega⟩) := by
  blk_ext! [iblk, V, idx t]

/-- Where the result's block sits in its array. -/
theorem emb3 (t : Fin cfg0.N) (r : Fin 1024) (k : Fin 512) :
    ((cfg0.win 3).blk t).view.emb (ix2 r k) = ix2 (row t r) k := by
  unfold row
  blk_ext [idx t]

/-- What a point leaves in the result's block. -/
theorem block (c : Dev nD) (t : Fin cfg0.N) :
    outsAt0 m c t = k0_pay2 (k0_pay1 (iblk m c 0 t) (iblk m c 1 t)) (iblk m c 2 t) := by
  unfold outsAt0
  frame_out

/-- The projection's result, as one function of the arguments. -/
def result (x : Vec Ideal S32768x1024 .f32) (g : Vec Ideal S1024 .f32) (w : Vec Ideal S1024x8932 .f32) :
    Vec Ideal S32768x512 .bf16 := fun i =>
  ∑ j : Fin 1024, normed (fun k => x (ix2 (i 0) k)) (fun k => g (ix1 k)) j
    * w (ix2 j ⟨2788 + (i 1).val, by have h : (i 1).val < 512 := (i 1).isLt; omega⟩)

/-- The kernel's result array is `result` of the arguments. -/
theorem kernel_array (c : Dev nD) : (dats m 0 c).arrAt 3 cfg0.N
    = result (m ((c.tc : Thread nD τ).loc main_arg0)) (m ((c.tc : Thread nD τ).loc main_arg1))
        (m ((c.tc : Thread nD τ).loc main_arg2)) := by
  refine (dats m 0 c).arrAt_eq_of_covers 3 _ (by decide +kernel) fun t hf y => ?_
  blk_simp
  rw [after0_3, block]
  idx_vars y
  refine (pay2_at _ _ y0 y1).trans (Eq.trans ?_ (congrArg (result _ _ _) (emb3 t y0 y1)).symm)
  simp only [pay1_at, blk0, blk1, blk2]
  rfl

/-- The reference ends with its arguments unchanged and every counter at zero. -/
theorem frame_reference : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel and the plain reference end with the same array. -/
theorem algebraic : algebraic_Kernel6Ideal_Reference6Ideal := by
  intro m ρ m' ρ' _ h
  refine ⟨fun c => result (m ((c.tc : Thread nD τ).loc main_arg0)) (m ((c.tc : Thread nD τ).loc main_arg1))
    (m ((c.tc : Thread nD τ).loc main_arg2)), ?_, ?_⟩
  · refine (θ_run _ _ _).mono (fun r hr c => ⟨(hr c).1.trans (kernel_array m c), (hr c).2⟩)
      (Value.run_blocks m ρ)
  · refine (θ_run _ _ _).mono (fun r hr c => ⟨(hr c).1.trans ?_, (hr c).2⟩) (Cert.Reference6Ideal.Value.run m' ρ')
    rw [(h c).1, (h c).2.1, (h c).2.2]
    funext i
    idx_vars i
    pointwise [result, normed]

end Cert.ProjPool

end
-- ==== Proof.ProjRet.lean ====
module

public import proofs.«01_k».proof.Proof.Gen.Kernel7Ideal.Value
public import proofs.«01_k».proof.Proof.Gen.Reference7Ideal.Run
public import proofs.«01_k».proof.Proof.Common
public import proofs.«01_k».proof.Defs

@[expose] public section

set_option maxRecDepth 16384

noncomputable section

/-! The retention's projection. -/

namespace Cert.ProjRet

open Cert.Kernel7Ideal Cert.Kernel7Ideal.Gen Idealize.ShloMosaic Idealize.ShloMosaic.TcCoe Idealize.SL.Sem
open Cert.Layer

variable (m : (ℓ : Loc nD τ sig) → Buf (Elt Ideal) ℓ)

/-- Which block each window reads at a grid point. -/
theorem idx : ∀ t : Fin cfg0.N, win0_0.index t = ![t.val / 2, 0] ∧ win0_1.index t = ![0, 0]
    ∧ win0_2.index t = ![0, t.val % 2] ∧ win0_3.index t = ![t.val / 2, t.val % 2] :=
  (by decide +kernel : ∀ t : Fin grid0.N, _)

/-- The normalizing payload at an index. -/
theorem pay1_at (x : Vec Ideal S1024x1024 .f32) (g : Vec Ideal S1x1024 .f32) (r k : Fin 1024) :
    k0_pay1 x g (ix2 r k) = normed (fun k => x (ix2 r k)) (fun k => g (ix2 0 k)) k := by
  pointwise [k0_pay1, normed]

/-- The product's payload at an index. -/
theorem pay2_at (x : Vec Ideal S1024x1024 .bf16) (w : Vec Ideal S1024x1024 .bf16) (r : Fin 1024) (k : Fin 1024) :
    k0_pay2 x w (ix2 r k) = ∑ j : Fin 1024, x (ix2 r j) * w (ix2 j k) := by
  pointwise [k0_pay2]

/-- What a row block's first point leaves. -/
theorem point_first (c : Dev nD) (t : Fin cfg0.N) (h0 : t.val % 2 = 0) :
    outsAt0 m c t.val t.isLt = (k0_pay2 (k0_pay1 (iblk m c 0 t) (iblk m c 1 t)) (iblk m c 2 t),
      k0_pay1 (iblk m c 0 t) (iblk m c 1 t)) := by
  rw [outsAt0_A m c t h0]
  frame_out

/-- What a row block's other points leave. -/
theorem point_next (c : Dev nD) (t : Fin cfg0.N) (h0 : ¬ t.val % 2 = 0) :
    outsAt0 m c t.val t.isLt
      = (k0_pay2 ((outsAt0 m c (t.val - 1) (Nat.lt_of_le_of_lt (Nat.sub_le _ _) t.isLt)).2) (iblk m c 2 t),
        (outsAt0 m c (t.val - 1) (Nat.lt_of_le_of_lt (Nat.sub_le _ _) t.isLt)).2) := by
  rw [outsAt0_B m c t h0]
  frame_out
  simp only [read_unread_whole]
  rfl

/-- The row of the arrays that row `r` of a point's row block is. -/
def row (t : Fin cfg0.N) (r : Fin 1024) : Fin 32768 :=
  ⟨1024 * (t.val / 2) + r.val, by have := t.isLt; have : cfg0.N = 64 := N_0; omega⟩

/-- The column of the result that column `k` of a point's column block is. -/
def col (t : Fin cfg0.N) (k : Fin 1024) : Fin 2048 := ⟨1024 * (t.val % 2) + k.val, by omega⟩

/-- The block of `x` at a point. -/
theorem blk0 (c : Dev nD) (t : Fin cfg0.N) (r k : Fin 1024) :
    iblk m c 0 t (ix2 r k) = m ((c.tc : Thread nD τ).loc main_arg0) (ix2 (row t r) k) := by
  unfold row
  blk_ext [iblk, V, idx t]

/-- The block of the scale. -/
theorem blk1 (c : Dev nD) (t : Fin cfg0.N) (k : Fin 1024) :
    iblk m c 1 t (ix2 0 k) = m ((c.tc : Thread nD τ).loc main_arg1) (ix1 k) := by
  blk_ext! [iblk, V, idx t]

/-- The weights as the kernel takes them: laid out by the host. -/
def laid (c : Dev nD) : Vec Ideal S1024x2048 .bf16 := V m c main_v25

/-- Two entries of one row at the same column are the same. -/
theorem entry (w : Vec Ideal S1024x8932 .f32) (j : Fin 1024) (a b : Fin 8932) (h : a.val = b.val) :
    w (ix2 j a) = w (ix2 j b) := by
  rw [Fin.ext h]

/-- The weights by column: every head of the queries and keys is its 32 columns followed by their rotation by a
quarter turn, the second half negated and then the first half; the other columns stay as they are. -/
def weight (w : Vec Ideal S1024x8932 .f32) (j : Fin 1024) (k : Fin 2048) : EReal :=
  if h : k.val < 512 then
    if h1 : k.val % 64 < 32 then w (ix2 j ⟨3300 + (k.val / 64 * 32 + k.val % 64), by omega⟩)
    else if h2 : k.val % 64 - 32 < 16 then -w (ix2 j ⟨3300 + (k.val / 64 * 32 + (16 + (k.val % 64 - 32))), by omega⟩)
    else w (ix2 j ⟨3300 + (k.val / 64 * 32 + (k.val % 64 - 32 - 16)), by omega⟩)
  else if h : k.val - 512 < 512 then
    if h1 : (k.val - 512) % 64 < 32 then
      w (ix2 j ⟨3300 + (256 + ((k.val - 512) / 64 * 32 + (k.val - 512) % 64)), by omega⟩)
    else if h2 : (k.val - 512) % 64 - 32 < 16 then
      -w (ix2 j ⟨3300 + (256 + ((k.val - 512) / 64 * 32 + (16 + ((k.val - 512) % 64 - 32)))), by omega⟩)
    else w (ix2 j ⟨3300 + (256 + ((k.val - 512) / 64 * 32 + ((k.val - 512) % 64 - 32 - 16))), by omega⟩)
  else w (ix2 j ⟨3300 + (512 + (k.val - 512 - 512)), by omega⟩)

set_option maxHeartbeats 4000000 in
/-- The laid out weights by column. -/
theorem laid_at (c : Dev nD) (j : Fin 1024) (k : Fin 2048) :
    laid m c (ix2 j k) = weight (m ((c.tc : Thread nD τ).loc main_arg2)) j k := by
  unfold laid
  simp only [V, hostOps0]
  after_results
  pointwise
  after_results_simp
  pointwise
  after_results_simp
  pointwise
  after_results_simp
  pointwise
  unfold weight
  split_ifs <;> first | omega | rfl | exact entry _ _ _ _ (by dsimp only; omega)

/-- The block of the weights at a point. -/
theorem blk2 (c : Dev nD) (t : Fin cfg0.N) (j : Fin 1024) (k : Fin 1024) :
    iblk m c 2 t (ix2 j k) = laid m c (ix2 j (col t k)) := by
  unfold col laid
  blk_ext [iblk, idx t]

/-- Where the result's block sits in its array. -/
theorem emb3 (t : Fin cfg0.N) (r : Fin 1024) (k : Fin 1024) :
    ((cfg0.win 3).blk t).view.emb (ix2 r k) = ix2 (row t r) (col t k) := by
  unfold row col
  blk_ext [idx t]

/-- The scratch after any point: the normalized rows of its row block. -/
theorem scratch (c : Dev nD) (t : Fin cfg0.N) (r k : Fin 1024) :
    (outsAt0 m c t.val t.isLt).2 (ix2 r k)
      = normed (fun k => m ((c.tc : Thread nD τ).loc main_arg0) (ix2 (row t r) k))
          (fun k => m ((c.tc : Thread nD τ).loc main_arg1) (ix1 k)) k := by
  refine (Pipeline.eq_of_write_hold_apply (fun n h => (outsAt0 m c n h).2) 2
    (fun t => k0_pay1 (iblk m c 0 t) (iblk m c 1 t)) (fun t h i => ?_) (fun t h i => ?_) t (ix2 r k)).trans ?_
  · rw [point_first m c t h]
  · rw [point_next m c t h]
  · rw [pay1_at]
    simp only [blk0, blk1]
    rw [show row _ r = row t r from Fin.ext (by simp only [row]; omega)]

/-- What any point leaves in the result's block. -/
theorem block (c : Dev nD) (t : Fin cfg0.N) (r : Fin 1024) (k : Fin 1024) :
    (outsAt0 m c t.val t.isLt).1 (ix2 r k)
      = ∑ j : Fin 1024, (outsAt0 m c t.val t.isLt).2 (ix2 r j) * iblk m c 2 t (ix2 j k) := by
  by_cases h : t.val % 2 = 0
  · rw [point_first m c t h]
    exact pay2_at ..
  · rw [point_next m c t h]
    exact pay2_at ..

/-- The projection's result, as one function of the rows, the scale and the laid out weights. -/
def result (x : Vec Ideal S32768x1024 .f32) (g : Vec Ideal S1024 .f32) (w : Vec Ideal S1024x2048 .bf16) :
    Vec Ideal S32768x2048 .bf16 := fun i =>
  ∑ j : Fin 1024, normed (fun k => x (ix2 (i 0) k)) (fun k => g (ix1 k)) j * w (ix2 j (i 1))

/-- The kernel's result array is `result` of the arguments. -/
theorem kernel_array (c : Dev nD) : (dats m 0 c).arrAt 3 cfg0.N
    = result (m ((c.tc : Thread nD τ).loc main_arg0)) (m ((c.tc : Thread nD τ).loc main_arg1))
        (laid m c) := by
  refine (dats m 0 c).arrAt_eq_of_covers 3 _ (by decide +kernel) fun t hf y => ?_
  blk_simp
  rw [after0_3]
  idx_vars y
  refine (block m c t y0 y1).trans (Eq.trans ?_ (congrArg (result _ _ _) (emb3 t y0 y1)).symm)
  simp only [scratch, blk2]
  rfl

/-- The reference ends with its arguments unchanged and every counter at zero. -/
theorem frame_reference : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

set_option maxHeartbeats 4000000 in
/-- The kernel and the plain reference end with the same array. -/
theorem algebraic : algebraic_Kernel7Ideal_Reference7Ideal := by
  intro m ρ m' ρ' _ h
  refine ⟨fun c => result (m ((c.tc : Thread nD τ).loc main_arg0)) (m ((c.tc : Thread nD τ).loc main_arg1))
    (laid m c), ?_, ?_⟩
  · refine (θ_run _ _ _).mono (fun r hr c => ⟨(hr c).1.trans (kernel_array m c), (hr c).2⟩)
      (Value.run_blocks m ρ)
  · refine (θ_run _ _ _).mono (fun r hr c => ⟨(hr c).1.trans ?_, (hr c).2⟩) (Cert.Reference7Ideal.Value.run m' ρ')
    rw [(h c).1, (h c).2.1, (h c).2.2]
    funext i
    idx_vars i
    refine Eq.trans ?_ (Finset.sum_congr rfl fun j _ =>
      congrArg₂ (fun a b : EReal => a * b) rfl (laid_at m c j i1)).symm
    simp only [normed]
    pointwise
    rfl

end Cert.ProjRet

end
-- ==== Proof.ProjRwkv.lean ====
module

public import proofs.«01_k».proof.Proof.Gen.Kernel8Ideal.Value
public import proofs.«01_k».proof.Proof.Gen.Reference8Ideal.Run
public import proofs.«01_k».proof.Proof.Common
public import proofs.«01_k».proof.Defs

@[expose] public section

set_option maxRecDepth 16384

noncomputable section

/-! The time mixing's projection. -/

namespace Cert.ProjRwkv

open Cert.Kernel8Ideal Cert.Kernel8Ideal.Gen Idealize.ShloMosaic Idealize.ShloMosaic.TcCoe Idealize.SL.Sem
open Cert.Layer

variable (m : (ℓ : Loc nD τ sig) → Buf (Elt Ideal) ℓ)

/-- Which block each window reads at a grid point. -/
theorem idx : ∀ t : Fin cfg0.N, win0_0.index t = ![t.val / 2, 0] ∧ win0_1.index t = ![0, 0]
    ∧ win0_2.index t = ![0, t.val % 2] ∧ win0_3.index t = ![t.val / 2, t.val % 2] :=
  (by decide +kernel : ∀ t : Fin grid0.N, _)

/-- The normalizing payload at an index. -/
theorem pay1_at (x : Vec Ideal S1024x1024 .f32) (g : Vec Ideal S1x1024 .f32) (r k : Fin 1024) :
    k0_pay1 x g (ix2 r k) = normed (fun k => x (ix2 r k)) (fun k => g (ix2 0 k)) k := by
  pointwise [k0_pay1, normed]

/-- The product's payload at an index. -/
theorem pay2_at (x : Vec Ideal S1024x1024 .bf16) (w : Vec Ideal S1024x896 .bf16) (r : Fin 1024) (k : Fin 896) :
    k0_pay2 x w (ix2 r k) = ∑ j : Fin 1024, x (ix2 r j) * w (ix2 j k) := by
  pointwise [k0_pay2]

/-- What a row block's first point leaves. -/
theorem point_first (c : Dev nD) (t : Fin cfg0.N) (h0 : t.val % 2 = 0) :
    outsAt0 m c t.val t.isLt = (k0_pay2 (k0_pay1 (iblk m c 0 t) (iblk m c 1 t)) (iblk m c 2 t),
      k0_pay1 (iblk m c 0 t) (iblk m c 1 t)) := by
  rw [outsAt0_A m c t h0]
  frame_out

/-- What a row block's other points leave. -/
theorem point_next (c : Dev nD) (t : Fin cfg0.N) (h0 : ¬ t.val % 2 = 0) :
    outsAt0 m c t.val t.isLt
      = (k0_pay2 ((outsAt0 m c (t.val - 1) (Nat.lt_of_le_of_lt (Nat.sub_le _ _) t.isLt)).2) (iblk m c 2 t),
        (outsAt0 m c (t.val - 1) (Nat.lt_of_le_of_lt (Nat.sub_le _ _) t.isLt)).2) := by
  rw [outsAt0_B m c t h0]
  frame_out
  simp only [read_unread_whole]
  rfl

/-- The row of the arrays that row `r` of a point's row block is. -/
def row (t : Fin cfg0.N) (r : Fin 1024) : Fin 32768 :=
  ⟨1024 * (t.val / 2) + r.val, by have := t.isLt; have : cfg0.N = 64 := N_0; omega⟩

/-- The column of the result that column `k` of a point's column block is. -/
def col (t : Fin cfg0.N) (k : Fin 896) : Fin 1792 := ⟨896 * (t.val % 2) + k.val, by omega⟩

/-- The block of `x` at a point. -/
theorem blk0 (c : Dev nD) (t : Fin cfg0.N) (r k : Fin 1024) :
    iblk m c 0 t (ix2 r k) = m ((c.tc : Thread nD τ).loc main_arg0) (ix2 (row t r) k) := by
  unfold row
  blk_ext [iblk, V, idx t]

/-- The scale as the kernel takes it: one row. -/
theorem scale_row (c : Dev nD) (k : Fin 1024) :
    (V m c main_v1 : Vec Ideal S1x1024 .f32) (ix2 0 k) = m ((c.tc : Thread nD τ).loc main_arg1) (ix1 k) := by
  simp only [V, hostOps0, hostOps0_1, hostOps0_2, List.flatten_cons, List.flatten_nil, List.append_nil, List.cons_append, List.nil_append]
  after_results
  pointwise

/-- The block of the scale. -/
theorem blk1 (c : Dev nD) (t : Fin cfg0.N) (k : Fin 1024) :
    iblk m c 1 t (ix2 0 k) = m ((c.tc : Thread nD τ).loc main_arg1) (ix1 k) := by
  refine Eq.trans ?_ (scale_row m c k)
  blk_ext [iblk, idx t]

/-- The weights as the kernel takes them: laid out by the host. -/
def laid (c : Dev nD) : Vec Ideal S1024x1792 .bf16 := V m c main_v10

/-- The padding is the number zero. -/
theorem sitofp_zero : (FloatOps.sitofp .f32 (0#32) : Ideal .f32) = (0 : EReal) := by
  simp [FloatOps.sitofp]

/-- The weights by column: the pieces of the projection in the order in which the kernel wants them, then zeros. -/
def weight (w : Vec Ideal S1024x8932 .f32) (j : Fin 1024) (k : Fin 1792) : EReal :=
  if h : k.val < 512 then w (ix2 j ⟨1092 + k.val, by omega⟩)
  else if h : k.val - 512 < 512 then w (ix2 j ⟨1092 + (544 + (k.val - 512)), by omega⟩)
  else if h : k.val - 512 - 512 < 512 then w (ix2 j ⟨1092 + (1056 + (k.val - 512 - 512)), by omega⟩)
  else if h : k.val - 512 - 512 - 512 < 32 then w (ix2 j ⟨1092 + (512 + (k.val - 512 - 512 - 512)), by omega⟩)
  else if h : k.val - 512 - 512 - 512 - 32 < 32 then
    w (ix2 j ⟨1092 + (1568 + (k.val - 512 - 512 - 512 - 32)), by omega⟩)
  else if h : k.val - 512 - 512 - 512 - 32 - 32 < 96 then
    w (ix2 j ⟨1092 + (1600 + (k.val - 512 - 512 - 512 - 32 - 32)), by omega⟩)
  else 0

set_option maxHeartbeats 4000000 in
/-- The laid out weights by column. -/
theorem laid_at (c : Dev nD) (j : Fin 1024) (k : Fin 1792) :
    laid m c (ix2 j k) = weight (m ((c.tc : Thread nD τ).loc main_arg2)) j k := by
  unfold laid
  simp only [V, hostOps0, hostOps0_1, hostOps0_2, List.flatten_cons, List.flatten_nil, List.append_nil, List.cons_append, List.nil_append]
  after_results
  simp only [StableHlo.TRef.ofBuf, StableHlo.TRef.toBuf, StableHlo.TRef.of, cast_eq]
  pointwise
  after_results_simp
  pointwise
  unfold weight
  split_ifs <;> first | omega | rfl | exact sitofp_zero | rw [dif_pos (by omega)]

/-- The block of the weights at a point. -/
theorem blk2 (c : Dev nD) (t : Fin cfg0.N) (j : Fin 1024) (k : Fin 896) :
    iblk m c 2 t (ix2 j k) = laid m c (ix2 j (col t k)) := by
  unfold col laid
  blk_ext [iblk, idx t]

/-- Where the result's block sits in its array. -/
theorem emb3 (t : Fin cfg0.N) (r : Fin 1024) (k : Fin 896) :
    ((cfg0.win 3).blk t).view.emb (ix2 r k) = ix2 (row t r) (col t k) := by
  unfold row col
  blk_ext [idx t]

/-- The scratch after any point: the normalized rows of its row block. -/
theorem scratch (c : Dev nD) (t : Fin cfg0.N) (r k : Fin 1024) :
    (outsAt0 m c t.val t.isLt).2 (ix2 r k)
      = normed (fun k => m ((c.tc : Thread nD τ).loc main_arg0) (ix2 (row t r) k))
          (fun k => m ((c.tc : Thread nD τ).loc main_arg1) (ix1 k)) k := by
  refine (Pipeline.eq_of_write_hold_apply (fun n h => (outsAt0 m c n h).2) 2
    (fun t => k0_pay1 (iblk m c 0 t) (iblk m c 1 t)) (fun t h i => ?_) (fun t h i => ?_) t (ix2 r k)).trans ?_
  · rw [point_first m c t h]
  · rw [point_next m c t h]
  · rw [pay1_at]
    simp only [blk0, blk1]
    rw [show row _ r = row t r from Fin.ext (by simp only [row]; omega)]

/-- What any point leaves in the result's block. -/
theorem block (c : Dev nD) (t : Fin cfg0.N) (r : Fin 1024) (k : Fin 896) :
    (outsAt0 m c t.val t.isLt).1 (ix2 r k)
      = ∑ j : Fin 1024, (outsAt0 m c t.val t.isLt).2 (ix2 r j) * iblk m c 2 t (ix2 j k) := by
  by_cases h : t.val % 2 = 0
  · rw [point_first m c t h]
    exact pay2_at ..
  · rw [point_next m c t h]
    exact pay2_at ..

/-- The projection's result, as one function of the rows, the scale and the laid out weights. -/
def result (x : Vec Ideal S32768x1024 .f32) (g : Vec Ideal S1024 .f32) (w : Vec Ideal S1024x1792 .bf16) :
    Vec Ideal S32768x1792 .bf16 := fun i =>
  ∑ j : Fin 1024, normed (fun k => x (ix2 (i 0) k)) (fun k => g (ix1 k)) j * w (ix2 j (i 1))

/-- The kernel's result array is `result` of the arguments. -/
theorem kernel_array (c : Dev nD) : (dats m 0 c).arrAt 3 cfg0.N
    = result (m ((c.tc : Thread nD τ).loc main_arg0)) (m ((c.tc : Thread nD τ).loc main_arg1))
        (laid m c) := by
  refine (dats m 0 c).arrAt_eq_of_covers 3 _ (by decide +kernel) fun t hf y => ?_
  blk_simp
  rw [after0_3]
  idx_vars y
  refine (block m c t y0 y1).trans (Eq.trans ?_ (congrArg (result _ _ _) (emb3 t y0 y1)).symm)
  simp only [scratch, blk2]
  rfl

/-- The reference ends with its arguments unchanged and every counter at zero. -/
theorem frame_reference : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

set_option maxHeartbeats 4000000 in
/-- The kernel and the plain reference end with the same array. -/
theorem algebraic : algebraic_Kernel8Ideal_Reference8Ideal := by
  intro m ρ m' ρ' _ h
  refine ⟨fun c => result (m ((c.tc : Thread nD τ).loc main_arg0)) (m ((c.tc : Thread nD τ).loc main_arg1))
    (laid m c), ?_, ?_⟩
  · refine (θ_run _ _ _).mono (fun r hr c => ⟨(hr c).1.trans (kernel_array m c), (hr c).2⟩)
      (Value.run_blocks m ρ)
  · refine (θ_run _ _ _).mono (fun r hr c => ⟨(hr c).1.trans ?_, (hr c).2⟩) (Cert.Reference8Ideal.Value.run m' ρ')
    simp only [Cert.Reference8Ideal.Value.res_main_v23, (h c).1, (h c).2.1, (h c).2.2]
    funext i
    idx_vars i
    refine Eq.trans ?_ (Finset.sum_congr rfl fun j _ =>
      congrArg₂ (fun a b : EReal => a * b) rfl (laid_at m c j i1)).symm
    simp only [normed]
    pointwise
    simp only [(h c).1, (h c).2.1, (h c).2.2]
    by_cases h0 : i1.val < 512
    · simp only [weight, h0, ↓reduceDIte]
    by_cases h1 : i1.val - 512 < 512
    · simp only [weight, h0, h1, ↓reduceDIte]
    by_cases h2 : i1.val - 512 - 512 < 512
    · simp only [weight, h0, h1, h2, ↓reduceDIte]
    by_cases h3 : i1.val - 512 - 512 - 512 < 32
    · simp only [weight, h0, h1, h2, h3, ↓reduceDIte]
    by_cases h4 : i1.val - 512 - 512 - 512 - 32 < 32
    · simp only [weight, h0, h1, h2, h3, h4, ↓reduceDIte]
    by_cases h5 : i1.val - 512 - 512 - 512 - 32 - 32 < 96
    · simp only [weight, h0, h1, h2, h3, h4, h5, ↓reduceDIte]
    simp only [weight, h0, h1, h2, h3, h4, h5, ↓reduceDIte, mul_zero, Finset.sum_const_zero]

end Cert.ProjRwkv

end
-- ==== Proof.ProjAttn.lean ====
module

public import proofs.«01_k».proof.Proof.Gen.Kernel9Ideal.Value
public import proofs.«01_k».proof.Proof.Gen.Reference9Ideal.Run
public import proofs.«01_k».proof.Proof.Common
public import proofs.«01_k».proof.Defs

@[expose] public section

set_option maxRecDepth 16384

noncomputable section

/-! The attention's projection. -/

namespace Cert.ProjAttn

open Cert.Kernel9Ideal Cert.Kernel9Ideal.Gen Idealize.ShloMosaic Idealize.ShloMosaic.TcCoe Idealize.SL.Sem
open Cert.Layer

variable (m : (ℓ : Loc nD τ sig) → Buf (Elt Ideal) ℓ)

/-- Which block each window reads at a grid point. -/
theorem idx : ∀ t : Fin cfg0.N, win0_0.index t = ![t.val / 3, 0] ∧ win0_1.index t = ![0, 0]
    ∧ win0_2.index t = ![0, t.val % 3] ∧ win0_3.index t = ![t.val / 3, t.val % 3] :=
  (by decide +kernel : ∀ t : Fin grid0.N, _)

/-- The normalizing payload at an index. -/
theorem pay1_at (x : Vec Ideal S1024x1024 .f32) (g : Vec Ideal S1x1024 .f32) (r k : Fin 1024) :
    k0_pay1 x g (ix2 r k) = normed (fun k => x (ix2 r k)) (fun k => g (ix2 0 k)) k := by
  pointwise [k0_pay1, normed]

/-- The product's payload at an index. -/
theorem pay2_at (x : Vec Ideal S1024x1024 .bf16) (w : Vec Ideal S1024x768 .bf16) (r : Fin 1024) (k : Fin 768) :
    k0_pay2 x w (ix2 r k) = ∑ j : Fin 1024, x (ix2 r j) * w (ix2 j k) := by
  pointwise [k0_pay2]

/-- What a row block's first point leaves. -/
theorem point_first (c : Dev nD) (t : Fin cfg0.N) (h0 : t.val % 3 = 0) :
    outsAt0 m c t.val t.isLt = (k0_pay2 (k0_pay1 (iblk m c 0 t) (iblk m c 1 t)) (iblk m c 2 t),
      k0_pay1 (iblk m c 0 t) (iblk m c 1 t)) := by
  rw [outsAt0_A m c t h0]
  frame_out

/-- What a row block's other points leave. -/
theorem point_next (c : Dev nD) (t : Fin cfg0.N) (h0 : ¬ t.val % 3 = 0) :
    outsAt0 m c t.val t.isLt
      = (k0_pay2 ((outsAt0 m c (t.val - 1) (Nat.lt_of_le_of_lt (Nat.sub_le _ _) t.isLt)).2) (iblk m c 2 t),
        (outsAt0 m c (t.val - 1) (Nat.lt_of_le_of_lt (Nat.sub_le _ _) t.isLt)).2) := by
  rw [outsAt0_B m c t h0]
  frame_out
  simp only [read_unread_whole]
  rfl

/-- The row of the arrays that row `r` of a point's row block is. -/
def row (t : Fin cfg0.N) (r : Fin 1024) : Fin 32768 :=
  ⟨1024 * (t.val / 3) + r.val, by have := t.isLt; have : cfg0.N = 96 := N_0; omega⟩

/-- The column of the result that column `k` of a point's column block is. -/
def col (t : Fin cfg0.N) (k : Fin 768) : Fin 2304 := ⟨768 * (t.val % 3) + k.val, by omega⟩

/-- The block of `x` at a point. -/
theorem blk0 (c : Dev nD) (t : Fin cfg0.N) (r k : Fin 1024) :
    iblk m c 0 t (ix2 r k) = m ((c.tc : Thread nD τ).loc main_arg0) (ix2 (row t r) k) := by
  unfold row
  blk_ext [iblk, V, idx t]

/-- The scale as the kernel takes it: one row. -/
theorem scale_row (c : Dev nD) (k : Fin 1024) :
    (V m c main_v45 : Vec Ideal S1x1024 .f32) (ix2 0 k) = m ((c.tc : Thread nD τ).loc main_arg1) (ix1 k) := by
  simp only [V, hostOps0, hostOps0_1, hostOps0_2, hostOps0_3, hostOps0_4, List.flatten_cons, List.flatten_nil, List.append_nil, List.cons_append, List.nil_append]
  after_results
  pointwise

/-- The block of the scale. -/
theorem blk1 (c : Dev nD) (t : Fin cfg0.N) (k : Fin 1024) :
    iblk m c 1 t (ix2 0 k) = m ((c.tc : Thread nD τ).loc main_arg1) (ix1 k) := by
  refine Eq.trans ?_ (scale_row m c k)
  blk_ext [iblk, idx t]

/-- The weights as the kernel takes them: laid out by the host. -/
def laid (c : Dev nD) : Vec Ideal S1024x2304 .bf16 := V m c main_v47

/-- Two entries of one row at the same column are the same. -/
theorem entry (w : Vec Ideal S1024x8932 .f32) (j : Fin 1024) (a b : Fin 8932) (h : a.val = b.val) :
    w (ix2 j a) = w (ix2 j b) := by
  rw [Fin.ext h]

/-- The padding is the number zero. -/
theorem sitofp_zero : (FloatOps.sitofp .f32 (0#32) : Ideal .f32) = (0 : EReal) := by
  simp [FloatOps.sitofp]

/-- One group of heads by column: every head is its 64 columns, then the rotation of the first 16, the second half
negated and then the first half, then zeros. The group's columns start at `a` in the weights. -/
def turned (w : Vec Ideal S1024x8932 .f32) (j : Fin 1024) (a n : ℕ) (hn : a + n / 128 * 64 + 64 ≤ 8932) : EReal :=
  if h : n % 128 < 64 then w (ix2 j ⟨a + (n / 128 * 64 + n % 128), by omega⟩)
  else if h : n % 128 - 64 < 8 then -w (ix2 j ⟨a + (n / 128 * 64 + (8 + (n % 128 - 64))), by omega⟩)
  else if h : n % 128 - 64 - 8 < 8 then w (ix2 j ⟨a + (n / 128 * 64 + (n % 128 - 64 - 8)), by omega⟩)
  else 0

/-- The weights by column: the heads of the queries, the indexer's queries, the keys and the indexer's key with their
rotations; the values and the indexer's weights as they are; zeros to the end. -/
def weight (w : Vec Ideal S1024x8932 .f32) (j : Fin 1024) (k : Fin 2304) : EReal :=
  if h : k.val < 1024 then turned w j 0 k.val (by omega)
  else if h : k.val - 1024 < 512 then turned w j 768 (k.val - 1024) (by omega)
  else if h : k.val - 1024 - 512 < 256 then turned w j 512 (k.val - 1024 - 512) (by omega)
  else if h : k.val - 1024 - 512 - 256 < 128 then
    if h1 : k.val - 1024 - 512 - 256 < 64 then w (ix2 j ⟨1024 + (k.val - 1024 - 512 - 256), by omega⟩)
    else if h2 : k.val - 1024 - 512 - 256 - 64 < 8 then
      -w (ix2 j ⟨1024 + (8 + (k.val - 1024 - 512 - 256 - 64)), by omega⟩)
    else if h3 : k.val - 1024 - 512 - 256 - 64 - 8 < 8 then
      w (ix2 j ⟨1024 + (k.val - 1024 - 512 - 256 - 64 - 8), by omega⟩)
    else 0
  else if h : k.val - 1024 - 512 - 256 - 128 < 128 then w (ix2 j ⟨640 + (k.val - 1024 - 512 - 256 - 128), by omega⟩)
  else if h : k.val - 1024 - 512 - 256 - 128 - 128 < 4 then
    w (ix2 j ⟨1088 + (k.val - 1024 - 512 - 256 - 128 - 128), by omega⟩)
  else 0

set_option maxHeartbeats 4000000 in
/-- The laid out weights by column. -/
theorem laid_at (c : Dev nD) (j : Fin 1024) (k : Fin 2304) :
    laid m c (ix2 j k) = weight (m ((c.tc : Thread nD τ).loc main_arg2)) j k := by
  unfold laid
  simp only [V, hostOps0, hostOps0_1, hostOps0_2, hostOps0_3, hostOps0_4, List.flatten_cons, List.flatten_nil, List.append_nil, List.cons_append, List.nil_append]
  after_results
  simp only [StableHlo.TRef.ofBuf, StableHlo.TRef.toBuf, StableHlo.TRef.of, cast_eq]
  pointwise
  split
  swap
  · unfold weight
    split_ifs <;> first | omega | exact sitofp_zero
  split
  · after_results_simp
    pointwise
    after_results_simp
    pointwise
    after_results_simp
    pointwise
    unfold weight
    try unfold turned
    simp only [Nat.zero_add]
    split_ifs <;> first | omega | rfl | exact entry _ _ _ _ (by dsimp only; omega) | exact sitofp_zero
  split
  · after_results_simp
    pointwise
    after_results_simp
    pointwise
    after_results_simp
    pointwise
    unfold weight
    try unfold turned
    simp only [Nat.zero_add]
    split_ifs <;> first | omega | rfl | exact entry _ _ _ _ (by dsimp only; omega) | exact sitofp_zero
  split
  · after_results_simp
    pointwise
    after_results_simp
    pointwise
    after_results_simp
    pointwise
    unfold weight
    try unfold turned
    simp only [Nat.zero_add]
    split_ifs <;> first | omega | rfl | exact entry _ _ _ _ (by dsimp only; omega) | exact sitofp_zero
  split
  · after_results_simp
    pointwise
    after_results_simp
    pointwise
    after_results_simp
    pointwise
    unfold weight
    try unfold turned
    simp only [Nat.zero_add]
    split_ifs <;> first | omega | rfl | exact entry _ _ _ _ (by dsimp only; omega) | exact sitofp_zero
  split
  · after_results_simp
    pointwise
    unfold weight
    try unfold turned
    simp only [Nat.zero_add]
    split_ifs <;> first | omega | rfl | exact entry _ _ _ _ (by dsimp only; omega) | exact sitofp_zero
  · after_results_simp
    simp only [StableHlo.TRef.ofBuf, StableHlo.TRef.toBuf, StableHlo.TRef.of, cast_eq]
    pointwise
    unfold weight
    try unfold turned
    simp only [Nat.zero_add]
    split_ifs <;> first | omega | rfl | exact entry _ _ _ _ (by dsimp only; omega) | exact sitofp_zero

/-- The block of the weights at a point. -/
theorem blk2 (c : Dev nD) (t : Fin cfg0.N) (j : Fin 1024) (k : Fin 768) :
    iblk m c 2 t (ix2 j k) = laid m c (ix2 j (col t k)) := by
  unfold col laid
  blk_ext [iblk, idx t]

/-- Where the result's block sits in its array. -/
theorem emb3 (t : Fin cfg0.N) (r : Fin 1024) (k : Fin 768) :
    ((cfg0.win 3).blk t).view.emb (ix2 r k) = ix2 (row t r) (col t k) := by
  unfold row col
  blk_ext [idx t]

/-- The scratch after any point: the normalized rows of its row block. -/
theorem scratch (c : Dev nD) (t : Fin cfg0.N) (r k : Fin 1024) :
    (outsAt0 m c t.val t.isLt).2 (ix2 r k)
      = normed (fun k => m ((c.tc : Thread nD τ).loc main_arg0) (ix2 (row t r) k))
          (fun k => m ((c.tc : Thread nD τ).loc main_arg1) (ix1 k)) k := by
  refine (Pipeline.eq_of_write_hold_apply (fun n h => (outsAt0 m c n h).2) 3
    (fun t => k0_pay1 (iblk m c 0 t) (iblk m c 1 t)) (fun t h i => ?_) (fun t h i => ?_) t (ix2 r k)).trans ?_
  · rw [point_first m c t h]
  · rw [point_next m c t h]
  · rw [pay1_at]
    simp only [blk0, blk1]
    rw [show row _ r = row t r from Fin.ext (by simp only [row]; omega)]

/-- What any point leaves in the result's block. -/
theorem block (c : Dev nD) (t : Fin cfg0.N) (r : Fin 1024) (k : Fin 768) :
    (outsAt0 m c t.val t.isLt).1 (ix2 r k)
      = ∑ j : Fin 1024, (outsAt0 m c t.val t.isLt).2 (ix2 r j) * iblk m c 2 t (ix2 j k) := by
  by_cases h : t.val % 3 = 0
  · rw [point_first m c t h]
    exact pay2_at ..
  · rw [point_next m c t h]
    exact pay2_at ..

/-- The projection's result, as one function of the rows, the scale and the laid out weights. -/
def result (x : Vec Ideal S32768x1024 .f32) (g : Vec Ideal S1024 .f32) (w : Vec Ideal S1024x2304 .bf16) :
    Vec Ideal S32768x2304 .f32 := fun i =>
  ∑ j : Fin 1024, normed (fun k => x (ix2 (i 0) k)) (fun k => g (ix1 k)) j * w (ix2 j (i 1))

/-- The kernel's result array is `result` of the arguments. -/
theorem kernel_array (c : Dev nD) : (dats m 0 c).arrAt 3 cfg0.N
    = result (m ((c.tc : Thread nD τ).loc main_arg0)) (m ((c.tc : Thread nD τ).loc main_arg1))
        (laid m c) := by
  refine (dats m 0 c).arrAt_eq_of_covers 3 _ (by decide +kernel) fun t hf y => ?_
  blk_simp
  rw [after0_3]
  idx_vars y
  refine (block m c t y0 y1).trans (Eq.trans ?_ (congrArg (result _ _ _) (emb3 t y0 y1)).symm)
  simp only [scratch, blk2]
  rfl

/-- The reference ends with its arguments unchanged and every counter at zero. -/
theorem frame_reference : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

set_option maxHeartbeats 4000000 in
/-- The kernel and the plain reference end with the same array. -/
theorem algebraic : algebraic_Kernel9Ideal_Reference9Ideal := by
  intro m ρ m' ρ' _ h
  refine ⟨fun c => result (m ((c.tc : Thread nD τ).loc main_arg0)) (m ((c.tc : Thread nD τ).loc main_arg1))
    (laid m c), ?_, ?_⟩
  · refine (θ_run _ _ _).mono (fun r hr c => ⟨(hr c).1.trans (kernel_array m c), (hr c).2⟩)
      (Value.run_blocks m ρ)
  · refine (θ_run _ _ _).mono (fun r hr c => ⟨(hr c).1.trans ?_, (hr c).2⟩) (Cert.Reference9Ideal.Value.run m' ρ')
    simp only [Cert.Reference9Ideal.Value.res_main_v49, (h c).1, (h c).2.1, (h c).2.2]
    funext i
    idx_vars i
    refine Eq.trans ?_ (Finset.sum_congr rfl fun j _ =>
      congrArg₂ (fun a b : EReal => a * b) rfl (laid_at m c j i1)).symm
    simp only [normed]
    pointwise
    simp only [(h c).1, (h c).2.1, (h c).2.2]
    refine Finset.sum_congr rfl fun j _ => congrArg₂ (fun a b : EReal => a * b) rfl ?_
    simp only [weight, turned, Nat.zero_add]

end Cert.ProjAttn

end
-- ==== Proof.Pool.lean ====
module

public import proofs.«01_k».proof.Proof.Gen.Kernel10Ideal.Value
public import proofs.«01_k».proof.Proof.Gen.Reference10Ideal.Run
public import proofs.«01_k».proof.Proof.Common
public import proofs.«01_k».proof.Defs

@[expose] public section

set_option maxRecDepth 16384

noncomputable section

/-! The pooling: each group of 128 columns is averaged over its last 2, 4, 8 or 16 rows, less the row itself, times the
    group's weights and the scale. The kernel walks blocks of 512 rows and carries the last sixteen rows to the next
    block; it adds the rows pairwise, each width from the one before. -/

namespace Cert.Pool

open Cert.Kernel10Ideal Cert.Kernel10Ideal.Gen Idealize.ShloMosaic Idealize.ShloMosaic.TcCoe Idealize.SL.Sem

variable (m : (ℓ : Loc nD τ sig) → Buf (Elt Ideal) ℓ)

/-- Which block each window reads at a grid point. -/
theorem idx : ∀ t : Fin cfg0.N, win0_0.index t = ![t.val / 16, t.val % 16, 0] ∧ win0_1.index t = ![0, 0, 0]
    ∧ win0_2.index t = ![0, 0] ∧ win0_3.index t = ![t.val / 16, t.val % 16, 0]
    ∧ (grid0.coords t 1).val = t.val % 16 :=
  (by decide +kernel : ∀ t : Fin grid0.N, _)

/-- A row of the carried rows followed by the block's. -/
def ext (x : Vec Ideal S1x512x512 .bf16) (h : Vec Ideal S16x512 .f32) (e : ℕ) (k : Fin 512) : EReal :=
  if he : e < 16 then h (ix2 ⟨e, he⟩ k) else if he' : e - 16 < 512 then x (ix3 0 ⟨e - 16, he'⟩ k) else 0

/-- The running row and the one before it. -/
theorem pay5_at (x : Vec Ideal S1x512x512 .bf16) (h : Vec Ideal S16x512 .f32) (e : Fin 528) (k : Fin 512)
    (he : 1 ≤ e.val) : k0_pay5 x h (ix2 e k) = ext x h e.val k + ext x h (e.val - 1) k := by
  have hw : (e.val + 528 - 1) % 528 = e.val - 1 := by have := e.isLt; omega
  pointwise [k0_pay5, k0_pay3]
  simp only [hw, ext]
  have h1 : e.val - 16 < 512 := by have := e.isLt; omega
  have h2 : e.val - 1 - 16 < 512 := by have := e.isLt; omega
  simp only [h1, h2, dite_true]

/-- The running row and the three before it, of the last three groups. -/
theorem pay6_at (x : Vec Ideal S1x512x512 .bf16) (h : Vec Ideal S16x512 .f32) (e : Fin 528) (k : Fin 384)
    (he : 3 ≤ e.val) : k0_pay6 x h (ix2 e k) = ∑ i ∈ Finset.range 4, ext x h (e.val - i) ⟨128 + k.val, by omega⟩ := by
  have hw : (e.val + 528 - 2) % 528 = e.val - 2 := by have := e.isLt; omega
  pointwise [k0_pay6]
  simp only [hw]
  rw [pay5_at _ _ _ _ (by omega), pay5_at _ _ _ _ (by dsimp only; omega)]
  simp only [Finset.sum_range_succ, Finset.sum_range_zero, zero_add, add_assoc, Nat.sub_zero, Nat.sub_sub]

/-- The running row and the seven before it, of the last two groups. -/
theorem pay7_at (x : Vec Ideal S1x512x512 .bf16) (h : Vec Ideal S16x512 .f32) (e : Fin 528) (k : Fin 256)
    (he : 7 ≤ e.val) : k0_pay7 x h (ix2 e k) = ∑ i ∈ Finset.range 8, ext x h (e.val - i) ⟨256 + k.val, by omega⟩ := by
  have hw : (e.val + 528 - 4) % 528 = e.val - 4 := by have := e.isLt; omega
  have hk : 128 + (128 + k.val) = 256 + k.val := by omega
  pointwise [k0_pay7]
  simp only [hw]
  rw [pay6_at _ _ _ _ (by omega), pay6_at _ _ _ _ (by dsimp only; omega)]
  simp only [hk, Finset.sum_range_succ, Finset.sum_range_zero, zero_add, add_assoc, Nat.sub_zero, Nat.sub_sub]

/-- The second group's window sums: the block's rows come sixteen after the carried ones. -/
theorem pay8_at (x : Vec Ideal S1x512x512 .bf16) (h : Vec Ideal S16x512 .f32) (r : Fin 512) (k : Fin 128) :
    k0_pay8 x h (ix2 r k) = ∑ i ∈ Finset.range 4, ext x h (16 + r.val - i) ⟨128 + k.val, by omega⟩ := by
  pointwise [k0_pay8]
  exact pay6_at x h _ _ (by dsimp only; omega)

/-- The third group's window sums. -/
theorem pay9_at (x : Vec Ideal S1x512x512 .bf16) (h : Vec Ideal S16x512 .f32) (r : Fin 512) (k : Fin 128) :
    k0_pay9 x h (ix2 r k) = ∑ i ∈ Finset.range 8, ext x h (16 + r.val - i) ⟨256 + k.val, by omega⟩ := by
  pointwise [k0_pay9]
  exact pay7_at x h _ _ (by dsimp only; omega)

/-- The fourth group's window sums. -/
theorem pay10_at (x : Vec Ideal S1x512x512 .bf16) (h : Vec Ideal S16x512 .f32) (r : Fin 512) (k : Fin 128) :
    k0_pay10 x h (ix2 r k) = ∑ i ∈ Finset.range 16, ext x h (16 + r.val - i) ⟨384 + k.val, by omega⟩ := by
  have hw : (16 + r.val + 528 - 8) % 528 = 16 + r.val - 8 := by have := r.isLt; omega
  have hk : 256 + (128 + k.val) = 384 + k.val := by omega
  pointwise [k0_pay10]
  simp only [hw]
  rw [pay7_at _ _ _ _ (by dsimp only; omega), pay7_at _ _ _ _ (by dsimp only; omega)]
  simp only [hk, Finset.sum_range_succ, Finset.sum_range_zero, zero_add, add_assoc, Nat.sub_zero, Nat.sub_sub]

/-- How many rows there are up to a row, as a number. -/
def count (n : ℕ) : EReal := (FloatOps.sitofp .f32 (BitVec.ofNat 32 (n + 1)) : Ideal .f32)

/-- A group's width. -/
def width (g : Fin 4) : EReal :=
  ![Ideal.ofBits .f32 0x40000000#32, Ideal.ofBits .f32 0x40800000#32, Ideal.ofBits .f32 0x41000000#32,
    Ideal.ofBits .f32 0x41800000#32] g

/-- The kernel's count of rows. -/
theorem pay11_at (i : grid0.Coords) (r : Fin 512) (j : Fin 128) :
    k0_pay11 (F := Ideal) i (ix2 r j) = count (512 * (i 1).val + r.val) := by
  pointwise [k0_pay11]
  unfold count
  refine congrArg (fun b : BitVec 32 => (FloatOps.sitofp .f32 b : Ideal .f32)) ?_
  have h : Scalar.muli (BitVec.ofNat 32 (i 1).val) 512#32 = BitVec.ofNat 32 (512 * (i 1).val) := by
    apply BitVec.eq_of_toNat_eq
    simp [Scalar.muli, IntOp.muli, Nat.mul_comm]
  rw [h]
  apply BitVec.eq_of_toNat_eq
  simp [IntOp.addi, Nat.add_comm, Nat.add_left_comm]

/-- What the carried rows are at a sequence's first point, and after any point. -/
theorem pay2_at (r : Fin 16) (k : Fin 512) : k0_pay2 (F := Ideal) (ix2 r k) = (0 : EReal) := by
  pointwise [k0_pay2]
theorem pay4_at (x : Vec Ideal S1x512x512 .bf16) (r : Fin 16) (k : Fin 512) :
    k0_pay4 x (ix2 r k) = x (ix3 0 ⟨496 + r.val, by omega⟩ k) := by
  pointwise [k0_pay4, k0_pay3]

/-- One entry of a pooled row before its product, from the extended block. -/
def blockPooled (x : Vec Ideal S1x512x512 .bf16) (h : Vec Ideal S16x512 .f32) (n : ℕ) (r : Fin 512) (g : Fin 4) (j : Fin 128) : EReal :=
  Ideal.div (∑ i ∈ Finset.range (2 ^ (g.val + 1)), ext x h (16 + r.val - i) ⟨128 * g.val + j.val, by omega⟩)
    (min (count n) (width g)) - x (ix3 0 r ⟨128 * g.val + j.val, by omega⟩)

/-- The body's result at an index. -/
theorem body_at (i : grid0.Coords) (x : Vec Ideal S1x512x512 .bf16) (h : Vec Ideal S16x512 .f32)
    (w : Fin 4 → Vec Ideal S1x128x128 .bf16) (s : Vec Ideal S1x512 .f32) (r : Fin 512) (g : Fin 4) (d : Fin 128) :
    k0_pay1 (k0_pay13 (k0_pay3 x) (k0_pay8 x h) (k0_pay9 x h) (k0_pay10 x h) (k0_pay11 i) (k0_pay12 i x h)
        (w 0) (w 1) (w 2) (w 3) s) (ix3 0 r ⟨128 * g.val + d.val, by omega⟩)
      = (∑ j : Fin 128, blockPooled x h (512 * (i 1).val + r.val) r g j * w g (ix3 0 j d)) * s (ix2 0 ⟨128 * g.val + d.val, by omega⟩) := by
  pointwise [k0_pay1, k0_pay13, k0_pay12, k0_pay3]
  simp only [pay8_at, pay9_at, pay10_at, pay11_at]
  have hd := d.isLt
  congr 1
  match g with
  | 0 =>
    rw [dif_pos (by dsimp; omega)]
    refine Finset.sum_congr rfl fun j _ => ?_
    rw [pay5_at _ _ _ _ (by dsimp only; omega)]
    simp [blockPooled, width, Finset.sum_range_succ]

  | 1 =>
    rw [dif_neg (by dsimp; omega), dif_pos (by dsimp; omega)]
    exact Finset.sum_congr rfl fun j _ => congrArg₂ (fun a b : EReal => a * b) rfl
      (congrArg (w 1) (congrArg (ix3 0 j) (Fin.ext (by dsimp; omega))))
  | 2 =>
    rw [dif_neg (by dsimp; omega), dif_neg (by dsimp; omega), dif_pos (by dsimp; omega)]
    exact Finset.sum_congr rfl fun j _ => congrArg₂ (fun a b : EReal => a * b) rfl
      (congrArg (w 2) (congrArg (ix3 0 j) (Fin.ext (by dsimp; omega))))
  | 3 =>
    rw [dif_neg (by dsimp; omega), dif_neg (by dsimp; omega), dif_neg (by dsimp; omega)]
    exact Finset.sum_congr rfl fun j _ => congrArg₂ (fun a b : EReal => a * b) rfl
      (congrArg (w 3) (congrArg (ix3 0 j) (Fin.ext (by dsimp; omega))))

/-- A row sixteen past the given one, zero outside the sequence. -/
def cell (p : Vec Ideal S4x8192x512 .f32) (b : Fin 4) (k : Fin 512) (e : ℕ) : EReal :=
  if h : 16 ≤ e ∧ e - 16 < 8192 then p (ix3 b ⟨e - 16, h.2⟩ k) else 0

/-- One entry of a pooled row before its product: the mean over the last rows, less the row. -/
def pooled (p : Vec Ideal S4x8192x512 .f32) (b : Fin 4) (n : Fin 8192) (g : Fin 4) (j : Fin 128) : EReal :=
  Ideal.div (∑ i ∈ Finset.range (2 ^ (g.val + 1)), cell p b ⟨128 * g.val + j.val, by omega⟩ (16 + n.val - i))
    (min (count n.val) (width g)) - p (ix3 b n ⟨128 * g.val + j.val, by omega⟩)

/-- An entry of the result by its group and its column in the group. -/
def entry (p : Vec Ideal S4x8192x512 .f32) (w : Vec Ideal S4x128x128 .f32) (s : Vec Ideal S512 .f32)
    (b : Fin 4) (n : Fin 8192) (g : Fin 4) (d : Fin 128) : EReal :=
  (∑ j : Fin 128, pooled p b n g j * w (ix3 g j d)) * s (ix1 ⟨128 * g.val + d.val, by omega⟩)

/-- The pooling's result, as one function of the arguments. -/
def result (p : Vec Ideal S4x8192x512 .f32) (w : Vec Ideal S4x128x128 .f32) (s : Vec Ideal S512 .f32) :
    Vec Ideal S4x8192x512 .bf16 := fun i =>
  entry p w s (i 0) (i 1) ⟨(i 2).val / 128, by have : (i 2).val < 512 := (i 2).isLt; omega⟩ ⟨(i 2).val % 128, by omega⟩

/-- The result at an entry given by its group and its column in the group. -/
theorem result_at (p : Vec Ideal S4x8192x512 .f32) (w : Vec Ideal S4x128x128 .f32) (s : Vec Ideal S512 .f32)
    (b : Fin 4) (n : Fin 8192) (g : Fin 4) (d : Fin 128) :
    result p w s (ix3 b n ⟨128 * g.val + d.val, by omega⟩) = entry p w s b n g d := by
  have hg : (⟨(128 * g.val + d.val) / 128, by omega⟩ : Fin 4) = g := Fin.ext (by dsimp only; omega)
  have hd : (⟨(128 * g.val + d.val) % 128, by omega⟩ : Fin 128) = d := Fin.ext (by dsimp only; omega)
  show entry p w s b n (⟨(128 * g.val + d.val) / 128, _⟩ : Fin 4) (⟨(128 * g.val + d.val) % 128, _⟩ : Fin 128) = _
  rw [hg, hd]

/-- The sequence and the row that a point's block's row is. -/
def bat (t : Fin cfg0.N) : Fin 4 := ⟨t.val / 16, by have := t.isLt; have : cfg0.N = 64 := N_0; omega⟩
def row (t : Fin cfg0.N) (r : Fin 512) : Fin 8192 := ⟨512 * (t.val % 16) + r.val, by omega⟩

/-- The blocks. -/
theorem blk0 (c : Dev nD) (t : Fin cfg0.N) (r k : Fin 512) :
    iblk m c 0 t (ix3 0 r k) = m ((c.tc : Thread nD τ).loc main_arg0) (ix3 (bat t) (row t r) k) := by
  unfold row bat
  blk_ext! [iblk, V, idx t]
theorem blk1 (c : Dev nD) (t : Fin cfg0.N) (g : Fin 4) (j d : Fin 128) :
    iblk m c 1 t (ix3 g j d) = m ((c.tc : Thread nD τ).loc main_arg1) (ix3 g j d) := by
  blk_ext! [iblk, V, idx t]
theorem blk2 (c : Dev nD) (t : Fin cfg0.N) (k : Fin 512) :
    iblk m c 2 t (ix2 0 k) = m ((c.tc : Thread nD τ).loc main_arg2) (ix1 k) := by
  blk_ext! [iblk, V, idx t]
theorem emb3 (t : Fin cfg0.N) (r k : Fin 512) :
    ((cfg0.win 3).blk t).view.emb (ix3 0 r k) = ix3 (bat t) (row t r) k := by
  unfold row bat
  blk_ext [idx t]

/-- What the carried rows are when a point begins to read them. -/
def held (c : Dev nD) (t : Fin cfg0.N) : Vec Ideal S16x512 .f32 :=
  if t.val % 16 = 0 then k0_pay2 (F := Ideal)
  else k0_pay4 (iblk m c 0 ⟨t.val - 1, Nat.lt_of_le_of_lt (Nat.sub_le _ _) t.isLt⟩)

/-- A point's weights, one group's block. -/
def wts (c : Dev nD) (t : Fin cfg0.N) (g : Fin 4) : Vec Ideal S1x128x128 .bf16 := fun i =>
  iblk m c 1 t (ix3 g (i 1) (i 2))

/-- Every point leaves its block's last sixteen rows. -/
theorem left (c : Dev nD) (t : Fin cfg0.N) : (outsAt0 m c t.val t.isLt).2 = k0_pay4 (iblk m c 0 t) := by
  by_cases h0 : t.val % 16 = 0
  · rw [outsAt0_A m c t h0]
    frame_out
  · rw [outsAt0_B m c t h0]
    frame_out

/-- What a point leaves in the result's block. -/
theorem point (c : Dev nD) (t : Fin cfg0.N) : (outsAt0 m c t.val t.isLt).1
    = k0_pay1 (k0_pay13 (k0_pay3 (iblk m c 0 t)) (k0_pay8 (iblk m c 0 t) (held m c t)) (k0_pay9 (iblk m c 0 t) (held m c t))
        (k0_pay10 (iblk m c 0 t) (held m c t)) (k0_pay11 (grid0.coords t)) (k0_pay12 (grid0.coords t) (iblk m c 0 t) (held m c t))
        (wts m c t 0) (wts m c t 1) (wts m c t 2) (wts m c t 3) (iblk m c 2 t)) := by
  have hw0 : ∀ inb, View.ld (iblk m c 1 t) (Rect.unit ![0, 0, 0] ![1, 128, 128] inb) = wts m c t 0 := by
    intro inb; funext i; idx_vars i; unfold wts; pointwise
  have hw1 : ∀ inb, View.ld (iblk m c 1 t) (Rect.unit ![1, 0, 0] ![1, 128, 128] inb) = wts m c t 1 := by
    intro inb; funext i; idx_vars i; unfold wts; pointwise
  have hw2 : ∀ inb, View.ld (iblk m c 1 t) (Rect.unit ![2, 0, 0] ![1, 128, 128] inb) = wts m c t 2 := by
    intro inb; funext i; idx_vars i; unfold wts; pointwise
  have hw3 : ∀ inb, View.ld (iblk m c 1 t) (Rect.unit ![3, 0, 0] ![1, 128, 128] inb) = wts m c t 3 := by
    intro inb; funext i; idx_vars i; unfold wts; pointwise
  by_cases h0 : t.val % 16 = 0
  · have hh : held m c t = k0_pay2 (F := Ideal) := if_pos h0
    rw [outsAt0_A m c t h0, hh]
    frame_out
    rw [hw0, hw1, hw2, hw3]
  · have hh : held m c t = (outsAt0 m c (t.val - 1) (Nat.lt_of_le_of_lt (Nat.sub_le _ _) t.isLt)).2 :=
      (if_neg h0).trans (left m c ⟨t.val - 1, Nat.lt_of_le_of_lt (Nat.sub_le _ _) t.isLt⟩).symm
    rw [outsAt0_B m c t h0, hh]
    frame_out
    simp only [read_unread_whole]
    rw [hw0, hw1, hw2, hw3]

/-- The carried rows followed by the block's are consecutive rows of the sequence. -/
theorem ext_cell (c : Dev nD) (t : Fin cfg0.N) (e : ℕ) (he : e < 528) (k : Fin 512) :
    ext (iblk m c 0 t) (held m c t) e k
      = cell (m ((c.tc : Thread nD τ).loc main_arg0)) (bat t) k (512 * (t.val % 16) + e) := by
  unfold ext
  split
  · rename_i h16
    unfold held cell
    split
    · rename_i h0
      rw [pay2_at, dif_neg (by omega)]
    · rename_i h0
      rw [pay4_at, blk0, dif_pos (by omega)]
      have h1 := t.isLt
      have h2 : cfg0.N = 64 := N_0
      exact congrArg (m ((c.tc : Thread nD τ).loc main_arg0)) (congrArg₂ (fun b q => ix3 b q k)
        (Fin.ext (by simp only [bat]; omega)) (Fin.ext (by simp only [row]; omega)))
  · rw [dif_pos (by omega), blk0]
    unfold cell
    rw [dif_pos (by omega)]
    exact congrArg (m ((c.tc : Thread nD τ).loc main_arg0)) (congrArg (fun q => ix3 (bat t) q k) (Fin.ext (by simp only [row]; omega)))

/-- The sum over a sliding window down the second axis, with nothing before the first row. -/
theorem window_apply (w lo : ℕ) (x : FVec Ideal ⟨3, ![4, 8192, 128]⟩ .f32) (init : FVec Ideal ⟨0, ![]⟩ .f32)
    (h : (⟨3, ![4, 8192, 128]⟩ : Shape).ReduceWindows (![1, w, 1] : Fin 3 → ℕ) ![1, 1, 1] ![0, lo, 0] ![0, 0, 0] ⟨3, ![4, 8192, 128]⟩)
    (hu : 0 < (⟨0, ![]⟩ : Shape).numel) (hi : init (Shape.Idx.first hu) = (0 : EReal)) (b : Fin 4) (n : Fin 8192) (k : Fin 128) :
    Host.reduceWindowAdd ![1, w, 1] ![1, 1, 1] ![0, lo, 0] ![0, 0, 0] x init h hu (ix3 b n k)
      = ∑ i : Fin w, if hin : lo ≤ n.val + i.val ∧ n.val + i.val - lo < 8192 then (x (ix3 b ⟨n.val + i.val - lo, hin.2⟩ k) : EReal) else 0 := by
  have key : ∀ (N : ℕ) (g : Fin N → EReal) (l : List (Fin N)) (v : EReal), l.foldl (fun r n => r + g n) v = v + (l.map g).sum := by
    intro N g l
    induction l with
    | nil => intro v; simp
    | cons a l ih => intro v; simp only [List.foldl_cons, List.map_cons, List.sum_cons, ih, add_assoc]
  refine (key _ (fun n' => _) _ _).trans ?_
  rw [← Fin.sum_univ_def, hi, zero_add]
  have e := Equiv.sum_comp (⟨3, ![1, w, 1]⟩ : Shape).rowMajor.symm (fun q : (⟨3, ![1, w, 1]⟩ : Shape).Idx =>
    if hin : lo ≤ n.val + (q 1).val ∧ n.val + (q 1).val - lo < 8192 then (x (ix3 b ⟨n.val + (q 1).val - lo, hin.2⟩ k) : EReal) else 0)
  refine Eq.trans (Finset.sum_congr rfl fun q _ => ?_) (e.trans ?_)
  · have z0 : ((⟨3, ![1, w, 1]⟩ : Shape).rowMajor.symm q 0).val = 0 := by have : ((⟨3, ![1, w, 1]⟩ : Shape).rowMajor.symm q 0).val < 1 := ((⟨3, ![1, w, 1]⟩ : Shape).rowMajor.symm q 0).isLt; omega
    have z2 : ((⟨3, ![1, w, 1]⟩ : Shape).rowMajor.symm q 2).val = 0 := by have : ((⟨3, ![1, w, 1]⟩ : Shape).rowMajor.symm q 2).val < 1 := ((⟨3, ![1, w, 1]⟩ : Shape).rowMajor.symm q 2).isLt; omega
    by_cases hin : lo ≤ n.val + ((⟨3, ![1, w, 1]⟩ : Shape).rowMajor.symm q 1).val ∧ n.val + ((⟨3, ![1, w, 1]⟩ : Shape).rowMajor.symm q 1).val - lo < 8192
    · rw [dif_pos hin, dif_pos]
      · refine congrArg x (funext fun a => Fin.ext ?_)
        match a with
        | ⟨0, _⟩ => show b.val * 1 + ((⟨3, ![1, w, 1]⟩ : Shape).rowMajor.symm q 0).val - 0 = b.val; omega
        | ⟨1, _⟩ => show n.val * 1 + ((⟨3, ![1, w, 1]⟩ : Shape).rowMajor.symm q 1).val - lo = n.val + ((⟨3, ![1, w, 1]⟩ : Shape).rowMajor.symm q 1).val - lo; omega
        | ⟨2, _⟩ => show k.val * 1 + ((⟨3, ![1, w, 1]⟩ : Shape).rowMajor.symm q 2).val - 0 = k.val; omega
      · intro a
        match a with
        | ⟨0, _⟩ => show 0 ≤ b.val * 1 + ((⟨3, ![1, w, 1]⟩ : Shape).rowMajor.symm q 0).val ∧ b.val * 1 + ((⟨3, ![1, w, 1]⟩ : Shape).rowMajor.symm q 0).val - 0 < 4; omega
        | ⟨1, _⟩ => show lo ≤ n.val * 1 + ((⟨3, ![1, w, 1]⟩ : Shape).rowMajor.symm q 1).val ∧ n.val * 1 + ((⟨3, ![1, w, 1]⟩ : Shape).rowMajor.symm q 1).val - lo < 8192; omega
        | ⟨2, _⟩ => show 0 ≤ k.val * 1 + ((⟨3, ![1, w, 1]⟩ : Shape).rowMajor.symm q 2).val ∧ k.val * 1 + ((⟨3, ![1, w, 1]⟩ : Shape).rowMajor.symm q 2).val - 0 < 128; omega
    · rw [dif_neg hin, dif_neg]
      intro ha
      have h1 : lo ≤ n.val * 1 + ((⟨3, ![1, w, 1]⟩ : Shape).rowMajor.symm q 1).val ∧ n.val * 1 + ((⟨3, ![1, w, 1]⟩ : Shape).rowMajor.symm q 1).val - lo < 8192 := ha 1
      omega
  · rw [sum_idx3]
    simp
    rfl

/-- The sliding window's sum by cells. -/
theorem window_cell (lo off : ℕ) (hlo : lo ≤ 15) (hoff : off ≤ 384) (p : Vec Ideal S4x8192x512 .f32)
    (x : FVec Ideal ⟨3, ![4, 8192, 128]⟩ .f32) (init : FVec Ideal ⟨0, ![]⟩ .f32)
    (h : (⟨3, ![4, 8192, 128]⟩ : Shape).ReduceWindows (![1, lo + 1, 1] : Fin 3 → ℕ) ![1, 1, 1] ![0, lo, 0] ![0, 0, 0] ⟨3, ![4, 8192, 128]⟩)
    (hu : 0 < (⟨0, ![]⟩ : Shape).numel) (hi : init (Shape.Idx.first hu) = (0 : EReal))
    (hx : ∀ b n (k : Fin 128), x (ix3 b n k) = p (ix3 b n ⟨off + k.val, by omega⟩)) (b : Fin 4) (n : Fin 8192) (k : Fin 128) :
    Host.reduceWindowAdd ![1, lo + 1, 1] ![1, 1, 1] ![0, lo, 0] ![0, 0, 0] x init h hu (ix3 b n k)
      = ∑ i ∈ Finset.range (lo + 1), cell p b ⟨off + k.val, by omega⟩ (16 + n.val - i) := by
  refine (window_apply (lo + 1) lo x init h hu hi b n k).trans ?_
  rw [← Finset.sum_range_reflect, ← Fin.sum_univ_eq_sum_range
    (fun i => cell p b ⟨off + k.val, by omega⟩ (16 + n.val - (lo + 1 - 1 - i))) (lo + 1)]
  refine Finset.sum_congr rfl fun i _ => ?_
  have := i.isLt
  have hn := n.isLt
  unfold cell
  by_cases hin : lo ≤ n.val + i.val
  · rw [dif_pos ⟨hin, by omega⟩, dif_pos ⟨by omega, by omega⟩, hx]
    exact congrArg p (congrArg (fun q => ix3 b q _) (Fin.ext (by dsimp only; omega)))
  · rw [dif_neg fun q => hin q.1, dif_neg fun q => hin (by omega)]

/-- One entry of the kernel's block. -/
theorem block_at (c : Dev nD) (t : Fin cfg0.N) (r : Fin 512) (g : Fin 4) (j : Fin 128) :
    blockPooled (iblk m c 0 t) (held m c t) (512 * (grid0.coords t 1).val + r.val) r g j
      = pooled (m ((c.tc : Thread nD τ).loc main_arg0)) (bat t) (row t r) g j := by
  unfold blockPooled pooled
  rw [blk0, (idx t).2.2.2.2]
  refine congrArg₂ (fun a b : EReal => Ideal.div a b - _) (Finset.sum_congr rfl fun i hi => ?_) rfl
  have hlt := Finset.mem_range.mp hi
  have h16 : 2 ^ (g.val + 1) ≤ 2 ^ 4 := Nat.pow_le_pow_right (by omega) (by omega)
  refine (ext_cell m c t _ (by omega) _).trans (congrArg (cell _ _ _) ?_)
  simp only [row]
  omega

/-- The kernel's result array is `result` of the arguments. -/
theorem kernel_array (c : Dev nD) : (dats m 0 c).arrAt 3 cfg0.N
    = result (m ((c.tc : Thread nD τ).loc main_arg0)) (m ((c.tc : Thread nD τ).loc main_arg1))
        (m ((c.tc : Thread nD τ).loc main_arg2)) := by
  refine (dats m 0 c).arrAt_eq_of_covers 3 _ (by decide +kernel) fun t hf y => ?_
  blk_simp
  rw [after0_3, point]
  idx_vars y
  obtain rfl : y0 = 0 := Subsingleton.elim _ _
  refine Eq.trans ?_ (congrArg (result _ _ _) (emb3 t y1 y2)).symm
  obtain ⟨g, d, rfl⟩ : ∃ (g : Fin 4) (d : Fin 128), y2 = ⟨128 * g.val + d.val, by omega⟩ :=
    ⟨⟨y2.val / 128, by omega⟩, ⟨y2.val % 128, by omega⟩, Fin.ext (by dsimp only; omega)⟩
  rw [result_at]
  refine (body_at (grid0.coords t) (iblk m c 0 t) (held m c t) (wts m c t) (iblk m c 2 t) y1 g d).trans ?_
  simp only [block_at, blk2, wts, entry]
  refine congrArg₂ (fun a b : EReal => a * b) (Finset.sum_congr rfl fun j _ =>
    congrArg₂ (fun a b : EReal => a * b) rfl (blk1 m c t g j d)) rfl

/-- The reference's count of rows. -/
theorem count_ref (n : Fin 8192) : (FloatOps.sitofp .f32 (IntOp.addi 1#32 (BitVec.ofNat 32 n.val)) : Ideal .f32) = count n.val := by
  unfold count
  refine congrArg (fun b : BitVec 32 => (FloatOps.sitofp .f32 b : Ideal .f32)) ?_
  apply BitVec.eq_of_toNat_eq
  simp [IntOp.addi, Nat.add_comm]

/-- One group's pooled entry as the reference spells it. -/
theorem ref_pooled (lo : ℕ) (g : Fin 4) (hg : lo + 1 = 2 ^ (g.val + 1)) (p : Vec Ideal S4x8192x512 .f32)
    (x : FVec Ideal ⟨3, ![4, 8192, 128]⟩ .f32) (init : FVec Ideal ⟨0, ![]⟩ .f32)
    (h : (⟨3, ![4, 8192, 128]⟩ : Shape).ReduceWindows (![1, lo + 1, 1] : Fin 3 → ℕ) ![1, 1, 1] ![0, lo, 0] ![0, 0, 0] ⟨3, ![4, 8192, 128]⟩)
    (hu : 0 < (⟨0, ![]⟩ : Shape).numel) (hi : init (Shape.Idx.first hu) = (0 : EReal))
    (hx : ∀ b n (k : Fin 128), x (ix3 b n k) = p (ix3 b n ⟨128 * g.val + k.val, by omega⟩)) (b : Fin 4) (n : Fin 8192) (k : Fin 128) (q : Fin 512)
    (hq : q.val = 128 * g.val + k.val) :
    (Ideal.div (Host.reduceWindowAdd ![1, lo + 1, 1] ![1, 1, 1] ![0, lo, 0] ![0, 0, 0] x init h hu (ix3 b n k))
      (min (FloatOps.sitofp .f32 (IntOp.addi 1#32 (BitVec.ofNat 32 n.val)) : Ideal .f32) (width g)) : EReal)
        - p (ix3 b n q) = pooled p b n g k := by
  rw [show q = ⟨128 * g.val + k.val, by clear hq; omega⟩ from Fin.ext hq]
  have h16 : 2 ^ (g.val + 1) ≤ 2 ^ 4 := Nat.pow_le_pow_right (by omega) (by omega)
  rw [count_ref, window_cell lo (128 * g.val) (by omega) (by omega) p x init h hu hi hx, hg]
  rfl

/-- The reference ends with its arguments unchanged and every counter at zero. -/
theorem frame_reference : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

set_option maxHeartbeats 4000000 in
/-- The kernel and the plain reference end with the same array. -/
theorem algebraic : algebraic_Kernel10Ideal_Reference10Ideal := by
  intro m ρ m' ρ' _ h
  refine ⟨fun c => result (m ((c.tc : Thread nD τ).loc main_arg0)) (m ((c.tc : Thread nD τ).loc main_arg1))
        (m ((c.tc : Thread nD τ).loc main_arg2)), ?_, ?_⟩
  · refine (θ_run _ _ _).mono (fun r hr c => ⟨(hr c).1.trans (kernel_array m c), (hr c).2⟩)
      (Value.run_blocks m ρ)
  · refine (θ_run _ _ _).mono (fun r hr c => ⟨(hr c).1.trans ?_, (hr c).2⟩) (Cert.Reference10Ideal.Value.run m' ρ')
    obtain ⟨h0, h1, h2⟩ := h c
    simp only [Cert.Reference10Ideal.Value.res_main_v51]
    rw [h0, h1, h2]
    funext i
    idx_vars i
    pointwise
    have hz : ∀ hu, (broadcastInDim Cert.Reference10Ideal.S_ ![] Cert.Reference10Ideal.Gen.bcast_S_S_
        (constant (F := Ideal) Cert.Reference10Ideal.S_ .f32 0#32)) (Shape.Idx.first hu) = (0 : EReal) := by
      intro hu; pointwise
    obtain ⟨g, d, rfl⟩ : ∃ (g : Fin 4) (d : Fin 128), i2 = ⟨128 * g.val + d.val, by omega⟩ :=
      ⟨⟨i2.val / 128, by omega⟩, ⟨i2.val % 128, by omega⟩, Fin.ext (by dsimp only; omega)⟩
    rw [result_at]
    have hg : (⟨(128 * g.val + d.val) / 128, by omega⟩ : Fin 4) = g := Fin.ext (by dsimp only; omega)
    have hd : (⟨(128 * g.val + d.val) % 128, by omega⟩ : Fin 128) = d := Fin.ext (by dsimp only; omega)
    refine congrArg₂ (fun a b : EReal => a * b) (Finset.sum_congr rfl fun j _ => (mul_comm _ _).trans
      (congrArg₂ (fun a b : EReal => a * b) ?_ (congrArg _ (congrArg₂ (fun a b => ix3 a j b) hg hd)))) rfl
    split_ifs with q1 q2 q3
    · obtain rfl : g = 0 := Fin.ext (by dsimp only at q1; show g.val = 0; omega)
      exact ref_pooled 1 0 rfl _ _ _ _ _ (hz _) (fun b n k => by pointwise) i0 i1 j _ (by simp)
    · obtain rfl : g = 1 := Fin.ext (by dsimp only at q1 q2; show g.val = 1; omega)
      exact ref_pooled 3 1 rfl _ _ _ _ _ (hz _) (fun b n k => by pointwise) i0 i1 j _ rfl
    · obtain rfl : g = 2 := Fin.ext (by dsimp only at q1 q2 q3; show g.val = 2; omega)
      exact ref_pooled 7 2 rfl _ _ _ _ _ (hz _) (fun b n k => by pointwise) i0 i1 j _ rfl
    · obtain rfl : g = 3 := Fin.ext (by dsimp only at q1 q2 q3; show g.val = 3; omega)
      exact ref_pooled 15 3 rfl _ _ _ _ _ (hz _) (fun b n k => by pointwise) i0 i1 j _ rfl

end Cert.Pool
-- ==== Proof.Ret.lean ====
module

public import proofs.«01_k».proof.Proof.Gen.Kernel11Ideal.Value
public import proofs.«01_k».proof.Proof.Gen.Reference11Ideal.Run
public import proofs.«01_k».proof.Proof.Common
public import proofs.«01_k».proof.Defs

@[expose] public section

set_option maxRecDepth 16384

noncomputable section

/-! One chunk of the retention, as the kernel's body computes it: what a head's columns of the result and a head's state
    are, from the rotated queries and keys, the values, the decay within the chunk and the state before the chunk. -/

namespace Cert.Ret

open Cert.Kernel11Ideal Cert.Kernel11Ideal.Gen Idealize.ShloMosaic Idealize.ShloMosaic.TcCoe Idealize.SL.Sem

/-- The logarithm of a head's decay, and the decay over a chunk, as the kernel spells them. -/
def lg (h : Fin 8) : EReal :=
  (![Named.named κ "log0" (φ := .f32) 0xBD020AEC#32, Named.named κ "log1" (φ := .f32) 0xBC8102B3#32, Named.named κ "log2" (φ := .f32) 0xBC0080AC#32, Named.named κ "log3" (φ := .f32) 0xBB80402B#32, Named.named κ "log4" (φ := .f32) 0xBB00200B#32, Named.named κ "log5" (φ := .f32) 0xBA801003#32, Named.named κ "log6" (φ := .f32) 0xBA000801#32, Named.named κ "log7" (φ := .f32) 0xB9800400#32] : Fin 8 → Ideal .f32) h
def pw (h : Fin 8) : EReal :=
  (![Named.named κ "pow0" (φ := .f32) 0x399ACCA1#32, Named.named κ "pow1" (φ := .f32) 0x3C9160A5#32, Named.named κ "pow2" (φ := .f32) 0x3E097FCE#32, Named.named κ "pow3" (φ := .f32) 0x3EBBFC5D#32, Named.named κ "pow4" (φ := .f32) 0x3F1B322A#32, Named.named κ "pow5" (φ := .f32) 0x3F475941#32, Named.named κ "pow6" (φ := .f32) 0x3F61E98D#32, Named.named κ "pow7" (φ := .f32) 0x3F707CE8#32] : Fin 8 → Ideal .f32) h

/-- A row's number within the chunk. -/
def pos (n : ℕ) : EReal := (FloatOps.sitofp .f32 (BitVec.ofNat 32 n) : Ideal .f32)

/-- The decay from the chunk's start up to a row, and from a row up to the chunk's end. -/
def rise (h : Fin 8) (n : ℕ) : EReal := Ideal.exp ((pos n + 1) * lg h)
def fall (h : Fin 8) (n : ℕ) : EReal := Ideal.exp ((Ideal.ofBits .f32 0x437F0000#32 - pos n) * lg h)

/-- One entry of a head's columns of the result before the norm. -/
def mix (q k : FVec Ideal S256x512 .f32) (v : FVec Ideal S256x512 .bf16) (w : Vec Ideal S1x256x256 .f32) (s : Vec Ideal S1x64x64 .f32)
    (h : Fin 8) (n : Fin 256) (e : Fin 64) : EReal :=
  (∑ j : Fin 256, (∑ d : Fin 64, (q (ix2 n ⟨64 * h.val + d.val, by omega⟩) : EReal) * k (ix2 j ⟨64 * h.val + d.val, by omega⟩))
      * (w (ix3 0 n j) : EReal) * (v (ix2 j ⟨64 * h.val + e.val, by omega⟩) : EReal))
    + (∑ d : Fin 64, (q (ix2 n ⟨64 * h.val + d.val, by omega⟩) : EReal) * s (ix3 0 d e)) * rise h n.val

/-- One entry of a head's state after the chunk. -/
def grow (k : FVec Ideal S256x512 .f32) (v : FVec Ideal S256x512 .bf16) (s : Vec Ideal S1x64x64 .f32)
    (h : Fin 8) (d e : Fin 64) : EReal :=
  (s (ix3 0 d e) : EReal) * pw h
    + ∑ n : Fin 256, (k (ix2 n ⟨64 * h.val + d.val, by omega⟩) : EReal) * fall h n.val * (v (ix2 n ⟨64 * h.val + e.val, by omega⟩) : EReal)

variable (q k : FVec Ideal S256x512 .f32) (v : FVec Ideal S256x512 .bf16)

theorem mix_at0 (w0 : Vec Ideal S1x256x256 .f32) (s0 : Vec Ideal S1x64x64 .f32) (n : Fin 256) (e : Fin 64) :
    k0_pay51 v k0_pay22 (k0_pay23 q k) (k0_pay31 q s0) w0 (ix2 n e) = mix q k v w0 s0 0 n e := by
  pointwise [k0_pay22, k0_pay23, k0_pay31, k0_pay51]
  simp only [mix, show ∀ x : ℕ, 64 * (0 : Fin 8).val + x = x from fun x => by simp]
  rfl
theorem grow_at0 (s0 : Vec Ideal S1x64x64 .f32) (d e : Fin 64) :
    k0_pay50 (k0_pay41 k v k0_pay22) s0 (ix3 0 d e) = grow k v s0 0 d e := by
  pointwise [k0_pay22, k0_pay41, k0_pay50]
  simp only [grow, show ∀ x : ℕ, 64 * (0 : Fin 8).val + x = x from fun x => by simp]
  rfl
theorem mix_at1 (w1 : Vec Ideal S1x256x256 .f32) (s1 : Vec Ideal S1x64x64 .f32) (n : Fin 256) (e : Fin 64) :
    k0_pay55 (k0_pay33 (k0_pay32 q) s1) (k0_pay52 v (k0_pay24 q k) w1) (k0_pay53 k0_pay22) (ix2 n e) = mix q k v w1 s1 1 n e := by
  pointwise [k0_pay22, k0_pay24, k0_pay32, k0_pay33, k0_pay52, k0_pay53, k0_pay55]
  rfl
theorem grow_at1 (s1 : Vec Ideal S1x64x64 .f32) (d e : Fin 64) :
    k0_pay54 (k0_pay42 k v k0_pay22) s1 (ix3 0 d e) = grow k v s1 1 d e := by
  pointwise [k0_pay22, k0_pay42, k0_pay54]
  rfl
theorem mix_at2 (w2 : Vec Ideal S1x256x256 .f32) (s2 : Vec Ideal S1x64x64 .f32) (n : Fin 256) (e : Fin 64) :
    k0_pay58 (k0_pay56 v k0_pay22 (k0_pay25 q k) (k0_pay34 q s2) w2) (ix2 n e) = mix q k v w2 s2 2 n e := by
  pointwise [k0_pay22, k0_pay25, k0_pay34, k0_pay56, k0_pay58]
  rfl
theorem grow_at2 (s2 : Vec Ideal S1x64x64 .f32) (d e : Fin 64) :
    k0_pay57 (k0_pay43 k v k0_pay22) s2 (ix3 0 d e) = grow k v s2 2 d e := by
  pointwise [k0_pay22, k0_pay43, k0_pay57]
  rfl
theorem mix_at3 (w3 : Vec Ideal S1x256x256 .f32) (s3 : Vec Ideal S1x64x64 .f32) (n : Fin 256) (e : Fin 64) :
    k0_pay60 v k0_pay22 (k0_pay26 q k) (k0_pay35 q s3) w3 (ix2 n e) = mix q k v w3 s3 3 n e := by
  pointwise [k0_pay22, k0_pay26, k0_pay35, k0_pay60]
  rfl
theorem grow_at3 (s3 : Vec Ideal S1x64x64 .f32) (d e : Fin 64) :
    k0_pay59 (k0_pay45 v (k0_pay44 k k0_pay22)) s3 (ix3 0 d e) = grow k v s3 3 d e := by
  pointwise [k0_pay22, k0_pay44, k0_pay45, k0_pay59]
  rfl
theorem mix_at4 (w4 : Vec Ideal S1x256x256 .f32) (s4 : Vec Ideal S1x64x64 .f32) (n : Fin 256) (e : Fin 64) :
    k0_pay64 k0_pay22 (k0_pay36 q s4) (k0_pay61 v (k0_pay27 q k) w4) k0_pay62 (ix2 n e) = mix q k v w4 s4 4 n e := by
  pointwise [k0_pay22, k0_pay27, k0_pay36, k0_pay61, k0_pay62, k0_pay64]
  rfl
theorem grow_at4 (s4 : Vec Ideal S1x64x64 .f32) (d e : Fin 64) :
    k0_pay63 (k0_pay46 k v k0_pay22) s4 (ix3 0 d e) = grow k v s4 4 d e := by
  pointwise [k0_pay22, k0_pay46, k0_pay63]
  rfl
theorem mix_at5 (w5 : Vec Ideal S1x256x256 .f32) (s5 : Vec Ideal S1x64x64 .f32) (n : Fin 256) (e : Fin 64) :
    k0_pay68 (k0_pay65 v k0_pay22 (k0_pay28 q k) (k0_pay37 q s5) w5) (ix2 n e) = mix q k v w5 s5 5 n e := by
  pointwise [k0_pay22, k0_pay28, k0_pay37, k0_pay65, k0_pay68]
  rfl
theorem grow_at5 (s5 : Vec Ideal S1x64x64 .f32) (d e : Fin 64) :
    k0_pay67 (k0_pay66 (k0_pay47 k v k0_pay22) s5) (ix3 0 d e) = grow k v s5 5 d e := by
  pointwise [k0_pay22, k0_pay47, k0_pay66, k0_pay67]
  rfl
theorem mix_at6 (w6 : Vec Ideal S1x256x256 .f32) (s6 : Vec Ideal S1x64x64 .f32) (n : Fin 256) (e : Fin 64) :
    k0_pay70 v k0_pay22 (k0_pay29 q k) (k0_pay38 q s6) w6 (ix2 n e) = mix q k v w6 s6 6 n e := by
  pointwise [k0_pay22, k0_pay29, k0_pay38, k0_pay70]
  rfl
theorem grow_at6 (s6 : Vec Ideal S1x64x64 .f32) (d e : Fin 64) :
    k0_pay69 (k0_pay48 k v k0_pay22) s6 (ix3 0 d e) = grow k v s6 6 d e := by
  pointwise [k0_pay22, k0_pay48, k0_pay69]
  rfl
theorem mix_at7 (w7 : Vec Ideal S1x256x256 .f32) (s7 : Vec Ideal S1x64x64 .f32) (n : Fin 256) (e : Fin 64) :
    k0_pay73 v k0_pay22 (k0_pay40 (k0_pay39 q) s7) (k0_pay71 (k0_pay30 q k) w7) (ix2 n e) = mix q k v w7 s7 7 n e := by
  pointwise [k0_pay22, k0_pay30, k0_pay39, k0_pay40, k0_pay71, k0_pay73]
  rfl
theorem grow_at7 (s7 : Vec Ideal S1x64x64 .f32) (d e : Fin 64) :
    k0_pay72 (k0_pay49 k v k0_pay22) s7 (ix3 0 d e) = grow k v s7 7 d e := by
  pointwise [k0_pay22, k0_pay49, k0_pay72]
  rfl

/-- How far one row of a chunk is after another, and one entry of a head's decay within the chunk. -/
def dist (n j : ℕ) : EReal := (FloatOps.sitofp .f32 (IntOp.subi (BitVec.ofNat 32 n) (BitVec.ofNat 32 j)) : Ideal .f32)
def inner (h : Fin 8) (n j : ℕ) : EReal :=
  if 0 ≤ dist n j then Ideal.exp (max (dist n j) 0 * lg h) else 0
theorem inner_at0 (n j : Fin 256) : k0_pay4 (F := Ideal) (ix3 0 n j) = inner 0 n.val j.val := by
  pointwise [k0_pay3, k0_pay4]
  rfl
theorem inner_at1 (n j : Fin 256) : k0_pay5 (F := Ideal) (ix3 0 n j) = inner 1 n.val j.val := by
  pointwise [k0_pay3, k0_pay5]
  rfl
theorem inner_at2 (n j : Fin 256) : (k0_pay8 (k0_pay6 (F := Ideal)) (k0_pay7 (F := Ideal)) (Named.named κ "log2" (φ := .f32) 0xBC0080AC#32) ) (ix3 0 n j) = inner 2 n.val j.val := by
  pointwise [k0_pay3, k0_pay6, k0_pay7, k0_pay8]
  rfl
theorem inner_at3 (n j : Fin 256) : (k0_pay9 (k0_pay3 (F := Ideal)) ) (ix3 0 n j) = inner 3 n.val j.val := by
  pointwise [k0_pay3, k0_pay9]
  rfl
theorem inner_at4 (n j : Fin 256) : (k0_pay10 (k0_pay3 (F := Ideal)) ) (ix3 0 n j) = inner 4 n.val j.val := by
  pointwise [k0_pay10, k0_pay3]
  rfl
theorem inner_at5 (n j : Fin 256) : (k0_pay13 (k0_pay11 (k0_pay3 (F := Ideal))) (k0_pay12 (k0_pay3 (F := Ideal))) (Named.named κ "log5" (φ := .f32) 0xBA801003#32) ) (ix3 0 n j) = inner 5 n.val j.val := by
  pointwise [k0_pay11, k0_pay12, k0_pay13, k0_pay3]
  rfl
theorem inner_at6 (n j : Fin 256) : (k0_pay14 (k0_pay3 (F := Ideal)) ) (ix3 0 n j) = inner 6 n.val j.val := by
  pointwise [k0_pay14, k0_pay3]
  rfl
theorem inner_at7 (n j : Fin 256) : (k0_pay15 (k0_pay3 (F := Ideal)) ) (ix3 0 n j) = inner 7 n.val j.val := by
  pointwise [k0_pay15, k0_pay3]
  rfl

/-- A column, or a plane, lies in one head. -/
theorem head_eq {h k : Fin 8} {e x : Fin 64} (hh : 64 * h.val + e.val = 64 * k.val + x.val) : h = k ∧ e = x :=
  ⟨Fin.ext (by omega), Fin.ext (by omega)⟩

set_option maxHeartbeats 1000000 in
/-- The columns the eight heads store, read back. -/
theorem mix_canon (w : Fin 8 → Vec Ideal S1x256x256 .f32) (s : Fin 8 → Vec Ideal S1x64x64 .f32)
    (n : Fin 256) (h : Fin 8) (e : Fin 64) :
    View.canon (Val := Elt Ideal) (s := S256x512) (e := .f32)
      [⟨Rect.unit ![0, 448] ![256, 64] inb_S256x512_S256x64_0_448, k0_pay73 v k0_pay22 (k0_pay40 (k0_pay39 q) (s 7)) (k0_pay71 (k0_pay30 q k) (w 7))⟩,
      ⟨Rect.unit ![0, 384] ![256, 64] inb_S256x512_S256x64_0_384, k0_pay70 v k0_pay22 (k0_pay29 q k) (k0_pay38 q (s 6)) (w 6)⟩,
      ⟨Rect.unit ![0, 320] ![256, 64] inb_S256x512_S256x64_0_320, k0_pay68 (k0_pay65 v k0_pay22 (k0_pay28 q k) (k0_pay37 q (s 5)) (w 5))⟩,
      ⟨Rect.unit ![0, 256] ![256, 64] inb_S256x512_S256x64_0_256, k0_pay64 k0_pay22 (k0_pay36 q (s 4)) (k0_pay61 v (k0_pay27 q k) (w 4)) k0_pay62⟩,
      ⟨Rect.unit ![0, 192] ![256, 64] inb_S256x512_S256x64_0_192, k0_pay60 v k0_pay22 (k0_pay26 q k) (k0_pay35 q (s 3)) (w 3)⟩,
      ⟨Rect.unit ![0, 128] ![256, 64] inb_S256x512_S256x64_0_128, k0_pay58 (k0_pay56 v k0_pay22 (k0_pay25 q k) (k0_pay34 q (s 2)) (w 2))⟩,
      ⟨Rect.unit ![0, 64] ![256, 64] inb_S256x512_S256x64_0_64, k0_pay55 (k0_pay33 (k0_pay32 q) (s 1)) (k0_pay52 v (k0_pay24 q k) (w 1)) (k0_pay53 k0_pay22)⟩,
      ⟨Rect.unit ![0, 0] ![256, 64] inb_S256x512_S256x64_0_0, k0_pay51 v k0_pay22 (k0_pay23 q k) (k0_pay31 q (s 0)) (w 0)⟩] (ix2 n ⟨64 * h.val + e.val, by omega⟩)
      = mix q k v (w h) (s h) h n e := by
  canon_tiles x hx
  · idx_vars x
    obtain rfl : n = x0 := Fin.ext (by omega)
    obtain ⟨rfl, rfl⟩ := head_eq (h := h) (k := 7) (e := e) (x := x1) (by show 64 * h.val + e.val = 64 * 7 + x1.val; omega)
    exact mix_at7 q k v (w 7) (s 7) n e
  · idx_vars x
    obtain rfl : n = x0 := Fin.ext (by omega)
    obtain ⟨rfl, rfl⟩ := head_eq (h := h) (k := 6) (e := e) (x := x1) (by show 64 * h.val + e.val = 64 * 6 + x1.val; omega)
    exact mix_at6 q k v (w 6) (s 6) n e
  · idx_vars x
    obtain rfl : n = x0 := Fin.ext (by omega)
    obtain ⟨rfl, rfl⟩ := head_eq (h := h) (k := 5) (e := e) (x := x1) (by show 64 * h.val + e.val = 64 * 5 + x1.val; omega)
    exact mix_at5 q k v (w 5) (s 5) n e
  · idx_vars x
    obtain rfl : n = x0 := Fin.ext (by omega)
    obtain ⟨rfl, rfl⟩ := head_eq (h := h) (k := 4) (e := e) (x := x1) (by show 64 * h.val + e.val = 64 * 4 + x1.val; omega)
    exact mix_at4 q k v (w 4) (s 4) n e
  · idx_vars x
    obtain rfl : n = x0 := Fin.ext (by omega)
    obtain ⟨rfl, rfl⟩ := head_eq (h := h) (k := 3) (e := e) (x := x1) (by show 64 * h.val + e.val = 64 * 3 + x1.val; omega)
    exact mix_at3 q k v (w 3) (s 3) n e
  · idx_vars x
    obtain rfl : n = x0 := Fin.ext (by omega)
    obtain ⟨rfl, rfl⟩ := head_eq (h := h) (k := 2) (e := e) (x := x1) (by show 64 * h.val + e.val = 64 * 2 + x1.val; omega)
    exact mix_at2 q k v (w 2) (s 2) n e
  · idx_vars x
    obtain rfl : n = x0 := Fin.ext (by omega)
    obtain ⟨rfl, rfl⟩ := head_eq (h := h) (k := 1) (e := e) (x := x1) (by show 64 * h.val + e.val = 64 * 1 + x1.val; omega)
    exact mix_at1 q k v (w 1) (s 1) n e
  · idx_vars x
    obtain rfl : n = x0 := Fin.ext (by omega)
    obtain ⟨rfl, rfl⟩ := head_eq (h := h) (k := 0) (e := e) (x := x1) (by show 64 * h.val + e.val = 64 * 0 + x1.val; omega)
    exact mix_at0 q k v (w 0) (s 0) n e

set_option maxHeartbeats 1000000 in
/-- The planes the eight heads store, read back. -/
theorem grow_canon (s : Fin 8 → Vec Ideal S1x64x64 .f32)
    (h : Fin 8) (d e : Fin 64) :
    View.canon (Val := Elt Ideal) (s := S8x64x64) (e := .f32)
      [⟨Rect.unit ![7, 0, 0] ![1, 64, 64] inb_S8x64x64_S1x64x64_7_0_0, k0_pay72 (k0_pay49 k v k0_pay22) (s 7)⟩,
      ⟨Rect.unit ![6, 0, 0] ![1, 64, 64] inb_S8x64x64_S1x64x64_6_0_0, k0_pay69 (k0_pay48 k v k0_pay22) (s 6)⟩,
      ⟨Rect.unit ![5, 0, 0] ![1, 64, 64] inb_S8x64x64_S1x64x64_5_0_0, k0_pay67 (k0_pay66 (k0_pay47 k v k0_pay22) (s 5))⟩,
      ⟨Rect.unit ![4, 0, 0] ![1, 64, 64] inb_S8x64x64_S1x64x64_4_0_0, k0_pay63 (k0_pay46 k v k0_pay22) (s 4)⟩,
      ⟨Rect.unit ![3, 0, 0] ![1, 64, 64] inb_S8x64x64_S1x64x64_3_0_0, k0_pay59 (k0_pay45 v (k0_pay44 k k0_pay22)) (s 3)⟩,
      ⟨Rect.unit ![2, 0, 0] ![1, 64, 64] inb_S8x64x64_S1x64x64_2_0_0, k0_pay57 (k0_pay43 k v k0_pay22) (s 2)⟩,
      ⟨Rect.unit ![1, 0, 0] ![1, 64, 64] inb_S8x64x64_S1x64x64_1_0_0, k0_pay54 (k0_pay42 k v k0_pay22) (s 1)⟩,
      ⟨Rect.unit ![0, 0, 0] ![1, 64, 64] inb_S8x64x64_S1x64x64_0_0_0, k0_pay50 (k0_pay41 k v k0_pay22) (s 0)⟩] (ix3 h d e)
      = grow k v (s h) h d e := by
  canon_tiles x hx
  · idx_vars x
    obtain rfl : x0 = 0 := Subsingleton.elim _ _
    obtain rfl : d = x1 := Fin.ext (by omega)
    obtain rfl : e = x2 := Fin.ext (by omega)
    obtain rfl : h = 7 := Fin.ext (by show h.val = 7; omega)
    exact grow_at7 k v (s 7) d e
  · idx_vars x
    obtain rfl : x0 = 0 := Subsingleton.elim _ _
    obtain rfl : d = x1 := Fin.ext (by omega)
    obtain rfl : e = x2 := Fin.ext (by omega)
    obtain rfl : h = 6 := Fin.ext (by show h.val = 6; omega)
    exact grow_at6 k v (s 6) d e
  · idx_vars x
    obtain rfl : x0 = 0 := Subsingleton.elim _ _
    obtain rfl : d = x1 := Fin.ext (by omega)
    obtain rfl : e = x2 := Fin.ext (by omega)
    obtain rfl : h = 5 := Fin.ext (by show h.val = 5; omega)
    exact grow_at5 k v (s 5) d e
  · idx_vars x
    obtain rfl : x0 = 0 := Subsingleton.elim _ _
    obtain rfl : d = x1 := Fin.ext (by omega)
    obtain rfl : e = x2 := Fin.ext (by omega)
    obtain rfl : h = 4 := Fin.ext (by show h.val = 4; omega)
    exact grow_at4 k v (s 4) d e
  · idx_vars x
    obtain rfl : x0 = 0 := Subsingleton.elim _ _
    obtain rfl : d = x1 := Fin.ext (by omega)
    obtain rfl : e = x2 := Fin.ext (by omega)
    obtain rfl : h = 3 := Fin.ext (by show h.val = 3; omega)
    exact grow_at3 k v (s 3) d e
  · idx_vars x
    obtain rfl : x0 = 0 := Subsingleton.elim _ _
    obtain rfl : d = x1 := Fin.ext (by omega)
    obtain rfl : e = x2 := Fin.ext (by omega)
    obtain rfl : h = 2 := Fin.ext (by show h.val = 2; omega)
    exact grow_at2 k v (s 2) d e
  · idx_vars x
    obtain rfl : x0 = 0 := Subsingleton.elim _ _
    obtain rfl : d = x1 := Fin.ext (by omega)
    obtain rfl : e = x2 := Fin.ext (by omega)
    obtain rfl : h = 1 := Fin.ext (by show h.val = 1; omega)
    exact grow_at1 k v (s 1) d e
  · idx_vars x
    obtain rfl : x0 = 0 := Subsingleton.elim _ _
    obtain rfl : d = x1 := Fin.ext (by omega)
    obtain rfl : e = x2 := Fin.ext (by omega)
    obtain rfl : h = 0 := Fin.ext (by show h.val = 0; omega)
    exact grow_at0 k v (s 0) d e

/-- Of stores over earlier ones the earlier are not seen where the later cover. -/
theorem canon_over {s : Shape} {e : EltTy} (L' : List (View.Piece (Elt Ideal) s e)) (y : s.Idx) :
    ∀ L : List (View.Piece (Elt Ideal) s e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      refine canon_over L' y L ?_
      obtain ⟨q, hq, hy⟩ := h
      rcases List.mem_cons.mp hq with rfl | hq
      · exact absurd hy hm
      · exact ⟨q, hq, hy⟩

variable (m : (ℓ : Loc nD τ sig) → Buf (Elt Ideal) ℓ)

/-- The rotated queries and keys and the values of a point's block. -/
def qs (x : Vec Ideal S1x256x2048 .bf16) (a b : Vec Ideal S1x256x128 .f32) : FVec Ideal S256x512 .f32 :=
  k0_pay18 a b (View.ld x (Rect.unit ![0, 0, 0] ![1, 256, 512] inb_S1x256x2048_S1x256x512_0_0_0))
def ks (x : Vec Ideal S1x256x2048 .bf16) (a b : Vec Ideal S1x256x128 .f32) : FVec Ideal S256x512 .f32 :=
  k0_pay19 a b (View.ld x (Rect.unit ![0, 0, 512] ![1, 256, 512] inb_S1x256x2048_S1x256x512_0_0_512))
def vs (x : Vec Ideal S1x256x2048 .bf16) : FVec Ideal S256x512 .bf16 :=
  k0_pay20 (View.ld x (Rect.unit ![0, 0, 1024] ![1, 256, 512] inb_S1x256x2048_S1x256x512_0_0_1024))
def gs (x : Vec Ideal S1x256x2048 .bf16) : FVec Ideal S256x512 .f32 :=
  k0_pay21 (View.ld x (Rect.unit ![0, 0, 1536] ![1, 256, 512] inb_S1x256x2048_S1x256x512_0_0_1536))

/-- A head's plane of an array of eight. -/
theorem plane_inb (h : Fin 8) (p q : ℕ) : ∀ a, (![h.val, 0, 0] : Fin 3 → ℕ) a + (![1, p, q] : Fin 3 → ℕ) a ≤ (![8, p, q] : Fin 3 → ℕ) a := by
  intro a; have := h.isLt
  fin_cases a
  · show h.val + 1 ≤ 8; omega
  · show 0 + p ≤ p; omega
  · show 0 + q ≤ q; omega
def sPlane (X : Vec Ideal S8x64x64 .f32) (h : Fin 8) : Vec Ideal S1x64x64 .f32 :=
  View.ld X (Rect.unit ![h.val, 0, 0] ![1, 64, 64] (plane_inb h 64 64))
def wPlane (X : Vec Ideal S8x256x256 .f32) (h : Fin 8) : Vec Ideal S1x256x256 .f32 :=
  View.ld X (Rect.unit ![h.val, 0, 0] ![1, 256, 256] (plane_inb h 256 256))
theorem sPlane_at (X : Vec Ideal S8x64x64 .f32) (h : Fin 8) (d e : Fin 64) : sPlane X h (ix3 0 d e) = X (ix3 h d e) := by
  unfold sPlane
  pointwise []
theorem wPlane_at (X : Vec Ideal S8x256x256 .f32) (h : Fin 8) (n j : Fin 256) : wPlane X h (ix3 0 n j) = X (ix3 h n j) := by
  unfold wPlane
  pointwise []

/-- The decay within the chunk, as the first point of a sequence leaves it and the others keep it. -/
theorem kept_start (c : Dev nD) (t : Fin cfg0.N) (h0 : t.val % 32 = 0) (h : Fin 8) (n j : Fin 256) :
    (outsAt0 m c t.val t.isLt).2.2 (ix3 h n j) = inner h n.val j.val := by
  rw [outsAt0_A m c t h0]
  frame_out [↓View.readCov_skip, ↓View.readCov_fill, ↓View.readCov_cons_toLoadRect]
  canon_tiles x hx
  · idx_vars x
    obtain rfl : x0 = 0 := Subsingleton.elim _ _
    obtain rfl : n = x1 := Fin.ext (by omega)
    obtain rfl : j = x2 := Fin.ext (by omega)
    obtain rfl : h = 7 := Fin.ext (by show h.val = 7; omega)
    exact inner_at7 n j
  · idx_vars x
    obtain rfl : x0 = 0 := Subsingleton.elim _ _
    obtain rfl : n = x1 := Fin.ext (by omega)
    obtain rfl : j = x2 := Fin.ext (by omega)
    obtain rfl : h = 6 := Fin.ext (by show h.val = 6; omega)
    exact inner_at6 n j
  · idx_vars x
    obtain rfl : x0 = 0 := Subsingleton.elim _ _
    obtain rfl : n = x1 := Fin.ext (by omega)
    obtain rfl : j = x2 := Fin.ext (by omega)
    obtain rfl : h = 5 := Fin.ext (by show h.val = 5; omega)
    exact inner_at5 n j
  · idx_vars x
    obtain rfl : x0 = 0 := Subsingleton.elim _ _
    obtain rfl : n = x1 := Fin.ext (by omega)
    obtain rfl : j = x2 := Fin.ext (by omega)
    obtain rfl : h = 4 := Fin.ext (by show h.val = 4; omega)
    exact inner_at4 n j
  · idx_vars x
    obtain rfl : x0 = 0 := Subsingleton.elim _ _
    obtain rfl : n = x1 := Fin.ext (by omega)
    obtain rfl : j = x2 := Fin.ext (by omega)
    obtain rfl : h = 3 := Fin.ext (by show h.val = 3; omega)
    exact inner_at3 n j
  · idx_vars x
    obtain rfl : x0 = 0 := Subsingleton.elim _ _
    obtain rfl : n = x1 := Fin.ext (by omega)
    obtain rfl : j = x2 := Fin.ext (by omega)
    obtain rfl : h = 2 := Fin.ext (by show h.val = 2; omega)
    exact inner_at2 n j
  · idx_vars x
    obtain rfl : x0 = 0 := Subsingleton.elim _ _
    obtain rfl : n = x1 := Fin.ext (by omega)
    obtain rfl : j = x2 := Fin.ext (by omega)
    obtain rfl : h = 1 := Fin.ext (by show h.val = 1; omega)
    exact inner_at1 n j
  · idx_vars x
    obtain rfl : x0 = 0 := Subsingleton.elim _ _
    obtain rfl : n = x1 := Fin.ext (by omega)
    obtain rfl : j = x2 := Fin.ext (by omega)
    obtain rfl : h = 0 := Fin.ext (by show h.val = 0; omega)
    exact inner_at0 n j

theorem kept_next (c : Dev nD) (t : Fin cfg0.N) (h0 : ¬ t.val % 32 = 0) (lt : t.val - 1 < cfg0.N) :
    (outsAt0 m c t.val t.isLt).2.2 = (outsAt0 m c (t.val - 1) lt).2.2 := by
  rw [outsAt0_B m c t h0]
  frame_out
  rfl

theorem kept (c : Dev nD) (h : Fin 8) (n j : Fin 256) :
    ∀ (i : ℕ) (hi : i < cfg0.N), (outsAt0 m c i hi).2.2 (ix3 h n j) = inner h n.val j.val
  | 0, hi => kept_start m c ⟨0, hi⟩ (by simp) h n j
  | i + 1, hi => by
    by_cases h0 : (i + 1) % 32 = 0
    · exact kept_start m c ⟨i + 1, hi⟩ h0 h n j
    · rw [kept_next m c ⟨i + 1, hi⟩ h0 (by show i + 1 - 1 < _; omega)]
      exact kept c h n j i _

/-- The planes a sequence's first point stores. -/
def innerP : Fin 8 → Vec Ideal S1x256x256 .f32 :=
  ![k0_pay4 (F := Ideal),
    k0_pay5 (F := Ideal),
    k0_pay8 (k0_pay6 (F := Ideal)) (k0_pay7 (F := Ideal)) (Named.named κ "log2" (φ := .f32) 0xBC0080AC#32),
    k0_pay9 (k0_pay3 (F := Ideal)),
    k0_pay10 (k0_pay3 (F := Ideal)),
    k0_pay13 (k0_pay11 (k0_pay3 (F := Ideal))) (k0_pay12 (k0_pay3 (F := Ideal))) (Named.named κ "log5" (φ := .f32) 0xBA801003#32),
    k0_pay14 (k0_pay3 (F := Ideal)),
    k0_pay15 (k0_pay3 (F := Ideal))]
theorem innerP_at (h : Fin 8) (n j : Fin 256) : innerP h (ix3 0 n j) = inner h n.val j.val := by
  match h with
  | 0 => exact inner_at0 n j
  | 1 => exact inner_at1 n j
  | 2 => exact inner_at2 n j
  | 3 => exact inner_at3 n j
  | 4 => exact inner_at4 n j
  | 5 => exact inner_at5 n j
  | 6 => exact inner_at6 n j
  | 7 => exact inner_at7 n j

theorem pay2_at (h : Fin 8) (d e : Fin 64) : (k0_pay2 (F := Ideal)) (ix3 h d e) = (0 : EReal) := by
  pointwise [k0_pay2]

/-- The state before a point. -/
def before (c : Dev nD) (t : Fin cfg0.N) (h : Fin 8) (d e : Fin 64) : EReal :=
  if t.val % 32 = 0 then 0 else (outsAt0 m c (t.val - 1) (by omega)).2.1 (ix3 h d e)

set_option maxHeartbeats 2000000 in
/-- The state after a point. -/
theorem left_at (c : Dev nD) (t : Fin cfg0.N) (h : Fin 8) (d e : Fin 64) :
    (outsAt0 m c t.val t.isLt).2.1 (ix3 h d e) = before m c t h d e * pw h
      + ∑ n : Fin 256, (ks (iblk m c 0 t) (iblk m c 1 t) (iblk m c 2 t) (ix2 n ⟨64 * h.val + d.val, by omega⟩) : EReal) * fall h n.val
          * (vs (iblk m c 0 t) (ix2 n ⟨64 * h.val + e.val, by omega⟩) : EReal) := by
  by_cases h0 : t.val % 32 = 0
  · have key : (outsAt0 m c t.val t.isLt).2.1 (ix3 h d e) = grow (ks (iblk m c 0 t) (iblk m c 1 t) (iblk m c 2 t)) (vs (iblk m c 0 t))
        (sPlane (k0_pay2 (F := Ideal)) h) h d e := by
      rw [outsAt0_A m c t h0]
      frame_out [↓View.readCov_skip, ↓View.readCov_fill, ↓View.readCov_cons_toLoadRect]
      refine (canon_over [_] (ix3 h d e) [_, _, _, _, _, _, _, _] ?_).trans (grow_canon (ks (iblk m c 0 t) (iblk m c 1 t) (iblk m c 2 t)) (vs (iblk m c 0 t))
        (sPlane (k0_pay2 (F := Ideal))) h d e)
      exact View.cover_of_tiled _ (![1, 64, 64] : Fin 3 → ℕ) (by rfl) _
    rw [key, grow, sPlane_at, before, if_pos h0]
    pointwise [k0_pay2]
  · have key : (outsAt0 m c t.val t.isLt).2.1 (ix3 h d e) = grow (ks (iblk m c 0 t) (iblk m c 1 t) (iblk m c 2 t)) (vs (iblk m c 0 t))
        (sPlane (outsAt0 m c (t.val - 1) (by omega)).2.1 h) h d e := by
      rw [outsAt0_B m c t h0]
      frame_out
      simp only [read_unread_whole]
      exact grow_canon (ks (iblk m c 0 t) (iblk m c 1 t) (iblk m c 2 t)) (vs (iblk m c 0 t))
        (sPlane (outsAt0 m c (t.val - 1) (by omega)).2.1) h d e
    rw [key, grow, sPlane_at, before, if_neg h0]

/-- The body's result of the columns before the norm. -/
def fin (O : Vec Ideal S256x512 .f32) (g : FVec Ideal S256x512 .f32) (x3 : Vec Ideal S1x512 .f32) (x4 : Vec Ideal S512x512 .bf16) :
    Vec Ideal S1x256x512 .bf16 :=
  k0_pay1 g (k0_pay74 x4) (k0_pay75 O x4) (k0_pay77 O x4) (k0_pay78 O x4) x3

/-- A row's columns before the norm. -/
def mixed (c : Dev nD) (t : Fin cfg0.N) (n : Fin 256) (h : Fin 8) (e : Fin 64) : EReal :=
  (∑ j : Fin 256, (∑ d : Fin 64, (qs (iblk m c 0 t) (iblk m c 1 t) (iblk m c 2 t) (ix2 n ⟨64 * h.val + d.val, by omega⟩) : EReal)
        * ks (iblk m c 0 t) (iblk m c 1 t) (iblk m c 2 t) (ix2 j ⟨64 * h.val + d.val, by omega⟩))
      * inner h n.val j.val * (vs (iblk m c 0 t) (ix2 j ⟨64 * h.val + e.val, by omega⟩) : EReal))
    + (∑ d : Fin 64, (qs (iblk m c 0 t) (iblk m c 1 t) (iblk m c 2 t) (ix2 n ⟨64 * h.val + d.val, by omega⟩) : EReal)
        * before m c t h d e) * rise h n.val

/-- The columns the heads stored, read whole. -/
theorem read_cols (L : List (View.Piece (Elt Ideal) S256x512 .f32)) :
    (View.whole cc0_scratch1).readCov L (Rect.unit (s := S256x512) ![0, 0] ![256, 512] inb_S256x512_S256x512_0_0).toLoadRect = View.canon L := by
  rw [View.readCov_eq_canon']
  funext y
  refine congrArg (View.canon L) ?_
  idx_vars y
  funext a
  fin_cases a
  · exact Fin.ext ((Rect.idx_unit_val ..).trans (Nat.zero_add _))
  · exact Fin.ext ((Rect.idx_unit_val ..).trans (Nat.zero_add _))

set_option maxHeartbeats 4000000 in
theorem out_at (c : Dev nD) (t : Fin cfg0.N) : ∃ O : Vec Ideal S256x512 .f32,
    (outsAt0 m c t.val t.isLt).1 = fin O (gs (iblk m c 0 t)) (iblk m c 3 t) (iblk m c 4 t)
    ∧ ∀ (n : Fin 256) (h : Fin 8) (e : Fin 64), O (ix2 n ⟨64 * h.val + e.val, by omega⟩) = mixed m c t n h e := by
  by_cases h0 : t.val % 32 = 0
  · apply Exists.intro
    apply And.intro
    · rw [outsAt0_A m c t h0]
      frame_out [↓View.readCov_skip, ↓View.readCov_fill, ↓View.readCov_cons_toLoadRect]
      exact rfl
    · intro n h e
      refine (congrFun (read_cols _) _).trans ((mix_canon (qs (iblk m c 0 t) (iblk m c 1 t) (iblk m c 2 t)) (ks (iblk m c 0 t) (iblk m c 1 t) (iblk m c 2 t)) (vs (iblk m c 0 t))
        innerP (sPlane (k0_pay2 (F := Ideal))) n h e).trans ?_)
      simp only [mix, innerP_at, sPlane_at, pay2_at, mixed, before, if_pos h0]
  · apply Exists.intro
    apply And.intro
    · rw [outsAt0_B m c t h0]
      frame_out
      simp only [read_unread_whole]
      exact rfl
    · intro n h e
      refine (congrFun (read_cols _) _).trans ((mix_canon (qs (iblk m c 0 t) (iblk m c 1 t) (iblk m c 2 t)) (ks (iblk m c 0 t) (iblk m c 1 t) (iblk m c 2 t)) (vs (iblk m c 0 t))
        (wPlane (outsAt0 m c (t.val - 1) (by omega)).2.2) (sPlane (outsAt0 m c (t.val - 1) (by omega)).2.1) n h e).trans ?_)
      simp only [mix, wPlane_at, sPlane_at, kept, mixed, before, if_neg h0]

end Cert.Ret
-- ==== Proof.RetHost.lean ====
module

public import proofs.«01_k».proof.Proof.Gen.Kernel11Ideal.Value
public import proofs.«01_k».proof.Proof.Common
public import proofs.«01_k».proof.Defs

@[expose] public section

set_option maxRecDepth 16384

noncomputable section

/-! The retention's arguments as the host lays them out, and their blocks at a grid point. -/

namespace Cert.RetHost

open Cert.Kernel11Ideal Cert.Kernel11Ideal.Gen Idealize.ShloMosaic Idealize.ShloMosaic.TcCoe Idealize.SL.Sem

variable (m : (ℓ : Loc nD τ sig) → Buf (Elt Ideal) ℓ)

/-- Which block each window reads at a grid point. -/
theorem idx : ∀ t : Fin cfg0.N, win0_0.index t = ![t.val / 32, t.val % 32, 0] ∧ win0_1.index t = ![t.val / 32, t.val % 32, 0]
    ∧ win0_2.index t = ![t.val / 32, t.val % 32, 0] ∧ win0_3.index t = ![0, 0] ∧ win0_4.index t = ![0, 0]
    ∧ win0_5.index t = ![t.val / 32, t.val % 32, 0] :=
  (by decide +kernel : ∀ t : Fin grid0.N, _)

/-- The arrays as the kernel takes them. -/
def cols (c : Dev nD) : Vec Ideal S4x8192x2048 .bf16 := V m c main_v23
def cosT (c : Dev nD) : Vec Ideal S4x8192x128 .f32 := V m c main_v25
def sinT (c : Dev nD) : Vec Ideal S4x8192x128 .f32 := V m c main_v27
def gain (c : Dev nD) : Vec Ideal S1x512 .f32 := V m c main_v28
def bones (c : Dev nD) : Vec Ideal S512x512 .bf16 := V m c main_v38

/-- Two entries of one row at the same column are the same. -/
theorem entry {n : ℕ} (w : Vec Ideal (⟨3, ![4, 8192, n]⟩ : Shape) .f32) (b : Fin 4) (s : Fin 8192) (i j : Fin n) (h : i.val = j.val) :
    w (ix3 b s i) = w (ix3 b s j) := by
  rw [Fin.ext h]

/-- The columns: every head of the queries and keys is its 32 columns followed by their rotation by a quarter turn, the
second half negated and then the first half; the other columns stay as they are. -/
def column (w : Vec Ideal S4x8192x1536 .f32) (b : Fin 4) (s : Fin 8192) (k : Fin 2048) : EReal :=
  if h : k.val < 512 then
    if h1 : k.val % 64 < 32 then w (ix3 b s ⟨k.val / 64 * 32 + k.val % 64, by omega⟩)
    else if h2 : k.val % 64 - 32 < 16 then -w (ix3 b s ⟨k.val / 64 * 32 + (16 + (k.val % 64 - 32)), by omega⟩)
    else w (ix3 b s ⟨k.val / 64 * 32 + (k.val % 64 - 32 - 16), by omega⟩)
  else if h : k.val - 512 < 512 then
    if h1 : (k.val - 512) % 64 < 32 then
      w (ix3 b s ⟨256 + ((k.val - 512) / 64 * 32 + (k.val - 512) % 64), by omega⟩)
    else if h2 : (k.val - 512) % 64 - 32 < 16 then
      -w (ix3 b s ⟨256 + ((k.val - 512) / 64 * 32 + (16 + ((k.val - 512) % 64 - 32))), by omega⟩)
    else w (ix3 b s ⟨256 + ((k.val - 512) / 64 * 32 + ((k.val - 512) % 64 - 32 - 16)), by omega⟩)
  else w (ix3 b s ⟨512 + (k.val - 512 - 512), by omega⟩)

set_option maxHeartbeats 4000000 in
theorem cols_at (c : Dev nD) (b : Fin 4) (s : Fin 8192) (k : Fin 2048) :
    cols m c (ix3 b s k) = column (m ((c.tc : Thread nD τ).loc main_arg0)) b s k := by
  unfold cols
  simp only [V, hostOps0, hostOps0_1, hostOps0_2, hostOps0_3, hostOps0_4, List.flatten_cons, List.flatten_nil, List.append_nil, List.cons_append, List.nil_append]
  after_results
  simp only [StableHlo.TRef.ofBuf, StableHlo.TRef.toBuf, StableHlo.TRef.of, cast_eq]
  pointwise
  after_results_simp
  pointwise
  after_results_simp
  pointwise
  after_results_simp
  pointwise
  unfold column
  split_ifs <;> first | omega | rfl | exact entry _ _ _ _ _ (by dsimp only <;> omega)

/-- A table: twice the sixteen angles twice and then zeros. -/
def table (w : Vec Ideal S4x8192x16 .f32) (b : Fin 4) (s : Fin 8192) (k : Fin 128) : EReal :=
  if h : k.val % 64 < 32 then w (ix3 b s ⟨k.val % 16, by omega⟩) else 0

set_option maxHeartbeats 4000000 in
theorem cos_at (c : Dev nD) (b : Fin 4) (s : Fin 8192) (k : Fin 128) :
    cosT m c (ix3 b s k) = table (m ((c.tc : Thread nD τ).loc main_arg1)) b s k := by
  unfold cosT
  simp only [V, hostOps0, hostOps0_1, hostOps0_2, hostOps0_3, hostOps0_4, List.flatten_cons, List.flatten_nil, List.append_nil, List.cons_append, List.nil_append]
  after_results
  simp only [StableHlo.TRef.ofBuf, StableHlo.TRef.toBuf, StableHlo.TRef.of, cast_eq]
  pointwise
  after_results_simp
  pointwise
  unfold table
  split_ifs <;> first | omega | rfl | (rw [dif_pos (by omega)]; exact entry _ _ _ _ _ (by dsimp only <;> omega)) | exact (dif_neg (by omega)).symm

set_option maxHeartbeats 4000000 in
theorem sin_at (c : Dev nD) (b : Fin 4) (s : Fin 8192) (k : Fin 128) :
    sinT m c (ix3 b s k) = table (m ((c.tc : Thread nD τ).loc main_arg2)) b s k := by
  unfold sinT
  simp only [V, hostOps0, hostOps0_1, hostOps0_2, hostOps0_3, hostOps0_4, List.flatten_cons, List.flatten_nil, List.append_nil, List.cons_append, List.nil_append]
  after_results
  simp only [StableHlo.TRef.ofBuf, StableHlo.TRef.toBuf, StableHlo.TRef.of, cast_eq]
  pointwise
  after_results_simp
  pointwise
  unfold table
  split_ifs <;> first | omega | rfl | (rw [dif_pos (by omega)]; exact entry _ _ _ _ _ (by dsimp only <;> omega)) | exact (dif_neg (by omega)).symm

theorem gain_at (c : Dev nD) (k : Fin 512) : gain m c (ix2 0 k) = m ((c.tc : Thread nD τ).loc main_arg3) (ix1 k) := by
  unfold gain
  simp only [V, hostOps0, hostOps0_1, hostOps0_2, hostOps0_3, hostOps0_4, List.flatten_cons, List.flatten_nil, List.append_nil, List.cons_append, List.nil_append]
  after_results
  pointwise

/-- The host's division by 64, rounded down. -/
theorem floor_div : ∀ k : Fin 512, Scalar.select
    (IntOp.andi
      (IntOp.cmpi CmpIPredicate.ne
        (if BitVec.ofNat 32 k.val = 0 then (0 : BitVec 32) else if (BitVec.ofNat 32 k.val).msb = true then -1 else 1)
        (if 64#32 = 0 then (0 : BitVec 32) else if (64#32).msb = true then -1 else 1))
      (IntOp.cmpi CmpIPredicate.ne (IntOp.remsi ArithUnit.host (BitVec.ofNat 32 k.val) 64#32) 0#32))
    (IntOp.subi (IntOp.divsi ArithUnit.host (BitVec.ofNat 32 k.val) 64#32) 1#32)
    (IntOp.divsi ArithUnit.host (BitVec.ofNat 32 k.val) 64#32) = BitVec.ofNat 32 (k.val / 64) := by
  decide +kernel

set_option maxHeartbeats 4000000 in
theorem bones_at (c : Dev nD) (k l : Fin 512) : bones m c (ix2 k l) = if k.val / 64 = l.val / 64 then (1 : EReal) else 0 := by
  unfold bones
  simp only [V, hostOps0, hostOps0_1, hostOps0_2, hostOps0_3, hostOps0_4, List.flatten_cons, List.flatten_nil, List.append_nil, List.cons_append, List.nil_append]
  after_results
  pointwise
  simp only [StableHlo.TRef.ofBuf, StableHlo.TRef.toBuf, StableHlo.TRef.of, cast_eq, id]
  pointwise
  refine (congrArg₂ (fun a b : BitVec 32 => (FloatOps.uitofp .bf16 (IntOp.cmpi .eq a b) : Ideal .bf16)) (floor_div k) (floor_div l)).trans ?_
  by_cases h : k.val / 64 = l.val / 64
  · rw [if_pos h, h]
    simp [IntOp.cmpi, FloatOps.uitofp]
  · rw [if_neg h]
    have hb : ¬ BitVec.ofNat 32 (k.val / 64) = BitVec.ofNat 32 (l.val / 64) := fun hb => h (by
      have := congrArg BitVec.toNat hb
      simp only [BitVec.toNat_ofNat] at this
      omega)
    simp [IntOp.cmpi, FloatOps.uitofp, hb]

/-- The row of the arrays that row `n` of a point's block is, and its sequence. -/
def row (t : Fin cfg0.N) (n : Fin 256) : Fin 8192 := ⟨256 * (t.val % 32) + n.val, by omega⟩
def seq (t : Fin cfg0.N) : Fin 4 := ⟨t.val / 32, by have := t.isLt; have : cfg0.N = 128 := N_0; omega⟩

theorem blk0 (c : Dev nD) (t : Fin cfg0.N) (n : Fin 256) (k : Fin 2048) :
    iblk m c 0 t (ix3 0 n k) = column (m ((c.tc : Thread nD τ).loc main_arg0)) (seq t) (row t n) k := by
  rw [← cols_at m c]
  unfold seq row cols
  blk_ext [iblk, idx t]
theorem blk1 (c : Dev nD) (t : Fin cfg0.N) (n : Fin 256) (k : Fin 128) :
    iblk m c 1 t (ix3 0 n k) = table (m ((c.tc : Thread nD τ).loc main_arg1)) (seq t) (row t n) k := by
  rw [← cos_at m c]
  unfold seq row cosT
  blk_ext [iblk, idx t]
theorem blk2 (c : Dev nD) (t : Fin cfg0.N) (n : Fin 256) (k : Fin 128) :
    iblk m c 2 t (ix3 0 n k) = table (m ((c.tc : Thread nD τ).loc main_arg2)) (seq t) (row t n) k := by
  rw [← sin_at m c]
  unfold seq row sinT
  blk_ext [iblk, idx t]
theorem blk3 (c : Dev nD) (t : Fin cfg0.N) (k : Fin 512) :
    iblk m c 3 t (ix2 0 k) = m ((c.tc : Thread nD τ).loc main_arg3) (ix1 k) := by
  rw [← gain_at m c]
  unfold gain
  blk_ext [iblk, idx t]
theorem blk4 (c : Dev nD) (t : Fin cfg0.N) (k l : Fin 512) :
    iblk m c 4 t (ix2 k l) = if k.val / 64 = l.val / 64 then (1 : EReal) else 0 := by
  rw [← bones_at m c]
  unfold bones
  blk_ext [iblk, idx t]

end Cert.RetHost

end
-- ==== Proof.RetSum.lean ====
module

public import proofs.«01_k».proof.Proof.Common
public import Mathlib.Analysis.SpecialFunctions.Log.Basic
public import Mathlib.Tactic.Ring

@[expose] public section

noncomputable section

/-! The retention chunk by chunk, over the reals: the state carried into a chunk is the sum over the rows before it of their
    keys' and values' products, each decayed up to the chunk; a row's result, which the chunk's own rows and that state
    give, is the sum over all rows up to it. -/

namespace Cert.RetSum

open Finset

variable (L : ℝ)

/-- The state before a chunk. -/
def carry (k v : ℕ → ℝ) (c : ℕ) : ℝ :=
  ∑ j ∈ range (256 * c), k j * Real.exp ((256 * (c : ℝ) - 1 - (j : ℝ)) * L) * v j

theorem carry_zero (k v : ℕ → ℝ) : carry L k v 0 = 0 := by simp [carry]

/-- A chunk's rows join the state. -/
theorem carry_succ (k v : ℕ → ℝ) (c : ℕ) :
    carry L k v (c + 1) = carry L k v c * Real.exp (256 * L)
      + ∑ n ∈ range 256, k (256 * c + n) * Real.exp ((255 - (n : ℝ)) * L) * v (256 * c + n) := by
  unfold carry
  rw [Nat.mul_add, Nat.mul_one, sum_range_add, sum_mul]
  congr 1
  · refine sum_congr rfl fun j _ => ?_
    rw [show (256 * ((c + 1 : ℕ) : ℝ) - 1 - (j : ℝ)) * L = (256 * (c : ℝ) - 1 - (j : ℝ)) * L + 256 * L by push_cast; ring,
      Real.exp_add]
    ring
  · refine sum_congr rfl fun n _ => ?_
    rw [show (256 * ((c + 1 : ℕ) : ℝ) - 1 - ((256 * c + n : ℕ) : ℝ)) = 255 - (n : ℝ) by push_cast; ring]

/-- A row's result. -/
theorem row_sum (q : Fin 32 → ℝ) (k : ℕ → Fin 32 → ℝ) (v : ℕ → ℝ) {c n : ℕ} (hc : c < 32) (hn : n < 256) :
    ∑ j ∈ range 256, (∑ d, q d * k (256 * c + j) d) * (if j ≤ n then Real.exp (((n : ℝ) - (j : ℝ)) * L) else 0) * v (256 * c + j)
      + (∑ d, q d * carry L (fun j => k j d) v c) * Real.exp (((n : ℝ) + 1) * L)
    = ∑ j ∈ range 8192, (∑ d, q d * k j d)
        * (if j ≤ 256 * c + n then Real.exp ((((256 * c + n : ℕ) : ℝ) - (j : ℝ)) * L) else 0) * v j := by
  have h : 8192 = 256 * c + 256 + (8192 - (256 * c + 256)) := by omega
  have hsplit : ∀ f : ℕ → ℝ, (∀ j, 256 * c + n < j → f j = 0) →
      ∑ j ∈ range 8192, f j = ∑ j ∈ range (256 * c), f j + ∑ j ∈ range 256, f (256 * c + j) := by
    intro f hf
    rw [h, sum_range_add, sum_range_add, sum_eq_zero (s := range (8192 - (256 * c + 256))), add_zero]
    intro j _
    exact hf _ (by omega)
  rw [hsplit _ (fun j hj => by rw [if_neg (by omega)]; ring), add_comm]
  congr 1
  · simp only [carry, mul_sum, sum_mul]
    rw [sum_comm]
    refine sum_congr rfl fun j hj => sum_congr rfl fun d _ => ?_
    rw [if_pos (by have := mem_range.mp hj; omega),
      show (((256 * c + n : ℕ) : ℝ) - (j : ℝ)) * L = (256 * (c : ℝ) - 1 - (j : ℝ)) * L + ((n : ℝ) + 1) * L by push_cast; ring,
      Real.exp_add]
    ring
  · refine sum_congr rfl fun j _ => ?_
    by_cases hj : j ≤ n
    · rw [if_pos hj, if_pos (by omega), show (((256 * c + n : ℕ) : ℝ) - ((256 * c + j : ℕ) : ℝ)) = (n : ℝ) - (j : ℝ) by push_cast; ring]
    · rw [if_neg hj, if_neg (by omega)]

end Cert.RetSum

end
-- ==== Proof.RetReal.lean ====
module

public import proofs.«01_k».proof.Proof.Ret
public import proofs.«01_k».proof.Proof.RetHost
public import proofs.«01_k».proof.Proof.RetSum

@[expose] public section

set_option maxRecDepth 16384

noncomputable section

/-! The retention over finite arrays: every product and sum before the norm is a real number's. -/

namespace Cert.RetReal

open Idealize.ShloMosaic Idealize.ShloMosaic.TcCoe Idealize.SL.Sem Cert.Ret

/-- A sum of real numbers. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A head's decay from one row to the next. -/
def rate : Fin 8 → ℝ := ![31 / 32, 63 / 64, 127 / 128, 255 / 256, 511 / 512, 1023 / 1024, 2047 / 2048, 4095 / 4096]
def L (h : Fin 8) : ℝ := Real.log (rate h)

theorem rate_pos (h : Fin 8) : 0 < rate h := by
  fin_cases h <;> simp [rate] <;> norm_num

/-- The kernel's constants are the logarithms and the powers. -/
theorem lg_at (h : Fin 8) : lg h = ((L h : ℝ) : EReal) := by
  fin_cases h <;> exact IdealRules.named_const.ideal_named_scalar _ _ _ _ rfl

theorem power (r : ℝ) (hr : 0 < r) : Real.exp (256 * Real.log r) = r ^ 256 := by
  rw [mul_comm, ← Real.rpow_def_of_pos hr]
  exact_mod_cast Real.rpow_natCast r 256

theorem pw_at (h : Fin 8) : pw h = ((Real.exp (256 * L h) : ℝ) : EReal) := by
  rw [L, power _ (rate_pos h)]
  fin_cases h <;> refine (IdealRules.named_const.ideal_named_scalar _ _ _ _ rfl).trans (congrArg _ ?_) <;>
    simp only [rate, Fin.mk_zero, Fin.mk_one, Fin.reduceFinMk, Matrix.cons_val] <;> norm_num

theorem nat_at (n : ℕ) (hn : n < 8192) : (FloatOps.sitofp .f32 (BitVec.ofNat 32 n) : Ideal .f32) = ((n : ℝ) : EReal) := by
  have e : (BitVec.ofNat 32 n).toInt = (n : ℤ) := by
    rw [BitVec.toInt_eq_toNat_of_lt (by simp only [BitVec.toNat_ofNat]; omega), BitVec.toNat_ofNat, Nat.mod_eq_of_lt (by omega)]
  simp [FloatOps.sitofp, e]

theorem dist_at (n j : ℕ) (hn : n < 256) (hj : j < 256) : Ret.dist n j = (((n : ℝ) - (j : ℝ) : ℝ) : EReal) := by
  have e : (IntOp.subi (BitVec.ofNat 32 n) (BitVec.ofNat 32 j)).toInt = (n : ℤ) - (j : ℤ) := by
    unfold IntOp.subi
    rw [BitVec.toInt_sub, BitVec.toInt_eq_toNat_of_lt (by simp only [BitVec.toNat_ofNat]; omega),
      BitVec.toInt_eq_toNat_of_lt (by simp only [BitVec.toNat_ofNat]; omega), BitVec.toNat_ofNat, BitVec.toNat_ofNat,
      Nat.mod_eq_of_lt (by omega), Nat.mod_eq_of_lt (by omega)]
    rw [Int.bmod_eq_of_le (by omega) (by omega)]
  unfold Ret.dist
  simp [FloatOps.sitofp, e]

/-- The decay over a difference of rows. -/
def decay (l : ℝ) (n j : ℕ) : ℝ := if j ≤ n then Real.exp (((n : ℝ) - (j : ℝ)) * l) else 0

theorem decay_at (l : ℝ) (n j : ℕ) :
    (if (0 : EReal) ≤ (((n : ℝ) - (j : ℝ) : ℝ) : EReal) then Ideal.exp (max (((n : ℝ) - (j : ℝ) : ℝ) : EReal) 0 * ((l : ℝ) : EReal)) else 0)
      = ((decay l n j : ℝ) : EReal) := by
  unfold decay
  by_cases h : j ≤ n
  · have h' : (0 : ℝ) ≤ (n : ℝ) - (j : ℝ) := sub_nonneg.mpr (Nat.cast_le.mpr h)
    have h'' : (0 : EReal) ≤ (((n : ℝ) - (j : ℝ) : ℝ) : EReal) := EReal.coe_nonneg.mpr h'
    rw [if_pos h'', if_pos h, max_eq_left h'', ← EReal.coe_mul, Ideal.exp_coe]
  · have h' : ¬ (0 : ℝ) ≤ (n : ℝ) - (j : ℝ) := fun q => h (Nat.cast_le.mp (sub_nonneg.mp q))
    rw [if_neg (fun q => h' (EReal.coe_nonneg.mp q)), if_neg h, EReal.coe_zero]

theorem inner_at (h : Fin 8) (n j : ℕ) (hn : n < 256) (hj : j < 256) : Ret.inner h n j = ((decay (L h) n j : ℝ) : EReal) := by
  unfold Ret.inner
  rw [dist_at n j hn hj, lg_at]
  exact decay_at _ n j

theorem rise_at (h : Fin 8) (n : ℕ) (hn : n < 256) : rise h n = ((Real.exp (((n : ℝ) + 1) * L h) : ℝ) : EReal) := by
  unfold rise pos
  rw [nat_at n (by omega), lg_at, ← EReal.coe_one, ← EReal.coe_add, ← EReal.coe_mul, Ideal.exp_coe]

theorem lit_255 : Ideal.ofBits .f32 0x437F0000#32 = ((255 : ℝ) : EReal) := by
  simp [Ideal.ofBits, Ideal.ieee, -EReal.coe_mul]; norm_num

theorem fall_at (h : Fin 8) (n : ℕ) (hn : n < 256) : fall h n = ((Real.exp ((255 - (n : ℝ)) * L h) : ℝ) : EReal) := by
  unfold fall pos
  rw [nat_at n (by omega), lg_at, lit_255, ← EReal.coe_sub, ← EReal.coe_mul, Ideal.exp_coe]

/-- The scale of the keys. -/
def sc : ℝ := (Ideal.ofBits .f32 0x3E3504F3#32 : EReal).toReal
theorem sc_at : Ideal.ofBits .f32 0x3E3504F3#32 = ((sc : ℝ) : EReal) := by
  refine (EReal.coe_toReal ?_ ?_).symm <;> simp [Ideal.ofBits, Ideal.ieee, -EReal.coe_mul]

/-- The argument arrays. -/
structure Args where
  x : Vec Ideal (⟨3, ![4, 8192, 1536]⟩ : Shape) .f32
  cos : Vec Ideal (⟨3, ![4, 8192, 16]⟩ : Shape) .f32
  sin : Vec Ideal (⟨3, ![4, 8192, 16]⟩ : Shape) .f32

variable (A : Args)

/-- The arrays' real numbers. -/
def Args.X (b : Fin 4) (s : Fin 8192) (k : Fin 1536) : ℝ := (A.x (ix3 b s k) : EReal).toReal
def Args.C (b : Fin 4) (s : Fin 8192) (k : Fin 16) : ℝ := (A.cos (ix3 b s k) : EReal).toReal
def Args.S (b : Fin 4) (s : Fin 8192) (k : Fin 16) : ℝ := (A.sin (ix3 b s k) : EReal).toReal

/-- What the result before the norm reads is finite. -/
structure Args.Fin : Prop where
  x : ∀ b s (k : _root_.Fin 1536), k.val < 1024 → A.x (ix3 b s k) = ((A.X b s k : ℝ) : EReal)
  c : ∀ b s k, A.cos (ix3 b s k) = ((A.C b s k : ℝ) : EReal)
  s : ∀ b s k, A.sin (ix3 b s k) = ((A.S b s k : ℝ) : EReal)

/-- A head's 32 columns rotated. -/
def turn (off : ℕ) (ho : off ≤ 256) (b : Fin 4) (s : Fin 8192) (h : Fin 8) (d : Fin 32) : ℝ :=
  if hd : d.val < 16 then
    A.X b s ⟨off + (32 * h.val + d.val), by omega⟩ * A.C b s ⟨d.val, hd⟩
      - A.X b s ⟨off + (32 * h.val + (16 + d.val)), by omega⟩ * A.S b s ⟨d.val, hd⟩
  else
    A.X b s ⟨off + (32 * h.val + d.val), by omega⟩ * A.C b s ⟨d.val - 16, by omega⟩
      + A.X b s ⟨off + (32 * h.val + (d.val - 16)), by omega⟩ * A.S b s ⟨d.val - 16, by omega⟩

def qry (b : Fin 4) (s : Fin 8192) (h : Fin 8) (d : Fin 32) : ℝ := turn A 0 (by omega) b s h d
def key (b : Fin 4) (h : Fin 8) (j : ℕ) (d : Fin 32) : ℝ :=
  if hj : j < 8192 then turn A 256 (by omega) b ⟨j, hj⟩ h d * sc else 0
def val (b : Fin 4) (h : Fin 8) (e : Fin 64) (j : ℕ) : ℝ :=
  if hj : j < 8192 then A.X b ⟨j, hj⟩ ⟨512 + (64 * h.val + e.val), by omega⟩ else 0

/-- One entry of the result before the norm. -/
def out (b : Fin 4) (s : Fin 8192) (h : Fin 8) (e : Fin 64) : ℝ :=
  ∑ j ∈ Finset.range 8192, (∑ d, qry A b s h d * key A b h j d) * decay (L h) s.val j * val A b h e j

/-- The sum over the 64 columns of a column's head. -/
def over (o : Fin 512 → ℝ) (k : Fin 512) : ℝ := ∑ e : Fin 64, o ⟨64 * (k.val / 64) + e.val, by omega⟩

/-- The sum over a column's head, as a product with the table of heads. -/
theorem over_at (w : Fin 512 → EReal) (o : Fin 512 → ℝ) (k : Fin 512)
    (hw : ∀ x, w x = if x.val / 64 = k.val / 64 then (1 : EReal) else 0) :
    ∑ x, (o x : EReal) * w x = ((over o k : ℝ) : EReal) := by
  have e1 : ∀ x : Fin 512, (o x : EReal) * w x = (((if x.val / 64 = k.val / 64 then o x else 0 : ℝ)) : EReal) := by
    intro x
    rw [hw]
    split_ifs <;> simp
  simp only [e1, coe_sum]
  refine congrArg _ ?_
  unfold over
  rw [← (finProdFinEquiv (m := 8) (n := 64)).sum_comp, Fintype.sum_prod_type,
    Finset.sum_eq_single (⟨k.val / 64, by omega⟩ : Fin 8)]
  · refine Finset.sum_congr rfl fun e _ => ?_
    have hv : (finProdFinEquiv ((⟨k.val / 64, by omega⟩ : Fin 8), e)).val = e.val + 64 * (k.val / 64) := rfl
    rw [if_pos (by rw [hv]; omega)]
    exact congrArg o (Fin.ext (by rw [hv]; exact Nat.add_comm _ _))
  · intro h' _ hne
    refine Finset.sum_eq_zero fun e _ => ?_
    have hv : (finProdFinEquiv (h', e)).val = e.val + 64 * h'.val := rfl
    rw [if_neg (by rw [hv]; intro q; exact hne (Fin.ext (by dsimp only; omega)))]
  · intro h; exact absurd (Finset.mem_univ _) h

/-- The norm: a row's columns less their head's mean, over the head's standard deviation, scaled, and gated. -/
def off (o : Fin 512 → ℝ) (k : Fin 512) : ℝ := o k - over o k * (1 / 64)
def normed (o : Fin 512 → ℝ) (g a : EReal) (k : Fin 512) : EReal :=
  g * Ideal.logistic g * (((off o k : ℝ) : EReal)
    * Ideal.rsqrt (((over (fun x => off o x * off o x) k * (1 / 64) : ℝ) : EReal) + Ideal.ofBits .f32 0x358637BD#32) * a)

/-- The result: of the arrays and the scale. -/
def result (a3 : Vec Ideal (⟨1, ![512]⟩ : Shape) .f32) (b : Fin 4) (s : Fin 8192) (k : Fin 512) : EReal :=
  normed (fun x => out A b s ⟨x.val / 64, by omega⟩ ⟨x.val % 64, by omega⟩)
    (A.x (ix3 b s ⟨1024 + k.val, by omega⟩)) (a3 (ix1 k)) k

end Cert.RetReal

end
-- ==== Proof.RetKernel.lean ====
module

public import proofs.«01_k».proof.Proof.RetReal

@[expose] public section

set_option maxRecDepth 16384

noncomputable section

/-! What the retention's kernel computes over finite arrays: its chunks' states are the sums over the rows before them, and
    its result is the sum over all rows up to the row, normed. -/

namespace Cert.RetKernel

open Cert.Kernel11Ideal Cert.Kernel11Ideal.Gen Idealize.ShloMosaic Idealize.ShloMosaic.TcCoe Idealize.SL.Sem
open Cert.Ret Cert.RetReal Cert.RetHost

variable (m : (ℓ : Loc nD τ sig) → Buf (Elt Ideal) ℓ)

/-- A device's argument arrays. -/
def args (c : Dev nD) : Args where
  x := m ((c.tc : Thread nD τ).loc main_arg0)
  cos := m ((c.tc : Thread nD τ).loc main_arg1)
  sin := m ((c.tc : Thread nD τ).loc main_arg2)

/-- A column of an array of 256 rows by its column's number. -/
theorem at_col {n : ℕ} {e : FTy} (w : FVec Ideal (⟨3, ![1, 256, n]⟩ : Shape) e) (r : Fin 256) (i j : Fin n) (h : i.val = j.val) :
    w (ix3 0 r i) = w (ix3 0 r j) := by
  rw [Fin.ext h]

theorem qs_at (x : Vec Ideal S1x256x2048 .bf16) (a b : Vec Ideal S1x256x128 .f32) (n : Fin 256) (k : Fin 512) :
    qs x a b (ix2 n k) = (x (ix3 0 n ⟨k.val, by omega⟩) : EReal) * a (ix3 0 n ⟨k.val % 128, by omega⟩)
      + (x (ix3 0 n ⟨(k.val + 32) % 512, by omega⟩) : EReal) * b (ix3 0 n ⟨k.val % 128, by omega⟩) := by
  unfold qs
  pointwise [k0_pay16, k0_pay17, k0_pay18]
  rw [at_col x n ⟨(k.val + 512 - 480) % 512, _⟩ ⟨(k.val + 32) % 512, by omega⟩ (by dsimp only; omega)]
  split_ifs <;>
    exact congrArg₂ (fun p q : EReal => _ * p + _ * q) (at_col (e := .f32) a n _ _ (by dsimp only; omega)) (at_col (e := .f32) b n _ _ (by dsimp only; omega))

theorem ks_at (x : Vec Ideal S1x256x2048 .bf16) (a b : Vec Ideal S1x256x128 .f32) (n : Fin 256) (k : Fin 512) :
    ks x a b (ix2 n k) = ((x (ix3 0 n ⟨512 + k.val, by omega⟩) : EReal) * a (ix3 0 n ⟨k.val % 128, by omega⟩)
      + (x (ix3 0 n ⟨512 + (k.val + 32) % 512, by omega⟩) : EReal) * b (ix3 0 n ⟨k.val % 128, by omega⟩)) * ((sc : ℝ) : EReal) := by
  rw [← sc_at]
  unfold ks
  pointwise [k0_pay16, k0_pay17, k0_pay19]
  rw [at_col x n ⟨512 + (k.val + 512 - 480) % 512, _⟩ ⟨512 + (k.val + 32) % 512, by omega⟩ (by dsimp only; omega)]
  split_ifs <;>
    exact congrArg₂ (fun p q : EReal => (_ * p + _ * q) * _) (at_col (e := .f32) a n _ _ (by dsimp only; omega)) (at_col (e := .f32) b n _ _ (by dsimp only; omega))

theorem vs_at (x : Vec Ideal S1x256x2048 .bf16) (n : Fin 256) (k : Fin 512) :
    vs x (ix2 n k) = x (ix3 0 n ⟨1024 + k.val, by omega⟩) := by
  unfold vs
  pointwise [k0_pay20]
theorem gs_at (x : Vec Ideal S1x256x2048 .bf16) (n : Fin 256) (k : Fin 512) :
    gs x (ix2 n k) = x (ix3 0 n ⟨1536 + k.val, by omega⟩) := by
  unfold gs
  pointwise [k0_pay21]

/-- The columns and tables at one head's lane. -/
theorem rotated (A : Args) (f : A.Fin) (base : ℕ) (ho : base ≤ 256) (k0 k1 : Fin 2048) (c0 : Fin 128) (b : Fin 4) (s : Fin 8192) (h : Fin 8) (d : Fin 64)
    (hd : d.val < 32)
    (h0 : column A.x b s k0 = A.x (ix3 b s ⟨base + (32 * h.val + d.val), by omega⟩))
    (h1 : column A.x b s k1 = if d.val < 16 then -(A.x (ix3 b s ⟨base + (32 * h.val + (16 + d.val % 16)), by omega⟩) : EReal)
      else A.x (ix3 b s ⟨base + (32 * h.val + (d.val - 16)), by omega⟩))
    (hc : c0.val % 64 = d.val) :
    column A.x b s k0 * table A.cos b s c0 + column A.x b s k1 * table A.sin b s c0 = ((turn A base ho b s h ⟨d.val, hd⟩ : ℝ) : EReal) := by
  have t0 : ∀ w : Vec Ideal S4x8192x16 .f32, table w b s c0 = w (ix3 b s ⟨d.val % 16, by omega⟩) := by
    intro w
    unfold table
    rw [dif_pos (by omega)]
    exact entry _ _ _ _ _ (by dsimp only; omega)
  rw [t0, t0, h0, h1, f.x _ _ _ (by dsimp only; omega), f.c, f.s]
  unfold turn
  by_cases h16 : d.val < 16
  · rw [if_pos h16, dif_pos h16, f.x _ _ _ (by dsimp only; omega), ← EReal.coe_neg, ← EReal.coe_mul, ← EReal.coe_mul, ← EReal.coe_add]
    refine congrArg _ ?_
    rw [sub_eq_add_neg, ← neg_mul]
    simp only [show d.val % 16 = d.val by omega]
  · rw [if_neg h16, dif_neg h16, f.x _ _ _ (by dsimp only; omega), ← EReal.coe_mul, ← EReal.coe_mul, ← EReal.coe_add]
    refine congrArg _ ?_
    simp only [show d.val % 16 = d.val - 16 by omega]

theorem table_zero (w : Vec Ideal S4x8192x16 .f32) (b : Fin 4) (s : Fin 8192) (k : Fin 128) (h : 32 ≤ k.val % 64) : table w b s k = 0 :=
  dif_neg (by omega)

/-- The rotated queries of a block. -/
theorem query (c : Dev nD) (f : (args m c).Fin) (t : Fin cfg0.N) (n : Fin 256) (h : Fin 8) (d : Fin 64) :
    qs (iblk m c 0 t) (iblk m c 1 t) (iblk m c 2 t) (ix2 n ⟨64 * h.val + d.val, by omega⟩)
      = if hd : d.val < 32 then ((qry (args m c) (seq t) (row t n) h ⟨d.val, hd⟩ : ℝ) : EReal) else 0 := by
  rw [qs_at, blk0, blk0, blk1, blk2]
  by_cases hd : d.val < 32
  · rw [dif_pos hd]
    refine rotated (args m c) f 0 (by omega) _ _ _ (seq t) (row t n) h d hd ?_ ?_ (by dsimp only; omega)
    · unfold column
      rw [dif_pos (by dsimp only; omega), dif_pos (by dsimp only; omega)]
      exact entry _ _ _ _ _ (by dsimp only; omega)
    · unfold column
      rw [dif_pos (by dsimp only; omega), dif_neg (by dsimp only; omega)]
      by_cases h16 : d.val < 16
      · rw [dif_pos (by dsimp only; omega), if_pos h16]
        exact congrArg _ (entry _ _ _ _ _ (by dsimp only; omega))
      · rw [dif_neg (by dsimp only; omega), if_neg h16]
        exact entry _ _ _ _ _ (by dsimp only; omega)
  · rw [dif_neg hd, table_zero _ _ _ _ (by dsimp only; omega), table_zero _ _ _ _ (by dsimp only; omega), mul_zero, mul_zero, add_zero]

/-- The rotated keys of a block. -/
theorem keys (c : Dev nD) (f : (args m c).Fin) (t : Fin cfg0.N) (n : Fin 256) (h : Fin 8) (d : Fin 64) (hd : d.val < 32) :
    ks (iblk m c 0 t) (iblk m c 1 t) (iblk m c 2 t) (ix2 n ⟨64 * h.val + d.val, by omega⟩)
      = ((key (args m c) (seq t) h (256 * (t.val % 32) + n.val) ⟨d.val, hd⟩ : ℝ) : EReal) := by
  rw [ks_at, blk0, blk0, blk1, blk2]
  have e : key (args m c) (seq t) h (256 * (t.val % 32) + n.val) ⟨d.val, hd⟩
      = turn (args m c) 256 (by omega) (seq t) (row t n) h ⟨d.val, hd⟩ * sc := dif_pos (by omega)
  rw [e, EReal.coe_mul]
  refine congrArg (fun z : EReal => z * ((sc : ℝ) : EReal)) ?_
  refine rotated (args m c) f 256 (by omega) _ _ _ (seq t) (row t n) h d hd ?_ ?_ (by dsimp only; omega)
  · unfold column
    rw [dif_neg (by dsimp only; omega), dif_pos (by dsimp only; omega), dif_pos (by dsimp only; omega)]
    exact entry _ _ _ _ _ (by dsimp only; omega)
  · unfold column
    rw [dif_neg (by dsimp only; omega), dif_pos (by dsimp only; omega), dif_neg (by dsimp only; omega)]
    by_cases h16 : d.val < 16
    · rw [dif_pos (by dsimp only; omega), if_pos h16]
      exact congrArg _ (entry _ _ _ _ _ (by dsimp only; omega))
    · rw [dif_neg (by dsimp only; omega), if_neg h16]
      exact entry _ _ _ _ _ (by dsimp only; omega)

/-- The values of a block, and its gates. -/
theorem values (c : Dev nD) (f : (args m c).Fin) (t : Fin cfg0.N) (n : Fin 256) (h : Fin 8) (e : Fin 64) :
    vs (iblk m c 0 t) (ix2 n ⟨64 * h.val + e.val, by omega⟩)
      = ((val (args m c) (seq t) h e (256 * (t.val % 32) + n.val) : ℝ) : EReal) := by
  rw [vs_at, blk0]
  have hv : val (args m c) (seq t) h e (256 * (t.val % 32) + n.val)
      = (args m c).X (seq t) (row t n) ⟨512 + (64 * h.val + e.val), by omega⟩ := dif_pos (by omega)
  rw [hv, ← f.x _ _ _ (by dsimp only; omega)]
  unfold column
  rw [dif_neg (by dsimp only; omega), dif_neg (by dsimp only; omega)]
  exact entry _ _ _ _ _ (by dsimp only; omega)
theorem gates (c : Dev nD) (t : Fin cfg0.N) (n : Fin 256) (k : Fin 512) :
    gs (iblk m c 0 t) (ix2 n k) = (args m c).x (ix3 (seq t) (row t n) ⟨1024 + k.val, by omega⟩) := by
  rw [gs_at, blk0]
  unfold column
  rw [dif_neg (by dsimp only; omega), dif_neg (by dsimp only; omega)]
  exact entry _ _ _ _ _ (by dsimp only; omega)

/-- Only a head's first 32 lanes count. -/
theorem half_sum (g : Fin 64 → EReal) (hg : ∀ d : Fin 64, 32 ≤ d.val → g d = 0) : ∑ d, g d = ∑ d : Fin 32, g ⟨d.val, by omega⟩ := by
  rw [Fin.sum_univ_add (a := 32) (b := 32) g, Finset.sum_eq_zero (s := Finset.univ) (f := fun i : Fin 32 => g (Fin.natAdd 32 i)), add_zero]
  · rfl
  · intro i _
    exact hg _ (by simp)

/-- The state before a chunk, once the state after the chunk before is known. -/
theorem left (c : Dev nD) (f : (args m c).Fin) (h : Fin 8) (d : Fin 64) (hd : d.val < 32) (e : Fin 64) : ∀ (N : ℕ) (t : Fin cfg0.N), t.val = N →
    before m c t h d e = ((RetSum.carry (L h) (fun j => key (args m c) (seq t) h j ⟨d.val, hd⟩) (val (args m c) (seq t) h e) (t.val % 32) : ℝ) : EReal)
    ∧ (outsAt0 m c t.val t.isLt).2.1 (ix3 h d e)
      = ((RetSum.carry (L h) (fun j => key (args m c) (seq t) h j ⟨d.val, hd⟩) (val (args m c) (seq t) h e) (t.val % 32 + 1) : ℝ) : EReal) := by
  intro N
  induction N with
  | zero =>
    intro t ht
    have hb : before m c t h d e = ((RetSum.carry (L h) (fun j => key (args m c) (seq t) h j ⟨d.val, hd⟩) (val (args m c) (seq t) h e) (t.val % 32) : ℝ) : EReal) := by
      unfold before
      rw [if_pos (by omega), show t.val % 32 = 0 by omega, RetSum.carry_zero, EReal.coe_zero]
    refine ⟨hb, ?_⟩
    exact step t hb
  | succ N ih =>
    intro t ht
    have hb : before m c t h d e = ((RetSum.carry (L h) (fun j => key (args m c) (seq t) h j ⟨d.val, hd⟩) (val (args m c) (seq t) h e) (t.val % 32) : ℝ) : EReal) := by
      unfold before
      by_cases h0 : t.val % 32 = 0
      · rw [if_pos h0, h0, RetSum.carry_zero, EReal.coe_zero]
      · rw [if_neg h0]
        have hq := (ih ⟨t.val - 1, by omega⟩ (by dsimp only; omega)).2
        have hs : seq ⟨t.val - 1, by omega⟩ = seq t := Fin.ext (by simp only [seq]; omega)
        rw [hs, show (⟨t.val - 1, by omega⟩ : Fin cfg0.N).val % 32 + 1 = t.val % 32 by dsimp only; omega] at hq
        exact hq
    refine ⟨hb, ?_⟩
    exact step t hb
where
  step (t : Fin cfg0.N) (hb : before m c t h d e
      = ((RetSum.carry (L h) (fun j => key (args m c) (seq t) h j ⟨d.val, hd⟩) (val (args m c) (seq t) h e) (t.val % 32) : ℝ) : EReal)) :
      (outsAt0 m c t.val t.isLt).2.1 (ix3 h d e)
      = ((RetSum.carry (L h) (fun j => key (args m c) (seq t) h j ⟨d.val, hd⟩) (val (args m c) (seq t) h e) (t.val % 32 + 1) : ℝ) : EReal) := by
    rw [left_at, hb, pw_at, RetSum.carry_succ, Finset.sum_range, EReal.coe_add, EReal.coe_mul, ← coe_sum]
    refine congrArg₂ (fun a b : EReal => a + b) rfl (Finset.sum_congr rfl fun n _ => ?_)
    rw [keys m c f t n h d hd, values m c f t n h e, fall_at h n.val n.isLt, EReal.coe_mul, EReal.coe_mul]

/-- A row before the norm. -/
theorem mixed_at (c : Dev nD) (f : (args m c).Fin) (t : Fin cfg0.N) (n : Fin 256) (h : Fin 8) (e : Fin 64) :
    mixed m c t n h e = ((out (args m c) (seq t) (row t n) h e : ℝ) : EReal) := by
  have scores : ∀ j : Fin 256, ∑ d : Fin 64, (qs (iblk m c 0 t) (iblk m c 1 t) (iblk m c 2 t) (ix2 n ⟨64 * h.val + d.val, by omega⟩) : EReal)
      * ks (iblk m c 0 t) (iblk m c 1 t) (iblk m c 2 t) (ix2 j ⟨64 * h.val + d.val, by omega⟩)
      = ((∑ d, qry (args m c) (seq t) (row t n) h d * key (args m c) (seq t) h (256 * (t.val % 32) + j.val) d : ℝ) : EReal) := by
    intro j
    rw [half_sum _ fun d hd => by rw [query m c f, dif_neg (by omega), zero_mul], ← coe_sum]
    refine Finset.sum_congr rfl fun d _ => ?_
    rw [query m c f t n h ⟨d.val, by omega⟩, dif_pos d.isLt, keys m c f t j h ⟨d.val, by omega⟩ d.isLt, EReal.coe_mul]
  have states : ∑ d : Fin 64, (qs (iblk m c 0 t) (iblk m c 1 t) (iblk m c 2 t) (ix2 n ⟨64 * h.val + d.val, by omega⟩) : EReal)
        * before m c t h d e
      = ((∑ d, qry (args m c) (seq t) (row t n) h d * RetSum.carry (L h) (fun j => key (args m c) (seq t) h j d)
          (val (args m c) (seq t) h e) (t.val % 32) : ℝ) : EReal) := by
    rw [half_sum _ fun d hd => by rw [query m c f, dif_neg (by omega), zero_mul], ← coe_sum]
    refine Finset.sum_congr rfl fun d _ => ?_
    rw [query m c f t n h ⟨d.val, by omega⟩, dif_pos d.isLt, (left m c f h ⟨d.val, by omega⟩ d.isLt e t.val t rfl).1, EReal.coe_mul]
  unfold mixed
  rw [states, rise_at h n.val n.isLt]
  have e1 : ∀ j : Fin 256, (∑ d : Fin 64, (qs (iblk m c 0 t) (iblk m c 1 t) (iblk m c 2 t) (ix2 n ⟨64 * h.val + d.val, by omega⟩) : EReal)
      * ks (iblk m c 0 t) (iblk m c 1 t) (iblk m c 2 t) (ix2 j ⟨64 * h.val + d.val, by omega⟩))
      * Ret.inner h n.val j.val * (vs (iblk m c 0 t) (ix2 j ⟨64 * h.val + e.val, by omega⟩) : EReal)
      = (((∑ d, qry (args m c) (seq t) (row t n) h d * key (args m c) (seq t) h (256 * (t.val % 32) + j.val) d)
        * decay (L h) n.val j.val * val (args m c) (seq t) h e (256 * (t.val % 32) + j.val) : ℝ) : EReal) := by
    intro j
    rw [scores, inner_at h n.val j.val n.isLt j.isLt, values m c f t j h e, EReal.coe_mul, EReal.coe_mul]
  rw [Finset.sum_congr rfl fun j _ => e1 j, coe_sum, ← EReal.coe_mul, ← EReal.coe_add]
  refine congrArg _ ?_
  have key := RetSum.row_sum (L h) (qry (args m c) (seq t) (row t n) h) (key (args m c) (seq t) h) (val (args m c) (seq t) h e)
    (c := t.val % 32) (n := n.val) (by omega) n.isLt
  rw [Finset.sum_range] at key
  exact key

/-- The norm as the body computes it. -/
theorem fin_at (O : Vec Ideal S256x512 .f32) (g : FVec Ideal S256x512 .f32) (x3 : Vec Ideal S1x512 .f32) (x4 : Vec Ideal S512x512 .bf16)
    (n : Fin 256) (k : Fin 512) (o : Fin 512 → ℝ) (hO : ∀ x, O (ix2 n x) = ((o x : ℝ) : EReal))
    (hw : ∀ x k : Fin 512, x4 (ix2 x k) = if x.val / 64 = k.val / 64 then (1 : EReal) else 0) :
    fin O g x3 x4 (ix3 0 n k) = normed o (g (ix2 n k)) (x3 (ix2 0 k)) k := by
  have h64 : Ideal.ofBits .f32 1015021568#32 = ((1 / 64 : ℝ) : EReal) := by
    simp [Ideal.ofBits, Ideal.ieee, -EReal.coe_mul]; norm_num
  have hs : ∀ (p : Fin 512 → ℝ) (k : Fin 512), ∑ x, ((p x : ℝ) : EReal) * (x4 (ix2 x k) : EReal) = ((over p k : ℝ) : EReal) :=
    fun p k => over_at (fun x => x4 (ix2 x k)) p k fun x => hw x k
  unfold fin
  pointwise [k0_pay1, k0_pay74, k0_pay75, k0_pay76, k0_pay77, k0_pay78]
  simp only [hO, h64, hs, ← EReal.coe_sub, ← EReal.coe_mul, ← EReal.coe_add, sub_self, zero_mul, Finset.sum_const_zero, add_zero, EReal.coe_zero]
  unfold normed off
  rfl

/-- One point's block. -/
theorem block_at (c : Dev nD) (f : (args m c).Fin) (t : Fin cfg0.N) (n : Fin 256) (k : Fin 512) :
    (outsAt0 m c t.val t.isLt).1 (ix3 0 n k) = result (args m c) (m ((c.tc : Thread nD τ).loc main_arg3)) (seq t) (row t n) k := by
  obtain ⟨O, ho, hO⟩ := out_at m c t
  rw [ho, fin_at O _ _ _ n k (fun x => out (args m c) (seq t) (row t n) ⟨x.val / 64, by omega⟩ ⟨x.val % 64, by omega⟩) ?_ (fun x k => blk4 m c t x k),
    gates, blk3]
  · rfl
  · intro x
    rw [← mixed_at m c f, ← hO]
    exact congrArg (fun z => O (ix2 n z)) (Fin.ext (by dsimp only; omega))

/-- Where a point's block lies in the result. -/
theorem emb5 (t : Fin cfg0.N) (n : Fin 256) (k : Fin 512) :
    ((cfg0.win 5).blk t).view.emb (ix3 0 n k) = ix3 (seq t) (row t n) k := by
  unfold row seq
  blk_ext [idx t]

/-- The kernel's result array. -/
theorem kernel_array (c : Dev nD) (f : (args m c).Fin) : (dats m 0 c).arrAt 5 cfg0.N
    = fun i : S4x8192x512.Idx => result (args m c) (m ((c.tc : Thread nD τ).loc main_arg3)) (i 0) (i 1) (i 2) := by
  refine (dats m 0 c).arrAt_eq_of_covers 5 _ (by decide +kernel) fun t hf y => ?_
  blk_simp
  rw [after0_5]
  idx_vars y
  obtain rfl : y0 = 0 := Subsingleton.elim _ _
  exact (block_at m c f t y1 y2).trans (congrArg (fun i : S4x8192x512.Idx =>
    result (args m c) (m ((c.tc : Thread nD τ).loc main_arg3)) (i 0) (i 1) (i 2)) (emb5 t y1 y2)).symm

end Cert.RetKernel

end
-- ==== Proof.RetRef.lean ====
module

public import proofs.«01_k».proof.Proof.Gen.Reference11Ideal.Run
public import proofs.«01_k».proof.Proof.RetReal

@[expose] public section

set_option maxRecDepth 16384

noncomputable section

/-! What the plain retention computes over finite arrays. -/

namespace Cert.RetRef

open Cert.Reference11Ideal Idealize.ShloMosaic Idealize.ShloMosaic.TcCoe Idealize.SL.Sem Cert.RetReal

/-- A row of heads' columns. -/
def heads (F : Fin 8 → Fin 64 → ℝ) (x : Fin 512) : ℝ := F ⟨x.val / 64, by omega⟩ ⟨x.val % 64, by omega⟩

theorem heads_at (F : Fin 8 → Fin 64 → ℝ) (h : Fin 8) (e : Fin 64) (x : Fin 512) (hx : x.val = 64 * h.val + e.val) : heads F x = F h e :=
  congrArg₂ F (Fin.ext (by dsimp only; omega)) (Fin.ext (by dsimp only; omega))

theorem over_heads (F : Fin 8 → Fin 64 → ℝ) (k : Fin 512) : over (heads F) k = ∑ e, F ⟨k.val / 64, by omega⟩ e :=
  Finset.sum_congr rfl fun e _ => heads_at F _ e _ rfl

/-- A head's columns less their mean. -/
def dev (F : Fin 8 → Fin 64 → ℝ) (h : Fin 8) (e : Fin 64) : ℝ := F h e - (∑ e', F h e') * (1 / 64)

theorem off_heads (F : Fin 8 → Fin 64 → ℝ) : off (heads F) = heads (dev F) := by
  funext k
  unfold off
  rw [over_heads]
  rfl

theorem normed_heads (F : Fin 8 → Fin 64 → ℝ) (g a : EReal) (h : Fin 8) (e : Fin 64) (k : Fin 512) (hk : k.val = 64 * h.val + e.val) :
    normed (heads F) g a k = g * Ideal.logistic g * (((dev F h e : ℝ) : EReal)
      * Ideal.rsqrt ((((∑ e', dev F h e' * dev F h e') * (1 / 64) : ℝ) : EReal) + Ideal.ofBits .f32 0x358637BD#32) * a) := by
  unfold normed
  have hh : (⟨k.val / 64, by omega⟩ : Fin 8) = h := Fin.ext (by dsimp only; omega)
  have ho : over (fun x => heads (dev F) x * heads (dev F) x) k = ∑ e', dev F h e' * dev F h e' :=
    (over_heads (fun h e => dev F h e * dev F h e) k).trans (by rw [hh])
  rw [off_heads, ho, heads_at (dev F) h e k hk]

/-- The logarithms of the heads' decays. -/
theorem log_at (h : Fin 8) : Ideal.log (Ideal.ofBits .f32 (lit0 (S8.rowMajor (ix1 h)))) = ((L h : ℝ) : EReal) := by
  have e : Ideal.ofBits .f32 (lit0 (S8.rowMajor (ix1 h))) = ((rate h : ℝ) : EReal) := by
    fin_cases h
    · show Ideal.ofBits .f32 (lit0 0) = _
      simp [lit0, rate, Ideal.ofBits, Ideal.ieee, -EReal.coe_mul]; norm_num
    · show Ideal.ofBits .f32 (lit0 1) = _
      simp [lit0, rate, Ideal.ofBits, Ideal.ieee, -EReal.coe_mul]; norm_num
    · show Ideal.ofBits .f32 (lit0 2) = _
      simp [lit0, rate, Ideal.ofBits, Ideal.ieee, -EReal.coe_mul]; norm_num
    · show Ideal.ofBits .f32 (lit0 3) = _
      simp [lit0, rate, Ideal.ofBits, Ideal.ieee, -EReal.coe_mul]; norm_num
    · show Ideal.ofBits .f32 (lit0 4) = _
      simp [lit0, rate, Ideal.ofBits, Ideal.ieee, -EReal.coe_mul]; norm_num
    · show Ideal.ofBits .f32 (lit0 5) = _
      simp [lit0, rate, Ideal.ofBits, Ideal.ieee, -EReal.coe_mul]; norm_num
    · show Ideal.ofBits .f32 (lit0 6) = _
      simp [lit0, rate, Ideal.ofBits, Ideal.ieee, -EReal.coe_mul]; norm_num
    · show Ideal.ofBits .f32 (lit0 7) = _
      simp [lit0, rate, Ideal.ofBits, Ideal.ieee, -EReal.coe_mul]; norm_num
  rw [e, Ideal.log_coe, if_neg (not_le.mpr (rate_pos h))]
  rfl

/-- One entry of the result before the norm. -/
theorem out_at (A : Args) (f : A.Fin) (b : Fin 4) (s : Fin 8192) (h : Fin 8) (e : Fin 64) (z : EReal) (hz : z = 0) :
    ∑ j : Fin 8192, (A.x (ix3 b j ⟨512 + (h.val * 64 + e.val), by omega⟩) : EReal) *
      (((∑ d : Fin 16, ((A.x (ix3 b s ⟨h.val * 32 + d.val, by omega⟩) : EReal) * A.cos (ix3 b s d)
              - (A.x (ix3 b s ⟨h.val * 32 + (16 + d.val), by omega⟩) : EReal) * A.sin (ix3 b s d))
            * (((A.x (ix3 b j ⟨256 + (h.val * 32 + d.val), by omega⟩) : EReal) * A.cos (ix3 b j d)
              - (A.x (ix3 b j ⟨256 + (h.val * 32 + (16 + d.val)), by omega⟩) : EReal) * A.sin (ix3 b j d)) * Ideal.ofBits .f32 1043662067#32))
          + ∑ d : Fin 16, ((A.x (ix3 b s ⟨h.val * 32 + (16 + d.val), by omega⟩) : EReal) * A.cos (ix3 b s d)
              + (A.x (ix3 b s ⟨h.val * 32 + d.val, by omega⟩) : EReal) * A.sin (ix3 b s d))
            * (((A.x (ix3 b j ⟨256 + (h.val * 32 + (16 + d.val)), by omega⟩) : EReal) * A.cos (ix3 b j d)
              + (A.x (ix3 b j ⟨256 + (h.val * 32 + d.val), by omega⟩) : EReal) * A.sin (ix3 b j d)) * Ideal.ofBits .f32 1043662067#32))
        * if (0 : EReal) ≤ (FloatOps.sitofp .f32 (BitVec.ofNat 32 s.val) : Ideal .f32) - (FloatOps.sitofp .f32 (BitVec.ofNat 32 j.val) : Ideal .f32) then
            Ideal.exp (max ((FloatOps.sitofp .f32 (BitVec.ofNat 32 s.val) : Ideal .f32) - (FloatOps.sitofp .f32 (BitVec.ofNat 32 j.val) : Ideal .f32) : EReal) 0
              * Ideal.log (Ideal.ofBits .f32 (lit0 (S8.rowMajor (ix1 h)))))
          else z)
      = ((out A b s h e : ℝ) : EReal) := by
  subst hz
  unfold out
  rw [Finset.sum_range, ← coe_sum]
  refine Finset.sum_congr rfl fun j _ => ?_
  have hx : ∀ (s : Fin 8192) (i i' : ℕ) (hi : i < 1536) (hi' : i' < 1536), i = i' → i < 1024 → (A.x (ix3 b s ⟨i, hi⟩) : EReal) = ((A.X b s ⟨i', hi'⟩ : ℝ) : EReal) := by
    intro s i i' hi hi' q hl
    subst q
    exact f.x _ _ _ hl
  have q0 : ∀ (off : ℕ) (ho : off ≤ 256) (s : Fin 8192) (d : Fin 16), turn A off ho b s h (Fin.castAdd 16 d)
      = A.X b s ⟨off + (32 * h.val + d.val), by omega⟩ * A.C b s d - A.X b s ⟨off + (32 * h.val + (16 + d.val)), by omega⟩ * A.S b s d := by
    intro off ho s d
    exact dif_pos d.isLt
  have q1 : ∀ (off : ℕ) (ho : off ≤ 256) (s : Fin 8192) (d : Fin 16), turn A off ho b s h (Fin.natAdd 16 d)
      = A.X b s ⟨off + (32 * h.val + (16 + d.val)), by omega⟩ * A.C b s d + A.X b s ⟨off + (32 * h.val + d.val), by omega⟩ * A.S b s d := by
    intro off ho s d
    have hv : (Fin.natAdd 16 d : Fin 32).val - 16 = d.val := by simp
    unfold turn
    rw [dif_neg (by simp)]
    simp only [hv]
    rfl
  rw [nat_at s.val s.isLt, nat_at j.val j.isLt, log_at, ← EReal.coe_sub, decay_at]
  have hk : ∀ d, key A b h j.val d = turn A 256 (by omega) b j h d * sc := fun d => dif_pos j.isLt
  have hv : val A b h e j.val = A.X b j ⟨512 + (64 * h.val + e.val), by omega⟩ := dif_pos j.isLt
  have hS : ∑ d, qry A b s h d * key A b h j.val d
      = (∑ d : Fin 16, (A.X b s ⟨0 + (32 * h.val + d.val), by omega⟩ * A.C b s d - A.X b s ⟨0 + (32 * h.val + (16 + d.val)), by omega⟩ * A.S b s d)
            * ((A.X b j ⟨256 + (32 * h.val + d.val), by omega⟩ * A.C b j d - A.X b j ⟨256 + (32 * h.val + (16 + d.val)), by omega⟩ * A.S b j d) * sc))
        + ∑ d : Fin 16, (A.X b s ⟨0 + (32 * h.val + (16 + d.val)), by omega⟩ * A.C b s d + A.X b s ⟨0 + (32 * h.val + d.val), by omega⟩ * A.S b s d)
            * ((A.X b j ⟨256 + (32 * h.val + (16 + d.val)), by omega⟩ * A.C b j d + A.X b j ⟨256 + (32 * h.val + d.val), by omega⟩ * A.S b j d) * sc) := by
    simp only [hk, qry]
    rw [Fin.sum_univ_add (a := 16) (b := 16)]
    simp only [q0, q1]
  rw [hS, hv, EReal.coe_mul, EReal.coe_mul, EReal.coe_add, ← coe_sum, ← coe_sum, mul_comm,
    hx j _ (512 + (64 * h.val + e.val)) _ (by omega) (by omega) (by omega)]
  refine congrArg (fun z : EReal => z * _ * _) (congrArg₂ (fun a b : EReal => a + b) (Finset.sum_congr rfl fun d _ => ?_) (Finset.sum_congr rfl fun d _ => ?_))
  · rw [hx s (h.val * 32 + d.val) (0 + (32 * h.val + d.val)) _ (by omega) (by omega) (by omega),
      hx s (h.val * 32 + (16 + d.val)) (0 + (32 * h.val + (16 + d.val))) _ (by omega) (by omega) (by omega),
      hx j (256 + (h.val * 32 + d.val)) (256 + (32 * h.val + d.val)) _ (by omega) (by omega) (by omega),
      hx j (256 + (h.val * 32 + (16 + d.val))) (256 + (32 * h.val + (16 + d.val))) _ (by omega) (by omega) (by omega),
      f.c, f.s, f.c, f.s, sc_at]
    simp only [← EReal.coe_mul, ← EReal.coe_sub]
  · rw [hx s (h.val * 32 + d.val) (0 + (32 * h.val + d.val)) _ (by omega) (by omega) (by omega),
      hx s (h.val * 32 + (16 + d.val)) (0 + (32 * h.val + (16 + d.val))) _ (by omega) (by omega) (by omega),
      hx j (256 + (h.val * 32 + d.val)) (256 + (32 * h.val + d.val)) _ (by omega) (by omega) (by omega),
      hx j (256 + (h.val * 32 + (16 + d.val))) (256 + (32 * h.val + (16 + d.val))) _ (by omega) (by omega) (by omega),
      f.c, f.s, f.c, f.s, sc_at]
    simp only [← EReal.coe_mul, ← EReal.coe_add]

variable (m : (ℓ : Loc nD τ sig) → Buf (Elt Ideal) ℓ)

/-- A device's argument arrays. -/
def args (c : Dev nD) : Args where
  x := m ((c.tc : Thread nD τ).loc main_arg0)
  cos := m ((c.tc : Thread nD τ).loc main_arg1)
  sin := m ((c.tc : Thread nD τ).loc main_arg2)

set_option maxHeartbeats 8000000 in
/-- One entry of the reference's result. -/
theorem ref_at (c : Dev nD) (f : (args m c).Fin) (b : Fin 4) (s : Fin 8192) (h : Fin 8) (e : Fin 64) :
    Value.res_main_v84 m c (ix3 b s ⟨64 * h.val + e.val, by omega⟩)
      = result (args m c) (m ((c.tc : Thread nD τ).loc main_arg3)) b s ⟨64 * h.val + e.val, by omega⟩ := by
  have h64 : Ideal.ofBits .f32 1115684864#32 = ((64 : ℝ) : EReal) := by
    simp [Ideal.ofBits, Ideal.ieee, -EReal.coe_mul]; norm_num
  have hd : ∀ r : ℝ, Ideal.div ((r : ℝ) : EReal) ((64 : ℝ) : EReal) = ((r * (1 / 64) : ℝ) : EReal) := by
    intro r
    rw [Ideal.div_coe (by norm_num), ← EReal.coe_mul]
  have hz : (id (constant (F := Ideal) S_ .f32 0#32)) ix0 = (0 : EReal) := by
    show constant (F := Ideal) S_ .f32 0#32 ix0 = (0 : EReal)
    pointwise
  have hO : ∀ e, _ = _ := fun e => out_at (args m c) f b s h e _ hz
  unfold args at hO
  dsimp only at hO
  refine Eq.trans ?_ (normed_heads (fun h e => out (args m c) b s h e) _ _ h e _ rfl).symm
  unfold Value.res_main_v84
  pointwise
  simp only [hO, h64, hd, coe_sum, ← EReal.coe_sub, ← EReal.coe_mul]
  simp only [Ideal.logistic]
  rfl

end Cert.RetRef

end
-- ==== Proof.Retention.lean ====
module

public import proofs.«01_k».proof.Proof.RetKernel
public import proofs.«01_k».proof.Proof.RetRef

@[expose] public section

set_option maxRecDepth 16384

noncomputable section

/-! The retention's claims: the named constants are the ones they name, the precondition says what it says, and the kernel
    and the plain reference end with the same array. -/

namespace Cert.Retention

open Idealize.ShloMosaic Idealize.ShloMosaic.TcCoe Idealize.SL.Sem Cert.RetReal

/-- The precondition's shapes fit. -/
theorem facts_finite : Cert.Pre_finite_columns.Facts where
  slices_S4x8192x1536_S4x8192x1024_0_0_0 := by decide
  concatenates_S4x8192x1024_S4x8192x16_S4x8192x16_S4x8192x1056_d2 := by decide
  bcast_S_S4x8192x1056 := by decide

/-- The named constants. -/
theorem preserves : Cert.preserves_Kernel11_Kernel11Ideal := by
  unfold Cert.preserves_Kernel11_Kernel11Ideal
  refine ⟨?_, ?_, ?_, ?_, ?_, ?_, ?_, ?_, ?_, ?_, ?_, ?_, ?_, ?_, ?_, ?_⟩ <;> exact IdealRules.named_const.statement _ _ _ _ _ rfl

/-- A number of size less than infinity is a real one. -/
theorem real_of_lt (x : EReal)
    (h : BitVec.ofBool (decide ((FloatOps.absf (x : Ideal .f32) : Ideal .f32) < Ideal.ofBits .f32 2139095040#32)) = 1#1) :
    x = ((x.toReal : ℝ) : EReal) := by
  have hinf : Ideal.ofBits .f32 2139095040#32 = (⊤ : EReal) := by simp [Ideal.ofBits, Ideal.ieee]
  rw [hinf] at h
  induction x using EReal.rec with
  | bot => simp [FloatOps.absf] at h
  | coe r => rfl
  | top => simp [FloatOps.absf] at h

/-- What the precondition says of the arrays. -/
theorem finite_args (A : Args) (w : Vec Ideal (⟨1, ![512]⟩ : Shape) .f32)
    (h : @Cert.Pre_finite_columns.fn facts_finite Ideal _ A.x A.cos A.sin w = fun _ => 1#1) : A.Fin := by
  have one : ∀ (b : Fin 4) (s : Fin 8192) (k : Fin 1056) (x : EReal),
      (if h : k.val < 1024 then (A.x (ix3 b s ⟨k.val, by omega⟩) : EReal)
        else if h : k.val - 1024 < 16 then A.cos (ix3 b s ⟨k.val - 1024, h⟩) else A.sin (ix3 b s ⟨k.val - 1024 - 16, by omega⟩)) = x →
      x = ((x.toReal : ℝ) : EReal) := by
    intro b s k x hx
    have q := congrFun h (ix3 b s k)
    unfold Cert.Pre_finite_columns.fn at q
    pointwise at q
    rw [hx] at q
    exact real_of_lt x q
  refine ⟨fun b s k hk => one b s ⟨k.val, by omega⟩ _ (dif_pos hk), fun b s k => one b s ⟨1024 + k.val, by omega⟩ _ ?_,
    fun b s k => one b s ⟨1040 + k.val, by omega⟩ _ ?_⟩
  · rw [dif_neg (by dsimp only; omega), dif_pos (by dsimp only; omega)]
    exact congrArg (fun z => A.cos (ix3 b s z)) (Fin.ext (by dsimp only; omega))
  · rw [dif_neg (by dsimp only; omega), dif_neg (by dsimp only; omega)]
    exact congrArg (fun z => A.sin (ix3 b s z)) (Fin.ext (by dsimp only; omega))

/-- The reference ends with its arguments unchanged and every counter at zero. -/
theorem frame_reference : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

set_option maxHeartbeats 4000000 in
/-- The kernel and the plain reference end with the same array. -/
theorem algebraic : algebraic_Kernel11Ideal_Reference11Ideal_pre_finite_columns (hPre_finite_columns := facts_finite) := by
  intro m ρ m' ρ' hp h
  have fin : ∀ c, (RetKernel.args m c).Fin := fun c => finite_args (RetKernel.args m c) _ (hp c)
  refine ⟨fun c => fun i : Cert.Kernel11Ideal.S4x8192x512.Idx => result (RetKernel.args m c)
    (m ((c.tc : Thread Cert.Kernel11Ideal.nD Cert.Kernel11Ideal.τ).loc Cert.Kernel11Ideal.main_arg3)) (i 0) (i 1) (i 2), ?_, ?_⟩
  · refine (θ_run _ _ _).mono (fun r hr c => ⟨(hr c).1.trans (RetKernel.kernel_array m c (fin c)), (hr c).2⟩)
      (Cert.Kernel11Ideal.Value.run_blocks m ρ)
  · refine (θ_run _ _ _).mono (fun r hr c => ⟨(hr c).1.trans ?_, (hr c).2⟩) (Cert.Reference11Ideal.Value.run m' ρ')
    obtain ⟨h0, h1, h2, h3⟩ := h c
    have ha : RetRef.args m' c = RetKernel.args m c := by
      unfold RetRef.args RetKernel.args
      rw [h0, h1, h2]
    funext i
    idx_vars i
    obtain ⟨g, d, rfl⟩ : ∃ (g : Fin 8) (d : Fin 64), i2 = ⟨64 * g.val + d.val, by omega⟩ :=
      ⟨⟨i2.val / 64, by omega⟩, ⟨i2.val % 64, by omega⟩, Fin.ext (by dsimp only; omega)⟩
    refine (RetRef.ref_at m' c (ha ▸ fin c) i0 i1 g d).trans ?_
    rw [ha, h3]

end Cert.Retention

end
-- ==== Proof.TablesRef.lean ====
module

public import proofs.«01_k».proof.Proof.Gen.Reference13Ideal.Run
public import proofs.«01_k».proof.Proof.Common
public import proofs.«01_k».proof.Defs

@[expose] public section

set_option maxRecDepth 16384

noncomputable section

/-! The rotations' tables as functions of the positions, and the reference's reading of them. -/

namespace Cert.TablesRef

open Cert.Reference13Ideal Cert.Reference13Ideal.Gen Idealize.ShloMosaic Idealize.ShloMosaic.TcCoe Idealize.SL.Sem

/-- The two rotations' frequencies. -/
def freqA (j : ℕ) : EReal :=
  Ideal.pow (Ideal.ofBits .f32 1223959552#32)
    (Ideal.div (-(Ideal.ofBits .f32 1073741824#32 * (FloatOps.sitofp .f32 (BitVec.ofNat 32 j) : Ideal .f32)))
      (Ideal.ofBits .f32 1098907648#32))
def freqR (j : ℕ) : EReal :=
  Ideal.div 1 (Ideal.pow (Ideal.ofBits .f32 1176256512#32)
    (if j < 15 then Ideal.div (FloatOps.sitofp .f32 (BitVec.ofNat 32 j) : Ideal .f32) (Ideal.ofBits .f32 1097859072#32) else 1))

/-- A position of the flattened sequences. -/
def place (p : IVec S4x8192 32) (n : Fin 32768) : EReal :=
  (FloatOps.sitofp .f32 (p (ix2 ⟨n.val / 8192, by omega⟩ ⟨n.val % 8192, by omega⟩)) : Ideal .f32)

/-- The attention's table of a function of the angle: eight angles twice, and then the function's value at zero up to
column 64. -/
def tableA (f : EReal → EReal) (one : EReal) (p : IVec S4x8192 32) : Vec Ideal S32768x128 .f32 := fun i =>
  if (i 1).val < 16 then f (place p (i 0) * freqA ((i 1).val % 8)) else if (i 1).val < 64 then one else 0

/-- The retention's table: sixteen angles twice and zeros, both twice. -/
def tableR (f : EReal → EReal) (p : IVec S4x8192 32) : Vec Ideal S32768x128 .f32 := fun i =>
  if (i 1).val % 64 < 32 then f (place p (i 0) * freqR ((i 1).val % 16)) else 0

/-- The reference's frequencies. -/
theorem ref_freqA : ((Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))) : FVec Ideal S8 .f32)
    = (fun j => freqA (j 0).val : FVec Ideal S8 .f32) := by
  funext i
  idx_vars i
  pointwise
  rfl
theorem ref_freqR : ((Host.divf (broadcastInDim S16 ![] bcast_S_S16 (constant S_ .f32 0x3F800000#32)) (Host.powf (broadcastInDim S16 ![] bcast_S_S16 (constant S_ .f32 0x461C4000#32)) (concatenate S16 0 [⟨S15, (addf (mulf (broadcastInDim S15 ![0] bcast_S1_S15_0 (shapeCast _ (id (constant S_ .f32 0x00000000#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (id (constant S_ .f32 0x3F800000#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (id (constant S_ .f32 0x3F800000#32)))⟩] concatenates_S15_S1_S16_d0))) : FVec Ideal S16 .f32)
    = (fun j => freqR (j 0).val : FVec Ideal S16 .f32) := by
  funext i
  idx_vars i
  pointwise
  simp only [id]
  pointwise
  simp only [zero_mul, zero_add, freqR]
  rfl

/-- The angles: the position times the frequency. -/
theorem angleA (p : IVec S4x8192 32) (g : FVec Ideal S8 .f32) :
    mulf (broadcastInDim S32768x8 ![0, 1] bcast_S32768x1_S32768x8_0_1 (sitofp .f32 (shapeCast _ p shapeCasts_S4x8192_S32768x1)))
      (broadcastInDim S32768x8 ![0, 1] bcast_S1x8_S32768x8_0_1 (broadcastInDim S1x8 ![1] bcast_S8_S1x8_1 g))
    = (fun i => place p (i 0) * g (ix1 (i 1)) : FVec Ideal S32768x8 .f32) := by
  funext i
  idx_vars i
  pointwise
  rfl
/-- The angles: the position times the frequency. -/
theorem angleR (p : IVec S4x8192 32) (g : FVec Ideal S16 .f32) :
    mulf (broadcastInDim S32768x16 ![0, 1] bcast_S32768x1_S32768x16_0_1 (sitofp .f32 (shapeCast _ p shapeCasts_S4x8192_S32768x1)))
      (broadcastInDim S32768x16 ![0, 1] bcast_S1x16_S32768x16_0_1 (broadcastInDim S1x16 ![1] bcast_S16_S1x16_1 g))
    = (fun i => place p (i 0) * g (ix1 (i 1)) : FVec Ideal S32768x16 .f32) := by
  funext i
  idx_vars i
  pointwise
  rfl

/-- The attention's table column by column. -/
theorem columnA (f : EReal → EReal) (one p : EReal) (k : Fin 128) :
    (if k.val < 8 then f (p * freqA k.val) else if k.val - 8 < 8 then f (p * freqA (k.val - 8)) else if k.val < 64 then one else 0)
    = if k.val < 16 then f (p * freqA (k.val % 8)) else if k.val < 64 then one else 0 := by
  split_ifs <;> first | omega | rfl | exact congrArg (fun j => f (p * freqA j)) (by omega)

/-- The retention's table column by column. -/
theorem columnR (f : EReal → EReal) (p : EReal) (k : Fin 128) :
    (if k.val < 16 then f (p * freqR k.val) else if k.val - 16 < 16 then f (p * freqR (k.val - 16)) else if k.val - 16 - 16 < 32 then 0
      else if k.val - 16 - 16 - 32 < 16 then f (p * freqR (k.val - 16 - 16 - 32))
      else if k.val - 16 - 16 - 32 - 16 < 16 then f (p * freqR (k.val - 16 - 16 - 32 - 16)) else 0)
    = if k.val % 64 < 32 then f (p * freqR (k.val % 16)) else 0 := by
  split_ifs <;> first | omega | rfl | exact congrArg (fun j => f (p * freqR j)) (by omega)

variable (m : (ℓ : Loc nD τ sig) → Buf (Elt Ideal) ℓ)

set_option maxHeartbeats 2000000 in
theorem out2 (c : Dev nD) : Cert.Reference13Ideal.Value.res_main_v35 m c = tableR Ideal.cos (m ((c.tc : Thread nD τ).loc main_arg0)) := by
  unfold Cert.Reference13Ideal.Value.res_main_v35
  rw [ref_freqR, angleR]
  funext i
  idx_vars i
  pointwise
  exact columnR _ (place _ i0) i1
set_option maxHeartbeats 2000000 in
theorem out3 (c : Dev nD) : Cert.Reference13Ideal.Value.res_main_v37 m c = tableR Ideal.sin (m ((c.tc : Thread nD τ).loc main_arg0)) := by
  unfold Cert.Reference13Ideal.Value.res_main_v37
  rw [ref_freqR, angleR]
  funext i
  idx_vars i
  pointwise
  exact columnR _ (place _ i0) i1

set_option maxHeartbeats 2000000 in
/-- The reference's run leaves the tables, and its argument as it was. -/
theorem run (ρ : Dev nD → PrngReg) : θ_run defs (onTc (τ := τ) (main (F := Ideal))) ⟨m, fun _ => 0, ρ⟩ fun r => ∀ c : Dev nD,
      r.2.mem ((c.tc : Thread nD τ).loc main_v20) = tableA Ideal.cos 1 (m ((c.tc : Thread nD τ).loc main_arg0))
      ∧ r.2.mem ((c.tc : Thread nD τ).loc main_v22) = tableA Ideal.sin 0 (m ((c.tc : Thread nD τ).loc main_arg0))
      ∧ r.2.mem ((c.tc : Thread nD τ).loc main_v35) = tableR Ideal.cos (m ((c.tc : Thread nD τ).loc main_arg0))
      ∧ r.2.mem ((c.tc : Thread nD τ).loc main_v37) = tableR Ideal.sin (m ((c.tc : Thread nD τ).loc main_arg0))
      ∧ r.2.mem ((c.tc : Thread nD τ).loc main_arg0) = m ((c.tc : Thread nD τ).loc main_arg0) := by
  refine (θ_run _ _ _).mono (fun r hr c => ⟨(hr c).1.trans ?_, (hr c).2.1.trans ?_, (hr c).2.2.1.trans (out2 m c),
    (hr c).2.2.2.1.trans (out3 m c), (hr c).2.2.2.2⟩) (Cert.Reference13Ideal.Value.run m ρ)
  · rw [ref_freqA, angleA]
    funext i
    idx_vars i
    pointwise
    refine Eq.trans ?_ (columnA _ _ (place _ i0) i1)
    split_ifs <;> first | omega | rfl
  · rw [ref_freqA, angleA]
    funext i
    idx_vars i
    pointwise
    refine Eq.trans ?_ (columnA _ _ (place _ i0) i1)
    split_ifs <;> first | omega | rfl

end Cert.TablesRef

end
-- ==== Proof.Tables.lean ====
module

public import proofs.«01_k».proof.Proof.Gen.Kernel13Ideal.Frame
public import Idealize.ShloMosaic.Lib.Pipeline.Value
public import proofs.«01_k».proof.Proof.TablesRef
public import proofs.«01_k».proof.Proof.Common
public import proofs.«01_k».proof.Defs

@[expose] public section

set_option maxRecDepth 16384

noncomputable section

/-! The rotations' tables: the cosine and the sine of the position times the frequency, beside ones and zeros. -/

namespace Cert.Tables

open Cert.TablesRef Cert.Kernel13Ideal Cert.Kernel13Ideal.Gen Idealize.ShloMosaic Idealize.ShloMosaic.TcCoe Idealize.SL.Sem

variable (m : (ℓ : Loc nD τ sig) → Buf (Elt Ideal) ℓ)

/-- Which block each window reads at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The frequencies and the masks as the kernel takes them. -/
theorem fa_at (c : Dev nD) (k : Fin 128) : V m c main_v13 (ix2 0 k) = if k.val < 16 then freqA (k.val % 8) else 0 := by
  simp only [V, hostOps0, hostOps0_1, hostOps0_2, List.flatten_cons, List.flatten_nil, List.append_nil, List.cons_append, List.nil_append]
  after_results
  simp only [StableHlo.TRef.ofBuf, StableHlo.TRef.toBuf, StableHlo.TRef.of, cast_eq]
  pointwise
  after_results_simp
  pointwise
  by_cases h1 : k.val < 8
  · rw [dif_pos h1, if_pos (by omega), show k.val % 8 = k.val by omega]; rfl
  · by_cases h2 : k.val < 16
    · rw [dif_neg h1, dif_pos (by omega), if_pos h2, show k.val % 8 = k.val - 8 by omega]; rfl
    · rw [dif_neg h1, dif_neg (by omega), if_neg h2]

theorem ma_at (c : Dev nD) (k : Fin 128) : V m c main_v17 (ix2 0 k) = if k.val < 64 then (1 : EReal) else 0 := by
  simp only [V, hostOps0, hostOps0_1, hostOps0_2, List.flatten_cons, List.flatten_nil, List.append_nil, List.cons_append, List.nil_append]
  after_results
  pointwise
  rfl

theorem mr_at (c : Dev nD) (k : Fin 128) : V m c main_v31 (ix2 0 k) = if k.val % 64 < 32 then (1 : EReal) else 0 := by
  simp only [V, hostOps0, hostOps0_1, hostOps0_2, List.flatten_cons, List.flatten_nil, List.append_nil, List.cons_append, List.nil_append]
  after_results
  pointwise
  split_ifs <;> first | rfl | omega

set_option maxHeartbeats 4000000 in
theorem fr_at (c : Dev nD) (k : Fin 128) : V m c main_v26 (ix2 0 k) = if k.val % 64 < 32 then freqR (k.val % 16) else 0 := by
  simp only [V, hostOps0, hostOps0_1, hostOps0_2, List.flatten_cons, List.flatten_nil, List.append_nil, List.cons_append, List.nil_append]
  after_results
  simp only [StableHlo.TRef.ofBuf, StableHlo.TRef.toBuf, StableHlo.TRef.of, cast_eq]
  pointwise
  after_results_simp
  pointwise
  simp only [StableHlo.TRef.ofBuf, StableHlo.TRef.toBuf, StableHlo.TRef.of, cast_eq]
  pointwise
  after_results_simp
  simp only [StableHlo.TRef.ofBuf, StableHlo.TRef.toBuf, StableHlo.TRef.of, cast_eq]
  pointwise
  simp only [id]
  pointwise
  simp only [zero_mul, zero_add]
  refine Eq.trans (b := if k.val < 64 then if k.val < 16 then freqR k.val else if k.val - 16 < 16 then freqR (k.val - 16) else 0
    else if k.val - 64 < 16 then freqR (k.val - 64) else if k.val - 64 - 16 < 16 then freqR (k.val - 64 - 16) else 0) rfl ?_
  split_ifs <;> first | omega | rfl | exact congrArg freqR (by omega)

/-- The row of the arrays that row `r` of a point's block is. -/
def row (t : Fin cfg0.N) (r : Fin 1024) : Fin 32768 := ⟨1024 * t.val + r.val, by have := t.isLt; have : cfg0.N = 32 := N_0; omega⟩

/-- The blocks. -/
theorem blk0 (c : Dev nD) (t : Fin cfg0.N) (r : Fin 1024) :
    (FloatOps.sitofp .f32 (iblk m c 0 t (ix2 r 0)) : Ideal .f32) = place (m ((c.tc : Thread nD τ).loc main_arg0)) (row t r) := by
  have h : ∀ n : Fin 32768, V m c main_v0 (ix2 n 0) = m ((c.tc : Thread nD τ).loc main_arg0) (ix2 ⟨n.val / 8192, by omega⟩ ⟨n.val % 8192, by omega⟩) := by
    intro n
    simp only [V, hostOps0, hostOps0_1, hostOps0_2, List.flatten_cons, List.flatten_nil, List.append_nil, List.cons_append, List.nil_append]
    after_results
    pointwise
  unfold place
  rw [← h]
  refine congrArg (fun b : BitVec 32 => (FloatOps.sitofp .f32 b : Ideal .f32)) ?_
  unfold row
  blk_ext [iblk, idx t]
theorem blk1 (c : Dev nD) (t : Fin cfg0.N) (k : Fin 128) : iblk m c 1 t (ix2 0 k) = if k.val < 16 then freqA (k.val % 8) else 0 := by
  rw [← fa_at m c]
  blk_ext [iblk, idx t]
theorem blk2 (c : Dev nD) (t : Fin cfg0.N) (k : Fin 128) : iblk m c 2 t (ix2 0 k) = if k.val % 64 < 32 then freqR (k.val % 16) else 0 := by
  rw [← fr_at m c]
  blk_ext [iblk, idx t]
theorem blk3 (c : Dev nD) (t : Fin cfg0.N) (k : Fin 128) : iblk m c 3 t (ix2 0 k) = if k.val < 64 then (1 : EReal) else 0 := by
  rw [← ma_at m c]
  blk_ext [iblk, idx t]
theorem blk4 (c : Dev nD) (t : Fin cfg0.N) (k : Fin 128) : iblk m c 4 t (ix2 0 k) = if k.val % 64 < 32 then (1 : EReal) else 0 := by
  rw [← mr_at m c]
  blk_ext [iblk, idx t]

/-- Where a result's block sits in its array. -/
theorem emb5 (t : Fin cfg0.N) (r : Fin 1024) (k : Fin 128) : ((cfg0.win 5).blk t).view.emb (ix2 r k) = ix2 (row t r) k := by
  unfold row
  blk_ext [idx t]
theorem emb6 (t : Fin cfg0.N) (r : Fin 1024) (k : Fin 128) : ((cfg0.win 6).blk t).view.emb (ix2 r k) = ix2 (row t r) k := by
  unfold row
  blk_ext [idx t]
theorem emb7 (t : Fin cfg0.N) (r : Fin 1024) (k : Fin 128) : ((cfg0.win 7).blk t).view.emb (ix2 r k) = ix2 (row t r) k := by
  unfold row
  blk_ext [idx t]
theorem emb8 (t : Fin cfg0.N) (r : Fin 1024) (k : Fin 128) : ((cfg0.win 8).blk t).view.emb (ix2 r k) = ix2 (row t r) k := by
  unfold row
  blk_ext [idx t]

/-- A masked function of an angle: what the function is at zero where the frequency is zero, and zero where the mask is. -/
theorem maskA (f : EReal → EReal) (one p : EReal) (h0 : f 0 = one) (k : Fin 128) (g : EReal) :
    f (p * if k.val < 16 then g else 0) * (if k.val < 64 then (1 : EReal) else 0)
      = if k.val < 16 then f (p * g) else if k.val < 64 then one else 0 := by
  by_cases h1 : k.val < 16
  · rw [if_pos h1, if_pos (by omega), if_pos h1, mul_one]
  · rw [if_neg h1, if_neg h1, mul_zero, h0]
    split_ifs
    · exact mul_one _
    · exact mul_zero _
theorem maskR (f : EReal → EReal) (p : EReal) (k : Fin 128) (g : EReal) :
    f (p * if k.val % 64 < 32 then g else 0) * (if k.val % 64 < 32 then (1 : EReal) else 0)
      = if k.val % 64 < 32 then f (p * g) else 0 := by
  split_ifs
  · exact mul_one _
  · exact mul_zero _
theorem cos_zero : Ideal.cos 0 = 1 := by
  show ((Real.cos 0 : ℝ) : EReal) = 1
  rw [Real.cos_zero]; rfl
theorem sin_zero : Ideal.sin 0 = 0 := by
  show ((Real.sin 0 : ℝ) : EReal) = 0
  rw [Real.sin_zero]; rfl

/-- The kernel's result arrays are the tables of the positions. -/
theorem array5 (c : Dev nD) : (dats m 0 c).arrAt 5 cfg0.N = tableA Ideal.cos 1 (m ((c.tc : Thread nD τ).loc main_arg0)) := by
  refine (dats m 0 c).arrAt_eq_of_covers 5 _ (by decide +kernel) fun t hf y => ?_
  blk_simp
  rw [after0_5]
  frame_out
  idx_vars y
  refine Eq.trans ?_ (congrArg (tableA _ _ _) (emb5 t y0 y1)).symm
  pointwise [k0_pay3, k0_pay2, k0_pay1]
  rw [blk0, blk1, blk3]
  exact maskA _ _ _ cos_zero _ _
theorem array6 (c : Dev nD) : (dats m 0 c).arrAt 6 cfg0.N = tableA Ideal.sin 0 (m ((c.tc : Thread nD τ).loc main_arg0)) := by
  refine (dats m 0 c).arrAt_eq_of_covers 6 _ (by decide +kernel) fun t hf y => ?_
  blk_simp
  rw [after0_6]
  frame_out
  idx_vars y
  refine Eq.trans ?_ (congrArg (tableA _ _ _) (emb6 t y0 y1)).symm
  pointwise [k0_pay4, k0_pay2, k0_pay1]
  rw [blk0, blk1, blk3]
  exact maskA _ _ _ sin_zero _ _
theorem array7 (c : Dev nD) : (dats m 0 c).arrAt 7 cfg0.N = tableR Ideal.cos (m ((c.tc : Thread nD τ).loc main_arg0)) := by
  refine (dats m 0 c).arrAt_eq_of_covers 7 _ (by decide +kernel) fun t hf y => ?_
  blk_simp
  rw [after0_7]
  frame_out
  idx_vars y
  refine Eq.trans ?_ (congrArg (tableR _ _) (emb7 t y0 y1)).symm
  pointwise [k0_pay6, k0_pay5, k0_pay1]
  rw [blk0, blk2, blk4]
  exact maskR _ _ _ _
theorem array8 (c : Dev nD) : (dats m 0 c).arrAt 8 cfg0.N = tableR Ideal.sin (m ((c.tc : Thread nD τ).loc main_arg0)) := by
  refine (dats m 0 c).arrAt_eq_of_covers 8 _ (by decide +kernel) fun t hf y => ?_
  blk_simp
  rw [after0_8]
  frame_out
  idx_vars y
  refine Eq.trans ?_ (congrArg (tableR _ _) (emb8 t y0 y1)).symm
  pointwise [k0_pay7, k0_pay5, k0_pay1]
  rw [blk0, blk2, blk4]
  exact maskR _ _ _ _

/-- The kernel's run leaves its arrays, and its argument as it was. -/
theorem run_blocks (ρ : Dev nD → PrngReg) : θ_run defs (onTc (τ := τ) (main (F := Ideal))) ⟨m, fun _ => 0, ρ⟩ fun r => ∀ c : Dev nD,
      r.2.mem ((c : Thread nD τ).loc main_v32_0) = (dats m 0 c).arrAt 5 cfg0.N
      ∧ r.2.mem ((c : Thread nD τ).loc main_v32_1) = (dats m 0 c).arrAt 6 cfg0.N
      ∧ r.2.mem ((c : Thread nD τ).loc main_v32_2) = (dats m 0 c).arrAt 7 cfg0.N
      ∧ r.2.mem ((c : Thread nD τ).loc main_v32_3) = (dats m 0 c).arrAt 8 cfg0.N
      ∧ r.2.mem ((c : Thread nD τ).loc main_arg0) = m ((c : Thread nD τ).loc main_arg0) :=
  (θ_run defs _ _).mono (fun r h c => ⟨(h c).1 5, (h c).1 6, (h c).1 7, (h c).1 8,
      ((h c).2 main_arg0 (Pipeline.mem_restRefs_of main_arg0 (by decide) (by decide))).trans (V_main_arg0 m c)⟩)
    (run_main m ρ)

/-- The reference ends with its arguments unchanged and every counter at zero. -/
theorem frame_reference : quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

/-- The kernel and the plain reference end with the same arrays. -/
theorem algebraic : algebraic_Kernel13Ideal_Reference13Ideal := by
  intro m ρ m' ρ' _ h
  refine ⟨fun c => tableA Ideal.cos 1 (m ((c.tc : Thread nD τ).loc main_arg0)),
    fun c => tableA Ideal.sin 0 (m ((c.tc : Thread nD τ).loc main_arg0)),
    fun c => tableR Ideal.cos (m ((c.tc : Thread nD τ).loc main_arg0)),
    fun c => tableR Ideal.sin (m ((c.tc : Thread nD τ).loc main_arg0)), ?_, ?_⟩
  · exact (θ_run _ _ _).mono (fun r hr c => ⟨(hr c).1.trans (array5 m c), (hr c).2.1.trans (array6 m c),
      (hr c).2.2.1.trans (array7 m c), (hr c).2.2.2.1.trans (array8 m c), (hr c).2.2.2.2⟩) (run_blocks m ρ)
  · refine (θ_run _ _ _).mono (fun r hr c => ?_) (Cert.TablesRef.run m' ρ')
    have := hr c
    rw [h c] at this ⊢
    exact this

end Cert.Tables

end
-- ==== Proof.lean ====
/- The proof of the claims of this directory. -/
module

public import proofs.«01_k».proof.Defs
public import proofs.«01_k».proof.Proof.Gen.Kernel
public import proofs.«01_k».proof.Proof.DsaFrame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Mlp
public import proofs.«01_k».proof.Proof.Merge
public import proofs.«01_k».proof.Proof.Proj
public import proofs.«01_k».proof.Proof.MlpMid
public import proofs.«01_k».proof.Proof.ProjPool
public import proofs.«01_k».proof.Proof.ProjRet
public import proofs.«01_k».proof.Proof.ProjRwkv
public import proofs.«01_k».proof.Proof.ProjAttn
public import proofs.«01_k».proof.Proof.Pool
public import proofs.«01_k».proof.Proof.Retention
public import proofs.«01_k».proof.Proof.Tables

@[expose] public section

noncomputable section

namespace Cert.Proof

theorem claim : Cert.Claim :=
  ⟨Cert.Kernel.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel13.Gen.facts, Cert.Kernel13Ideal.Gen.facts, Cert.Reference13Ideal.Gen.facts, Cert.Retention.facts_finite,
    fun m ρ _ => Cert.Dsa.frame m ρ,
    fun m ρ _ => Cert.Kernel2.Gen.frame m ρ, fun m ρ _ => Cert.Kernel2Ideal.Gen.frame m ρ, Cert.Mlp.frame_reference,
    fun m ρ _ => Cert.Kernel3.Gen.frame m ρ, fun m ρ _ => Cert.Kernel3Ideal.Gen.frame m ρ, Cert.Merge.frame_reference,
    fun m ρ _ => Cert.Kernel4.Gen.frame m ρ, fun m ρ _ => Cert.Kernel4Ideal.Gen.frame m ρ, Cert.Proj.frame_reference,
    fun m ρ _ => Cert.Kernel5.Gen.frame m ρ, fun m ρ _ => Cert.Kernel5Ideal.Gen.frame m ρ, Cert.MlpMid.frame_reference,
    fun m ρ _ => Cert.Kernel6.Gen.frame m ρ, fun m ρ _ => Cert.Kernel6Ideal.Gen.frame m ρ, Cert.ProjPool.frame_reference,
    fun m ρ _ => Cert.Kernel7.Gen.frame m ρ, fun m ρ _ => Cert.Kernel7Ideal.Gen.frame m ρ, Cert.ProjRet.frame_reference,
    fun m ρ _ => Cert.Kernel8.Gen.frame m ρ, fun m ρ _ => Cert.Kernel8Ideal.Gen.frame m ρ, Cert.ProjRwkv.frame_reference,
    fun m ρ _ => Cert.Kernel9.Gen.frame m ρ, fun m ρ _ => Cert.Kernel9Ideal.Gen.frame m ρ, Cert.ProjAttn.frame_reference,
    fun m ρ _ => Cert.Kernel10.Gen.frame m ρ, fun m ρ _ => Cert.Kernel10Ideal.Gen.frame m ρ, Cert.Pool.frame_reference,
    fun m ρ _ => Cert.Kernel11.Gen.frame m ρ, fun m ρ _ => Cert.Kernel11Ideal.Gen.frame m ρ, fun m ρ _ => Cert.Kernel11Ideal.Gen.frame m ρ,
    Cert.Retention.frame_reference, fun m ρ _ => Cert.Retention.frame_reference m ρ True.intro,
    fun m ρ _ => Cert.Kernel13.Gen.frame m ρ, fun m ρ _ => Cert.Kernel13Ideal.Gen.frame m ρ, Cert.Tables.frame_reference,
    trivial, Cert.Mlp.algebraic,
    trivial, Cert.Merge.algebraic,
    trivial, Cert.Proj.algebraic,
    trivial, Cert.MlpMid.algebraic,
    trivial, Cert.ProjPool.algebraic,
    trivial, Cert.ProjRet.algebraic,
    trivial, Cert.ProjRwkv.algebraic,
    trivial, Cert.ProjAttn.algebraic,
    trivial, Cert.Pool.algebraic,
    Cert.Retention.preserves, Cert.Retention.algebraic,
    trivial, Cert.Tables.algebraic⟩

end Cert.Proof

end
